-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v146) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_in_range : Cert.Pre_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_in_range.lean ====
abbrev S40960x2048 : Shape := ⟨2, ![40960, 2048]⟩
abbrev S1x2048 : Shape := ⟨2, ![1, 2048]⟩
abbrev S8x2048x7168 : Shape := ⟨3, ![8, 2048, 7168]⟩
abbrev S8x7168x2048 : Shape := ⟨3, ![8, 7168, 2048]⟩
abbrev S40 : Shape := ⟨1, ![40]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S40960x2048 .f32) (main_arg1 : FVec F S1x2048 .f32) (main_arg2 : FVec F S8x2048x7168 .f32) (main_arg3 : FVec F S8x2048x7168 .f32) (main_arg4 : FVec F S8x7168x2048 .f32) (main_arg5 : IVec S40 32) (main_arg6 : IVec S40 32) : IVec S40 1 :=
  let main_c : IVec S_ 32 := constantI S_ 32 0#32
  let main_v0 : IVec S40 32 := broadcastInDim S40 ![] bcast_S_S40 main_c
  let main_v1 : IVec S40 1 := cmpi .sge main_arg5 main_v0
  let main_c_0 : IVec S_ 32 := constantI S_ 32 8#32
  let main_v2 : IVec S40 32 := broadcastInDim S40 ![] bcast_S_S40 main_c_0
  let main_v3 : IVec S40 1 := cmpi .slt main_arg5 main_v2
  let main_v4 : IVec S40 1 := andi main_v1 main_v3
  main_v4
-- ==== Kernel.lean ====
abbrev S8x128x16384 : Shape := ⟨3, ![8, 128, 16384]⟩
abbrev S2x16384x128 : Shape := ⟨3, ![2, 16384, 128]⟩
abbrev S2x128x16384 : Shape := ⟨3, ![2, 128, 16384]⟩
abbrev S16384x1024 : Shape := ⟨2, ![16384, 1024]⟩
abbrev S4x128x128 : Shape := ⟨3, ![4, 128, 128]⟩
abbrev S1x16384x128 : Shape := ⟨3, ![1, 16384, 128]⟩
abbrev S1x128x16384 : Shape := ⟨3, ![1, 128, 16384]⟩
abbrev S128x512 : Shape := ⟨2, ![128, 512]⟩
abbrev S640x512 : Shape := ⟨2, ![640, 512]⟩
abbrev S1x128x128 : Shape := ⟨3, ![1, 128, 128]⟩
abbrev S128x128 : Shape := ⟨2, ![128, 128]⟩
abbrev S1x640x128 : Shape := ⟨3, ![1, 640, 128]⟩
abbrev S640x128 : Shape := ⟨2, ![640, 128]⟩
abbrev S1x512 : Shape := ⟨2, ![1, 512]⟩
abbrev S8x1 : Shape := ⟨2, ![8, 1]⟩
abbrev S8x512 : Shape := ⟨2, ![8, 512]⟩
abbrev S512 : Shape := ⟨1, ![512]⟩
abbrev S16x512 : Shape := ⟨2, ![16, 512]⟩
abbrev S1x128x640 : Shape := ⟨3, ![1, 128, 640]⟩
abbrev S128x640 : Shape := ⟨2, ![128, 640]⟩

abbrev nBuf : Space → Nat
  | .hbm => 4
  | .vmem => 11
  | .smem => 0
  | _ => 0

abbrev bufTy : (tb : Table) → Fin (tcTables nBuf tb) → BufTy
  | .hbm, ⟨0, _⟩ => ⟨S8x128x16384, .bf16⟩
  | .hbm, ⟨1, _⟩ => ⟨S2x16384x128, .bf16⟩
  | .hbm, ⟨2, _⟩ => ⟨S2x128x16384, .bf16⟩
  | .hbm, ⟨3, _⟩ => ⟨S16384x1024, .f32⟩
  | .local _ .vmem, ⟨0, _⟩ => ⟨S4x128x128, .bf16⟩
  | .local _ .vmem, ⟨1, _⟩ => ⟨S4x128x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x128x16384, .bf16⟩
  | .local _ .vmem, ⟨5, _⟩ => ⟨S1x128x16384, .bf16⟩
  | .local _ .vmem, ⟨6, _⟩ => ⟨S128x512, .f32⟩
  | .local _ .vmem, ⟨7, _⟩ => ⟨S128x512, .f32⟩
  | .local _ .vmem, ⟨8, _⟩ => ⟨S128x512, .bf16⟩
  | .local _ .vmem, ⟨9, _⟩ => ⟨S640x512, .f32⟩
  | .local _ .vmem, ⟨10, _⟩ => ⟨S640x512, .bf16⟩
  | _, _ => ⟨S8x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c640_i32 : BitVec 32 := 640#32
  let v2 : BitVec 32 := Scalar.subi v1 c640_i32
  let c0_i32 : BitVec 32 := 0#32
  let v3 : BitVec 32 := Scalar.maxsi v2 c0_i32
  v3
def k0_off1 (i : grid0.Coords) : Fin 3 → Nat :=
  let c0_14 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c640_i32 : BitVec 32 := 640#32
  let v2 : BitVec 32 := Scalar.subi v1 c640_i32
  let c0_i32 : BitVec 32 := 0#32
  let v3 : BitVec 32 := Scalar.maxsi v2 c0_i32
  let v4 : BitVec 32 := v3
  let v25 : Index := Scalar.indexCast v4
  let c0_15 : Index := 0#32
  ![0, v25.toNat, 0]
def k0_cond1 (i : grid0.Coords) : BitVec 1 :=
  let arg1 : BitVec 32 := BitVec.ofNat 32 (i 1).val
  let c128_i32 : BitVec 32 := 128#32
  let v0 : BitVec 32 := Scalar.muli arg1 c128_i32
  let c128_i32_20 : BitVec 32 := 128#32
  let v38 : BitVec 32 := Scalar.addi v0 c128_i32_20
  let c640_i32_21 : BitVec 32 := 640#32
  let v39 : BitVec 32 := Scalar.subi v38 c640_i32_21
  let c0_i32_22 : BitVec 32 := 0#32
  let v40 : BitVec 1 := Scalar.cmpi .sge v39 c0_i32_22
  let v41 : BitVec 32 := Scalar.extui v40
  let c0_i32_23 : BitVec 32 := 0#32
  let v42 : BitVec 1 := Scalar.cmpi .ne v41 c0_i32_23
  v42

def k0_off2 (i : grid0.Coords) : Fin 3 → Nat :=
  let c0_577 : Index := 0#32
  let c0_578 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c640_i32 : BitVec 32 := 640#32
  let v2 : BitVec 32 := Scalar.subi v1 c640_i32
  let c0_i32 : BitVec 32 := 0#32
  let v3 : BitVec 32 := Scalar.maxsi v2 c0_i32
  let v4 : BitVec 32 := v3
  let v1308 : Index := Scalar.indexCast v4
  ![0, 0, v1308.toNat]
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_20 : BitVec 32 := 128#32
  let v38 : BitVec 32 := Scalar.addi v0 c128_i32_20
  let c640_i32_21 : BitVec 32 := 640#32
  let v39 : BitVec 32 := Scalar.subi v38 c640_i32_21
  let c0_i32_22 : BitVec 32 := 0#32
  let v40 : BitVec 1 := Scalar.cmpi .sge v39 c0_i32_22
  let v_true : BitVec 1 := 1#1
  let v43 : BitVec 1 := Scalar.xori v40 v_true
  let v44 : BitVec 32 := Scalar.extui v43
  let c0_i32_24 : BitVec 32 := 0#32
  let v45 : BitVec 1 := Scalar.cmpi .ne v44 c0_i32_24
  v45

def k0_off3 (i : grid0.Coords) : Fin 3 → Nat :=
  let c0_914 : Index := 0#32
  let c0_915 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c640_i32 : BitVec 32 := 640#32
  let v2 : BitVec 32 := Scalar.subi v1 c640_i32
  let c0_i32 : BitVec 32 := 0#32
  let v3 : BitVec 32 := Scalar.maxsi v2 c0_i32
  let v4 : BitVec 32 := v3
  let v2172 : Index := Scalar.indexCast v4
  ![0, 0, v2172.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x128x16384 : Shape := ⟨3, ![8, 128, 16384]⟩
abbrev S2x16384x128 : Shape := ⟨3, ![2, 16384, 128]⟩
abbrev S2x128x16384 : Shape := ⟨3, ![2, 128, 16384]⟩
abbrev S2x4x128x16384 : Shape := ⟨4, ![2, 4, 128, 16384]⟩
abbrev S2x4x16384x16384 : Shape := ⟨4, ![2, 4, 16384, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x4x16384 : Shape := ⟨3, ![2, 4, 16384]⟩
abbrev S2x4x16384x1 : Shape := ⟨4, ![2, 4, 16384, 1]⟩
abbrev S2x128x4x16384 : Shape := ⟨4, ![2, 128, 4, 16384]⟩
abbrev S16384x2x4x128 : Shape := ⟨4, ![16384, 2, 4, 128]⟩
abbrev S16384x1024 : Shape := ⟨2, ![16384, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x128x16384, .bf16⟩
  | .hbm, ⟨1, _⟩ => ⟨S2x16384x128, .bf16⟩
  | .hbm, ⟨2, _⟩ => ⟨S2x128x16384, .bf16⟩
  | .hbm, ⟨3, _⟩ => ⟨S8x128x16384, .f32⟩
  | .hbm, ⟨4, _⟩ => ⟨S2x4x128x16384, .f32⟩
  | .hbm, ⟨5, _⟩ => ⟨S2x16384x128, .f32⟩
  | .hbm, ⟨6, _⟩ => ⟨S2x128x16384, .f32⟩
  | .hbm, ⟨7, _⟩ => ⟨S2x4x16384x16384, .f32⟩
  | .hbm, ⟨8, _⟩ => ⟨S_, .f32⟩
  | .hbm, ⟨9, _⟩ => ⟨S_, .f32⟩
  | .hbm, ⟨10, _⟩ => ⟨S2x4x16384x16384, .f32⟩
  | .hbm, ⟨11, _⟩ => ⟨S2x4x16384x16384, .f32⟩
  | .hbm, ⟨12, _⟩ => ⟨S16384, .i32⟩
  | .hbm, ⟨13, _⟩ => ⟨S16384x1, .i32⟩
  | .hbm, ⟨14, _⟩ => ⟨S1x16384, .i32⟩
  | .hbm, ⟨15, _⟩ => ⟨S16384x16384, .i32⟩
  | .hbm, ⟨16, _⟩ => ⟨S16384x16384, .i32⟩
  | .hbm, ⟨17, _⟩ => ⟨S16384x16384, .i32⟩
  | .hbm, ⟨18, _⟩ => ⟨S_, .i32⟩
  | .hbm, ⟨19, _⟩ => ⟨S16384x16384, .i32⟩
  | .hbm, ⟨20, _⟩ => ⟨S16384x16384, .i1⟩
  | .hbm, ⟨21, _⟩ => ⟨S_, .i32⟩
  | .hbm, ⟨22, _⟩ => ⟨S16384x16384, .i32⟩
  | .hbm, ⟨23, _⟩ => ⟨S16384x16384, .i1⟩
  | .hbm, ⟨24, _⟩ => ⟨S16384x16384, .i1⟩
  | .hbm, ⟨25, _⟩ => ⟨S_, .f32⟩
  | .hbm, ⟨26, _⟩ => ⟨S_, .f32⟩
  | .hbm, ⟨27, _⟩ => ⟨S2x4x16384x16384, .i1⟩
  | .hbm, ⟨28, _⟩ => ⟨S2x4x16384x16384, .f32⟩
  | .hbm, ⟨29, _⟩ => ⟨S2x4x16384x16384, .f32⟩
  | .hbm, ⟨30, _⟩ => ⟨S_, .f32⟩
  | .hbm, ⟨31, _⟩ => ⟨S2x4x16384, .f32⟩
  | .hbm, ⟨32, _⟩ => ⟨S2x4x16384x1, .f32⟩
  | .hbm, ⟨33, _⟩ => ⟨S_, .f32⟩
  | .hbm, ⟨34, _⟩ => ⟨S2x4x16384x1, .f32⟩
  | .hbm, ⟨35, _⟩ => ⟨S2x4x16384x1, .i1⟩
  | .hbm, ⟨36, _⟩ => ⟨S_, .f32⟩
  | .hbm, ⟨37, _⟩ => ⟨S_, .f32⟩
  | .hbm, ⟨38, _⟩ => ⟨S2x4x16384x1, .f32⟩
  | .hbm, ⟨39, _⟩ => ⟨S2x4x16384x1, .f32⟩
  | .hbm, ⟨40, _⟩ => ⟨S2x4x16384x16384, .f32⟩
  | .hbm, ⟨41, _⟩ => ⟨S2x4x16384x16384, .f32⟩
  | .hbm, ⟨42, _⟩ => ⟨S2x4x16384x16384, .f32⟩
  | .hbm, ⟨43, _⟩ => ⟨S_, .f32⟩
  | .hbm, ⟨44, _⟩ => ⟨S2x4x16384, .f32⟩
  | .hbm, ⟨45, _⟩ => ⟨S2x4x16384x1, .f32⟩
  | .hbm, ⟨46, _⟩ => ⟨S_, .f32⟩
  | .hbm, ⟨47, _⟩ => ⟨S2x4x16384x1, .f32⟩
  | .hbm, ⟨48, _⟩ => ⟨S2x4x16384x1, .f32⟩
  | .hbm, ⟨49, _⟩ => ⟨S2x4x16384x16384, .f32⟩
  | .hbm, ⟨50, _⟩ => ⟨S2x4x16384x16384, .f32⟩
  | .hbm, ⟨51, _⟩ => ⟨S2x128x4x16384, .f32⟩
  | .hbm, ⟨52, _⟩ => ⟨S16384x2x4x128, .f32⟩
  | .hbm, ⟨53, _⟩ => ⟨S16384x1024, .f32⟩
  | _, _ => ⟨S8x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Kernel2.lean ====
abbrev S40960x2048 : Shape := ⟨2, ![40960, 2048]⟩
abbrev S1x2048 : Shape := ⟨2, ![1, 2048]⟩
abbrev S8x2048x7168 : Shape := ⟨3, ![8, 2048, 7168]⟩
abbrev S8x7168x2048 : Shape := ⟨3, ![8, 7168, 2048]⟩
abbrev S40 : Shape := ⟨1, ![40]⟩
abbrev S1024x2048 : Shape := ⟨2, ![1024, 2048]⟩
abbrev S1x2048x256 : Shape := ⟨3, ![1, 2048, 256]⟩
abbrev S1 : Shape := ⟨1, ![1]⟩
abbrev S1x256x2048 : Shape := ⟨3, ![1, 256, 2048]⟩
abbrev S2048x256 : Shape := ⟨2, ![2048, 256]⟩
abbrev S256x2048 : Shape := ⟨2, ![256, 2048]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩

abbrev nBuf : Space → Nat
  | .hbm => 6
  | .vmem => 12
  | .smem => 2
  | _ => 0

abbrev bufTy : (tb : Table) → Fin (tcTables nBuf tb) → BufTy
  | .hbm, ⟨0, _⟩ => ⟨S40960x2048, .f32⟩
  | .hbm, ⟨1, _⟩ => ⟨S1x2048, .f32⟩
  | .hbm, ⟨2, _⟩ => ⟨S8x2048x7168, .f32⟩
  | .hbm, ⟨3, _⟩ => ⟨S8x2048x7168, .f32⟩
  | .hbm, ⟨4, _⟩ => ⟨S8x7168x2048, .f32⟩
  | .hbm, ⟨5, _⟩ => ⟨S40960x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | .local _ .smem, ⟨0, _⟩ => ⟨S40, .i32⟩
  | .local _ .smem, ⟨1, _⟩ => ⟨S40, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![40, 28], ![false, false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let c512_i32 : BitVec 32 := 512#32
  let v2 : BitVec 1 := Scalar.cmpi .sgt v1 c512_i32
  let arg1 : BitVec 32 := BitVec.ofNat 32 (i 1).val
  let c0_i32 : BitVec 32 := 0#32
  let v3 : BitVec 1 := Scalar.cmpi .eq arg1 c0_i32
  let v4 : BitVec 1 := Scalar.andi v2 v3
  let v5 : BitVec 32 := Scalar.extui v4
  let c0_i32_0 : BitVec 32 := 0#32
  let v6 : BitVec 1 := Scalar.cmpi .ne v5 c0_i32_0
  v6

def k0_cond2 (i : grid0.Coords) (v1 : BitVec 32) : BitVec 1 :=
  let c512_i32 : BitVec 32 := 512#32
  let v2 : BitVec 1 := Scalar.cmpi .sgt v1 c512_i32
  let arg1 : BitVec 32 := BitVec.ofNat 32 (i 1).val
  let c0_i32_1 : BitVec 32 := 0#32
  let v7 : BitVec 1 := Scalar.cmpi .sgt arg1 c0_i32_1
  let v8 : BitVec 1 := Scalar.andi v2 v7
  let v9 : BitVec 32 := Scalar.extui v8
  let c0_i32_2 : BitVec 32 := 0#32
  let v10 : BitVec 1 := Scalar.cmpi .ne v9 c0_i32_2
  v10

def k0_cond3 (v1 : BitVec 32) : BitVec 1 :=
  let c512_i32 : BitVec 32 := 512#32
  let v2 : BitVec 1 := Scalar.cmpi .sgt v1 c512_i32
  let v_true : BitVec 1 := 1#1
  let v11 : BitVec 1 := Scalar.xori v2 v_true
  let v12 : BitVec 32 := Scalar.extui v11
  let c0_i32_3 : BitVec 32 := 0#32
  let v13 : BitVec 1 := Scalar.cmpi .ne v12 c0_i32_3
  v13

def k0_cond4 (i : grid0.Coords) (v1 : BitVec 32) : BitVec 1 :=
  let c0_i32_12 : BitVec 32 := 0#32
  let v23 : BitVec 1 := Scalar.cmpi .sgt v1 c0_i32_12
  let arg1 : BitVec 32 := BitVec.ofNat 32 (i 1).val
  let c0_i32_13 : BitVec 32 := 0#32
  let v24 : BitVec 1 := Scalar.cmpi .eq arg1 c0_i32_13
  let v25 : BitVec 1 := Scalar.andi v23 v24
  let v26 : BitVec 32 := Scalar.extui v25
  let c0_i32_14 : BitVec 32 := 0#32
  let v27 : BitVec 1 := Scalar.cmpi .ne v26 c0_i32_14
  v27

def k0_cond5 (i : grid0.Coords) (v1 : BitVec 32) : BitVec 1 :=
  let c0_i32_15 : BitVec 32 := 0#32
  let v28 : BitVec 1 := Scalar.cmpi .sgt v1 c0_i32_15
  let arg1 : BitVec 32 := BitVec.ofNat 32 (i 1).val
  let c0_i32_16 : BitVec 32 := 0#32
  let v29 : BitVec 1 := Scalar.cmpi .sgt arg1 c0_i32_16
  let v30 : BitVec 1 := Scalar.andi v28 v29
  let v31 : BitVec 32 := Scalar.extui v30
  let c0_i32_17 : BitVec 32 := 0#32
  let v32 : BitVec 1 := Scalar.cmpi .ne v31 c0_i32_17
  v32

def k0_cond6 (i : grid0.Coords) (v1 : BitVec 32) : BitVec 1 :=
  let c0_i32_18 : BitVec 32 := 0#32
  let v33 : BitVec 1 := Scalar.cmpi .sle v1 c0_i32_18
  let arg1 : BitVec 32 := BitVec.ofNat 32 (i 1).val
  let c0_i32_19 : BitVec 32 := 0#32
  let v34 : BitVec 1 := Scalar.cmpi .eq arg1 c0_i32_19
  let v35 : BitVec 1 := Scalar.andi v33 v34
  let v36 : BitVec 32 := Scalar.extui v35
  let c0_i32_20 : BitVec 32 := 0#32
  let v37 : BitVec 1 := Scalar.cmpi .ne v36 c0_i32_20
  v37

def k0_cond7 (i : grid0.Coords) (v1 : BitVec 32) : BitVec 1 :=
  let c512_i32_21 : BitVec 32 := 512#32
  let v38 : BitVec 1 := Scalar.cmpi .sgt v1 c512_i32_21
  let arg1 : BitVec 32 := BitVec.ofNat 32 (i 1).val
  let c0_i32_22 : BitVec 32 := 0#32
  let v39 : BitVec 1 := Scalar.cmpi .eq arg1 c0_i32_22
  let v40 : BitVec 1 := Scalar.andi v38 v39
  let v41 : BitVec 32 := Scalar.extui v40
  let c0_i32_23 : BitVec 32 := 0#32
  let v42 : BitVec 1 := Scalar.cmpi .ne v41 c0_i32_23
  v42

def k0_cond8 (i : grid0.Coords) (v1 : BitVec 32) : BitVec 1 :=
  let c512_i32_24 : BitVec 32 := 512#32
  let v43 : BitVec 1 := Scalar.cmpi .sgt v1 c512_i32_24
  let arg1 : BitVec 32 := BitVec.ofNat 32 (i 1).val
  let c0_i32_25 : BitVec 32 := 0#32
  let v44 : BitVec 1 := Scalar.cmpi .sgt arg1 c0_i32_25
  let v45 : BitVec 1 := Scalar.andi v43 v44
  let v46 : BitVec 32 := Scalar.extui v45
  let c0_i32_26 : BitVec 32 := 0#32
  let v47 : BitVec 1 := Scalar.cmpi .ne v46 c0_i32_26
  v47

def k0_cond9 (i : grid0.Coords) (v1 : BitVec 32) : BitVec 1 :=
  let c512_i32_27 : BitVec 32 := 512#32
  let v48 : BitVec 1 := Scalar.cmpi .sle v1 c512_i32_27
  let arg1 : BitVec 32 := BitVec.ofNat 32 (i 1).val
  let c0_i32_28 : BitVec 32 := 0#32
  let v49 : BitVec 1 := Scalar.cmpi .eq arg1 c0_i32_28
  let v50 : BitVec 1 := Scalar.andi v48 v49
  let v51 : BitVec 32 := Scalar.extui v50
  let c0_i32_29 : BitVec 32 := 0#32
  let v52 : BitVec 1 := Scalar.cmpi .ne v51 c0_i32_29
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, c0_i32_0.toNat, v5.toNat]

def cc0_transform_4 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S40960x2048 : Shape := ⟨2, ![40960, 2048]⟩
abbrev S1x2048 : Shape := ⟨2, ![1, 2048]⟩
abbrev S8x2048x7168 : Shape := ⟨3, ![8, 2048, 7168]⟩
abbrev S8x7168x2048 : Shape := ⟨3, ![8, 7168, 2048]⟩
abbrev S40 : Shape := ⟨1, ![40]⟩
abbrev S_ : Shape := ⟨0, ![]⟩
abbrev S40960 : Shape := ⟨1, ![40960]⟩
abbrev S40960x1 : Shape := ⟨2, ![40960, 1]⟩
abbrev S1 : Shape := ⟨1, ![1]⟩
abbrev S1x1 : Shape := ⟨2, ![1, 1]⟩
abbrev S1x8 : Shape := ⟨2, ![1, 8]⟩
abbrev S40960x8 : Shape := ⟨2, ![40960, 8]⟩
abbrev S1x2048x7168 : Shape := ⟨3, ![1, 2048, 7168]⟩
abbrev S2048x7168 : Shape := ⟨2, ![2048, 7168]⟩
abbrev S40960x7168 : Shape := ⟨2, ![40960, 7168]⟩
abbrev S1x7168x2048 : Shape := ⟨3, ![1, 7168, 2048]⟩
abbrev S7168x2048 : Shape := ⟨2, ![7168, 2048]⟩

abbrev nBuf : Space → Nat
  | .hbm => 325
  | .vmem => 0
  | .smem => 0
  | _ => 0

abbrev hbmTy0_0 (i : Nat) : BufTy := match i % 128 with
  | 0 => ⟨S40960x2048, .f32⟩
  | 1 => ⟨S1x2048, .f32⟩
  | 2 => ⟨S8x2048x7168, .f32⟩
  | 3 => ⟨S8x2048x7168, .f32⟩
  | 4 => ⟨S8x7168x2048, .f32⟩
  | 5 => ⟨S40, .i32⟩
  | 6 => ⟨S40, .i32⟩
  | 7 => ⟨S40960x2048, .f32⟩
  | 8 => ⟨S_, .f32⟩
  | 9 => ⟨S40960, .f32⟩
  | 10 => ⟨S40960x1, .f32⟩
  | 11 => ⟨S_, .f32⟩
  | 12 => ⟨S40960x1, .f32⟩
  | 13 => ⟨S40960x1, .f32⟩
  | 14 => ⟨S_, .f32⟩
  | 15 => ⟨S40960x1, .f32⟩
  | 16 => ⟨S40960x1, .f32⟩
  | 17 => ⟨S40960x1, .f32⟩
  | 18 => ⟨S40960x2048, .f32⟩
  | 19 => ⟨S40960x2048, .f32⟩
  | 20 => ⟨S40960x2048, .f32⟩
  | 21 => ⟨S40960x2048, .f32⟩
  | 22 => ⟨S40960, .i32⟩
  | 23 => ⟨S_, .i32⟩
  | 24 => ⟨S_, .i32⟩
  | 25 => ⟨S40960, .i32⟩
  | 26 => ⟨S40960, .i32⟩
  | 27 => ⟨S40960, .i32⟩
  | 28 => ⟨S_, .i32⟩
  | 29 => ⟨S40960, .i32⟩
  | 30 => ⟨S40960, .i1⟩
  | 31 => ⟨S40960, .i32⟩
  | 32 => ⟨S40960, .i32⟩
  | 33 => ⟨S_, .i32⟩
  | 34 => ⟨S40960, .i32⟩
  | 35 => ⟨S40960, .i1⟩
  | 36 => ⟨S40960, .i1⟩
  | 37 => ⟨S_, .i32⟩
  | 38 => ⟨S40960, .i32⟩
  | 39 => ⟨S40960, .i32⟩
  | 40 => ⟨S40960, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S40960, .i32⟩
  | 48 => ⟨S40960, .i32⟩
  | 49 => ⟨S_, .i32⟩
  | 50 => ⟨S40960, .i32⟩
  | 51 => ⟨S40960, .i1⟩
  | 52 => ⟨S_, .i32⟩
  | 53 => ⟨S40960, .i32⟩
  | 54 => ⟨S40960, .i1⟩
  | 55 => ⟨S_, .i32⟩
  | 56 => ⟨S_, .i1⟩
  | 57 => ⟨S40960, .i1⟩
  | 58 => ⟨S40960, .i1⟩
  | 59 => ⟨S40960, .i1⟩
  | 60 => ⟨S40960, .i32⟩
  | 61 => ⟨S40960, .i32⟩
  | 62 => ⟨S40960, .i32⟩
  | 63 => ⟨S_, .i32⟩
  | 64 => ⟨S_, .i32⟩
  | 65 => ⟨S40960, .i32⟩
  | 66 => ⟨S40960, .i32⟩
  | 67 => ⟨S40960, .i32⟩
  | 68 => ⟨S_, .i32⟩
  | 69 => ⟨S40960, .i32⟩
  | 70 => ⟨S40960, .i1⟩
  | 71 => ⟨S40960, .i32⟩
  | 72 => ⟨S40960, .i32⟩
  | 73 => ⟨S_, .i32⟩
  | 74 => ⟨S40960, .i32⟩
  | 75 => ⟨S40960, .i1⟩
  | 76 => ⟨S40960, .i1⟩
  | 77 => ⟨S_, .i32⟩
  | 78 => ⟨S40960, .i32⟩
  | 79 => ⟨S40960, .i32⟩
  | 80 => ⟨S40960, .i32⟩
  | 81 => ⟨S_, .i32⟩
  | 82 => ⟨S40960, .i32⟩
  | 83 => ⟨S40960, .i32⟩
  | 84 => ⟨S_, .i32⟩
  | 85 => ⟨S40960, .i32⟩
  | 86 => ⟨S40960, .i1⟩
  | 87 => ⟨S_, .i32⟩
  | 88 => ⟨S40960, .i32⟩
  | 89 => ⟨S40960, .i32⟩
  | 90 => ⟨S40960, .i32⟩
  | 91 => ⟨S40960x1, .i32⟩
  | 92 => ⟨S1, .i32⟩
  | 93 => ⟨S_, .i32⟩
  | 94 => ⟨S40960x1, .i32⟩
  | 95 => ⟨S40960x1, .i1⟩
  | 96 => ⟨S1x1, .i32⟩
  | 97 => ⟨S40960x1, .i32⟩
  | 98 => ⟨S40960x1, .i1⟩
  | 99 => ⟨S40960x1, .i1⟩
  | 100 => ⟨S_, .i1⟩
  | 101 => ⟨S40960, .i1⟩
  | 102 => ⟨S40960, .i32⟩
  | 103 => ⟨S_, .i32⟩
  | 104 => ⟨S40960, .i32⟩
  | 105 => ⟨S40960, .i32⟩
  | 106 => ⟨S40960, .i1⟩
  | 107 => ⟨S_, .i32⟩
  | 108 => ⟨S40960, .i32⟩
  | 109 => ⟨S40960, .i1⟩
  | 110 => ⟨S_, .i32⟩
  | 111 => ⟨S40960, .i32⟩
  | 112 => ⟨S40960, .i32⟩
  | 113 => ⟨S40960, .i32⟩
  | 114 => ⟨S40960x1, .i32⟩
  | 115 => ⟨S1, .i32⟩
  | 116 => ⟨S_, .i32⟩
  | 117 => ⟨S40960x1, .i32⟩
  | 118 => ⟨S40960x1, .i1⟩
  | 119 => ⟨S1x1, .i32⟩
  | 120 => ⟨S40960x1, .i32⟩
  | 121 => ⟨S40960x1, .i1⟩
  | 122 => ⟨S40960x1, .i1⟩
  | 123 => ⟨S_, .i1⟩
  | 124 => ⟨S40960, .i1⟩
  | 125 => ⟨S40960, .i32⟩
  | 126 => ⟨S_, .i32⟩
  | 127 => ⟨S40960, .i32⟩
  | _ => ⟨S40960x2048, .f32⟩

abbrev hbmTy0_1 (i : Nat) : BufTy := match i % 128 with
  | 0 => ⟨S40960, .i32⟩
  | 1 => ⟨S40960x1, .i32⟩
  | 2 => ⟨S1x8, .i32⟩
  | 3 => ⟨S40960x8, .i32⟩
  | 4 => ⟨S40960x8, .i32⟩
  | 5 => ⟨S40960x8, .i1⟩
  | 6 => ⟨S40960x8, .f32⟩
  | 7 => ⟨S40960x1, .i1⟩
  | 8 => ⟨S40960x1, .f32⟩
  | 9 => ⟨S40960x8, .f32⟩
  | 10 => ⟨S40960x8, .f32⟩
  | 11 => ⟨S_, .f32⟩
  | 12 => ⟨S40960x2048, .f32⟩
  | 13 => ⟨S1x2048x7168, .f32⟩
  | 14 => ⟨S2048x7168, .f32⟩
  | 15 => ⟨S40960x7168, .f32⟩
  | 16 => ⟨S40960x7168, .f32⟩
  | 17 => ⟨S40960x7168, .f32⟩
  | 18 => ⟨S_, .f32⟩
  | 19 => ⟨S40960x7168, .f32⟩
  | 20 => ⟨S40960x7168, .f32⟩
  | 21 => ⟨S_, .f32⟩
  | 22 => ⟨S40960x7168, .f32⟩
  | 23 => ⟨S40960x7168, .f32⟩
  | 24 => ⟨S40960x7168, .f32⟩
  | 25 => ⟨S1x2048x7168, .f32⟩
  | 26 => ⟨S2048x7168, .f32⟩
  | 27 => ⟨S40960x7168, .f32⟩
  | 28 => ⟨S40960x7168, .f32⟩
  | 29 => ⟨S1x7168x2048, .f32⟩
  | 30 => ⟨S7168x2048, .f32⟩
  | 31 => ⟨S40960x2048, .f32⟩
  | 32 => ⟨S40960x1, .f32⟩
  | 33 => ⟨S40960x2048, .f32⟩
  | 34 => ⟨S40960x2048, .f32⟩
  | 35 => ⟨S40960x2048, .f32⟩
  | 36 => ⟨S1x2048x7168, .f32⟩
  | 37 => ⟨S2048x7168, .f32⟩
  | 38 => ⟨S40960x7168, .f32⟩
  | 39 => ⟨S40960x7168, .f32⟩
  | 40 => ⟨S40960x7168, .f32⟩
  | 41 => ⟨S_, .f32⟩
  | 42 => ⟨S40960x7168, .f32⟩
  | 43 => ⟨S40960x7168, .f32⟩
  | 44 => ⟨S_, .f32⟩
  | 45 => ⟨S40960x7168, .f32⟩
  | 46 => ⟨S40960x7168, .f32⟩
  | 47 => ⟨S40960x7168, .f32⟩
  | 48 => ⟨S1x2048x7168, .f32⟩
  | 49 => ⟨S2048x7168, .f32⟩
  | 50 => ⟨S40960x7168, .f32⟩
  | 51 => ⟨S40960x7168, .f32⟩
  | 52 => ⟨S1x7168x2048, .f32⟩
  | 53 => ⟨S7168x2048, .f32⟩
  | 54 => ⟨S40960x2048, .f32⟩
  | 55 => ⟨S40960x1, .f32⟩
  | 56 => ⟨S40960x2048, .f32⟩
  | 57 => ⟨S40960x2048, .f32⟩
  | 58 => ⟨S40960x2048, .f32⟩
  | 59 => ⟨S1x2048x7168, .f32⟩
  | 60 => ⟨S2048x7168, .f32⟩
  | 61 => ⟨S40960x7168, .f32⟩
  | 62 => ⟨S40960x7168, .f32⟩
  | 63 => ⟨S40960x7168, .f32⟩
  | 64 => ⟨S_, .f32⟩
  | 65 => ⟨S40960x7168, .f32⟩
  | 66 => ⟨S40960x7168, .f32⟩
  | 67 => ⟨S_, .f32⟩
  | 68 => ⟨S40960x7168, .f32⟩
  | 69 => ⟨S40960x7168, .f32⟩
  | 70 => ⟨S40960x7168, .f32⟩
  | 71 => ⟨S1x2048x7168, .f32⟩
  | 72 => ⟨S2048x7168, .f32⟩
  | 73 => ⟨S40960x7168, .f32⟩
  | 74 => ⟨S40960x7168, .f32⟩
  | 75 => ⟨S1x7168x2048, .f32⟩
  | 76 => ⟨S7168x2048, .f32⟩
  | 77 => ⟨S40960x2048, .f32⟩
  | 78 => ⟨S40960x1, .f32⟩
  | 79 => ⟨S40960x2048, .f32⟩
  | 80 => ⟨S40960x2048, .f32⟩
  | 81 => ⟨S40960x2048, .f32⟩
  | 82 => ⟨S1x2048x7168, .f32⟩
  | 83 => ⟨S2048x7168, .f32⟩
  | 84 => ⟨S40960x7168, .f32⟩
  | 85 => ⟨S40960x7168, .f32⟩
  | 86 => ⟨S40960x7168, .f32⟩
  | 87 => ⟨S_, .f32⟩
  | 88 => ⟨S40960x7168, .f32⟩
  | 89 => ⟨S40960x7168, .f32⟩
  | 90 => ⟨S_, .f32⟩
  | 91 => ⟨S40960x7168, .f32⟩
  | 92 => ⟨S40960x7168, .f32⟩
  | 93 => ⟨S40960x7168, .f32⟩
  | 94 => ⟨S1x2048x7168, .f32⟩
  | 95 => ⟨S2048x7168, .f32⟩
  | 96 => ⟨S40960x7168, .f32⟩
  | 97 => ⟨S40960x7168, .f32⟩
  | 98 => ⟨S1x7168x2048, .f32⟩
  | 99 => ⟨S7168x2048, .f32⟩
  | 100 => ⟨S40960x2048, .f32⟩
  | 101 => ⟨S40960x1, .f32⟩
  | 102 => ⟨S40960x2048, .f32⟩
  | 103 => ⟨S40960x2048, .f32⟩
  | 104 => ⟨S40960x2048, .f32⟩
  | 105 => ⟨S1x2048x7168, .f32⟩
  | 106 => ⟨S2048x7168, .f32⟩
  | 107 => ⟨S40960x7168, .f32⟩
  | 108 => ⟨S40960x7168, .f32⟩
  | 109 => ⟨S40960x7168, .f32⟩
  | 110 => ⟨S_, .f32⟩
  | 111 => ⟨S40960x7168, .f32⟩
  | 112 => ⟨S40960x7168, .f32⟩
  | 113 => ⟨S_, .f32⟩
  | 114 => ⟨S40960x7168, .f32⟩
  | 115 => ⟨S40960x7168, .f32⟩
  | 116 => ⟨S40960x7168, .f32⟩
  | 117 => ⟨S1x2048x7168, .f32⟩
  | 118 => ⟨S2048x7168, .f32⟩
  | 119 => ⟨S40960x7168, .f32⟩
  | 120 => ⟨S40960x7168, .f32⟩
  | 121 => ⟨S1x7168x2048, .f32⟩
  | 122 => ⟨S7168x2048, .f32⟩
  | 123 => ⟨S40960x2048, .f32⟩
  | 124 => ⟨S40960x1, .f32⟩
  | 125 => ⟨S40960x2048, .f32⟩
  | 126 => ⟨S40960x2048, .f32⟩
  | 127 => ⟨S40960x2048, .f32⟩
  | _ => ⟨S40960x2048, .f32⟩

abbrev hbmTy0_2 (i : Nat) : BufTy := match i % 128 with
  | 0 => ⟨S1x2048x7168, .f32⟩
  | 1 => ⟨S2048x7168, .f32⟩
  | 2 => ⟨S40960x7168, .f32⟩
  | 3 => ⟨S40960x7168, .f32⟩
  | 4 => ⟨S40960x7168, .f32⟩
  | 5 => ⟨S_, .f32⟩
  | 6 => ⟨S40960x7168, .f32⟩
  | 7 => ⟨S40960x7168, .f32⟩
  | 8 => ⟨S_, .f32⟩
  | 9 => ⟨S40960x7168, .f32⟩
  | 10 => ⟨S40960x7168, .f32⟩
  | 11 => ⟨S40960x7168, .f32⟩
  | 12 => ⟨S1x2048x7168, .f32⟩
  | 13 => ⟨S2048x7168, .f32⟩
  | 14 => ⟨S40960x7168, .f32⟩
  | 15 => ⟨S40960x7168, .f32⟩
  | 16 => ⟨S1x7168x2048, .f32⟩
  | 17 => ⟨S7168x2048, .f32⟩
  | 18 => ⟨S40960x2048, .f32⟩
  | 19 => ⟨S40960x1, .f32⟩
  | 20 => ⟨S40960x2048, .f32⟩
  | 21 => ⟨S40960x2048, .f32⟩
  | 22 => ⟨S40960x2048, .f32⟩
  | 23 => ⟨S1x2048x7168, .f32⟩
  | 24 => ⟨S2048x7168, .f32⟩
  | 25 => ⟨S40960x7168, .f32⟩
  | 26 => ⟨S40960x7168, .f32⟩
  | 27 => ⟨S40960x7168, .f32⟩
  | 28 => ⟨S_, .f32⟩
  | 29 => ⟨S40960x7168, .f32⟩
  | 30 => ⟨S40960x7168, .f32⟩
  | 31 => ⟨S_, .f32⟩
  | 32 => ⟨S40960x7168, .f32⟩
  | 33 => ⟨S40960x7168, .f32⟩
  | 34 => ⟨S40960x7168, .f32⟩
  | 35 => ⟨S1x2048x7168, .f32⟩
  | 36 => ⟨S2048x7168, .f32⟩
  | 37 => ⟨S40960x7168, .f32⟩
  | 38 => ⟨S40960x7168, .f32⟩
  | 39 => ⟨S1x7168x2048, .f32⟩
  | 40 => ⟨S7168x2048, .f32⟩
  | 41 => ⟨S40960x2048, .f32⟩
  | 42 => ⟨S40960x1, .f32⟩
  | 43 => ⟨S40960x2048, .f32⟩
  | 44 => ⟨S40960x2048, .f32⟩
  | 45 => ⟨S40960x2048, .f32⟩
  | 46 => ⟨S1x2048x7168, .f32⟩
  | 47 => ⟨S2048x7168, .f32⟩
  | 48 => ⟨S40960x7168, .f32⟩
  | 49 => ⟨S40960x7168, .f32⟩
  | 50 => ⟨S40960x7168, .f32⟩
  | 51 => ⟨S_, .f32⟩
  | 52 => ⟨S40960x7168, .f32⟩
  | 53 => ⟨S40960x7168, .f32⟩
  | 54 => ⟨S_, .f32⟩
  | 55 => ⟨S40960x7168, .f32⟩
  | 56 => ⟨S40960x7168, .f32⟩
  | 57 => ⟨S40960x7168, .f32⟩
  | 58 => ⟨S1x2048x7168, .f32⟩
  | 59 => ⟨S2048x7168, .f32⟩
  | 60 => ⟨S40960x7168, .f32⟩
  | 61 => ⟨S40960x7168, .f32⟩
  | 62 => ⟨S1x7168x2048, .f32⟩
  | 63 => ⟨S7168x2048, .f32⟩
  | 64 => ⟨S40960x2048, .f32⟩
  | 65 => ⟨S40960x1, .f32⟩
  | 66 => ⟨S40960x2048, .f32⟩
  | 67 => ⟨S40960x2048, .f32⟩
  | 68 => ⟨S40960x2048, .f32⟩
  | _ => ⟨S40960x2048, .f32⟩

abbrev hbmTy (i : Nat) : BufTy := match i / 128 with
  | 0 => hbmTy0_0 i
  | 1 => hbmTy0_1 i
  | 2 => hbmTy0_2 i
  | _ => ⟨S40960x2048, .f32⟩

abbrev bufTy : (tb : Table) → Fin (tcTables nBuf tb) → BufTy
  | .hbm, ⟨i, _⟩ => hbmTy i
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v13 : Ref sig .tc := ⟨.hbm, 40, rfl⟩
abbrev main_c_2 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v14 : Ref sig .tc := ⟨.hbm, 62, rfl⟩
abbrev main_c_3 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_c : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_0 : Ref sig .tc := ⟨.hbm, 77, rfl⟩
abbrev main_call2_v12 : Ref sig .tc := ⟨.hbm, 78, rfl⟩
abbrev main_call2_v13 : Ref sig .tc := ⟨.hbm, 79, rfl⟩
abbrev main_v15 : Ref sig .tc := ⟨.hbm, 80, rfl⟩
abbrev main_c_4 : Ref sig .tc := ⟨.hbm, 81, rfl⟩
abbrev main_v16 : Ref sig .tc := ⟨.hbm, 82, rfl⟩
abbrev main_v17 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_c_4 : Ref sig .tc := ⟨.hbm, 103, rfl⟩
abbrev main_call3_v14 : Ref sig .tc := ⟨.hbm, 104, rfl⟩
abbrev main_v18 : Ref sig .tc := ⟨.hbm, 105, rfl⟩
abbrev main_v19 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_c_1 : Ref sig .tc := ⟨.hbm, 115, rfl⟩
abbrev main_call4_c_2 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_3 : Ref sig .tc := ⟨.hbm, 123, rfl⟩
abbrev main_call4_v12 : Ref sig .tc := ⟨.hbm, 124, rfl⟩
abbrev main_call4_v13 : Ref sig .tc := ⟨.hbm, 125, rfl⟩
abbrev main_call4_c_4 : Ref sig .tc := ⟨.hbm, 126, rfl⟩
abbrev main_call4_v14 : Ref sig .tc := ⟨.hbm, 127, rfl⟩
abbrev main_v20 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_cst_5 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_call6_v0 : Ref sig .tc := ⟨.hbm, 144, rfl⟩
abbrev main_call6_v1 : Ref sig .tc := ⟨.hbm, 145, rfl⟩
abbrev main_call6_cst : Ref sig .tc := ⟨.hbm, 146, rfl⟩
abbrev main_call6_v2 : Ref sig .tc := ⟨.hbm, 147, rfl⟩
abbrev main_call6_v3 : Ref sig .tc := ⟨.hbm, 148, rfl⟩
abbrev main_call6_cst_0 : Ref sig .tc := ⟨.hbm, 149, rfl⟩
abbrev main_call6_v4 : Ref sig .tc := ⟨.hbm, 150, rfl⟩
abbrev main_call6_v5 : Ref sig .tc := ⟨.hbm, 151, rfl⟩
abbrev main_v30 : Ref sig .tc := ⟨.hbm, 152, rfl⟩
abbrev main_v31 : Ref sig .tc := ⟨.hbm, 153, rfl⟩
abbrev main_v32 : Ref sig .tc := ⟨.hbm, 154, rfl⟩
abbrev main_v33 : Ref sig .tc := ⟨.hbm, 155, rfl⟩
abbrev main_v34 : Ref sig .tc := ⟨.hbm, 156, rfl⟩
abbrev main_v35 : Ref sig .tc := ⟨.hbm, 157, rfl⟩
abbrev main_v36 : Ref sig .tc := ⟨.hbm, 158, rfl⟩
abbrev main_v37 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_call7_v0 : Ref sig .tc := ⟨.hbm, 167, rfl⟩
abbrev main_call7_v1 : Ref sig .tc := ⟨.hbm, 168, rfl⟩
abbrev main_call7_cst : Ref sig .tc := ⟨.hbm, 169, rfl⟩
abbrev main_call7_v2 : Ref sig .tc := ⟨.hbm, 170, rfl⟩
abbrev main_call7_v3 : Ref sig .tc := ⟨.hbm, 171, rfl⟩
abbrev main_call7_cst_0 : Ref sig .tc := ⟨.hbm, 172, rfl⟩
abbrev main_call7_v4 : Ref sig .tc := ⟨.hbm, 173, rfl⟩
abbrev main_call7_v5 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩
abbrev main_v48 : Ref sig .tc := ⟨.hbm, 178, rfl⟩
abbrev main_v49 : Ref sig .tc := ⟨.hbm, 179, rfl⟩
abbrev main_v50 : Ref sig .tc := ⟨.hbm, 180, rfl⟩
abbrev main_v51 : Ref sig .tc := ⟨.hbm, 181, rfl⟩
abbrev main_v52 : Ref sig .tc := ⟨.hbm, 182, rfl⟩
abbrev main_v53 : Ref sig .tc := ⟨.hbm, 183, rfl⟩
abbrev main_v54 : Ref sig .tc := ⟨.hbm, 184, rfl⟩
abbrev main_v55 : Ref sig .tc := ⟨.hbm, 185, rfl⟩
abbrev main_v56 : Ref sig .tc := ⟨.hbm, 186, rfl⟩
abbrev main_v57 : Ref sig .tc := ⟨.hbm, 187, rfl⟩
abbrev main_v58 : Ref sig .tc := ⟨.hbm, 188, rfl⟩
abbrev main_v59 : Ref sig .tc := ⟨.hbm, 189, rfl⟩
abbrev main_call8_v0 : Ref sig .tc := ⟨.hbm, 190, rfl⟩
abbrev main_call8_v1 : Ref sig .tc := ⟨.hbm, 191, rfl⟩
abbrev main_call8_cst : Ref sig .tc := ⟨.hbm, 192, rfl⟩
abbrev main_call8_v2 : Ref sig .tc := ⟨.hbm, 193, rfl⟩
abbrev main_call8_v3 : Ref sig .tc := ⟨.hbm, 194, rfl⟩
abbrev main_call8_cst_0 : Ref sig .tc := ⟨.hbm, 195, rfl⟩
abbrev main_call8_v4 : Ref sig .tc := ⟨.hbm, 196, rfl⟩
abbrev main_call8_v5 : Ref sig .tc := ⟨.hbm, 197, rfl⟩
abbrev main_v60 : Ref sig .tc := ⟨.hbm, 198, rfl⟩
abbrev main_v61 : Ref sig .tc := ⟨.hbm, 199, rfl⟩
abbrev main_v62 : Ref sig .tc := ⟨.hbm, 200, rfl⟩
abbrev main_v63 : Ref sig .tc := ⟨.hbm, 201, rfl⟩
abbrev main_v64 : Ref sig .tc := ⟨.hbm, 202, rfl⟩
abbrev main_v65 : Ref sig .tc := ⟨.hbm, 203, rfl⟩
abbrev main_v66 : Ref sig .tc := ⟨.hbm, 204, rfl⟩
abbrev main_v67 : Ref sig .tc := ⟨.hbm, 205, rfl⟩
abbrev main_v68 : Ref sig .tc := ⟨.hbm, 206, rfl⟩
abbrev main_v69 : Ref sig .tc := ⟨.hbm, 207, rfl⟩
abbrev main_v70 : Ref sig .tc := ⟨.hbm, 208, rfl⟩
abbrev main_v71 : Ref sig .tc := ⟨.hbm, 209, rfl⟩
abbrev main_v72 : Ref sig .tc := ⟨.hbm, 210, rfl⟩
abbrev main_v73 : Ref sig .tc := ⟨.hbm, 211, rfl⟩
abbrev main_v74 : Ref sig .tc := ⟨.hbm, 212, rfl⟩
abbrev main_call9_v0 : Ref sig .tc := ⟨.hbm, 213, rfl⟩
abbrev main_call9_v1 : Ref sig .tc := ⟨.hbm, 214, rfl⟩
abbrev main_call9_cst : Ref sig .tc := ⟨.hbm, 215, rfl⟩
abbrev main_call9_v2 : Ref sig .tc := ⟨.hbm, 216, rfl⟩
abbrev main_call9_v3 : Ref sig .tc := ⟨.hbm, 217, rfl⟩
abbrev main_call9_cst_0 : Ref sig .tc := ⟨.hbm, 218, rfl⟩
abbrev main_call9_v4 : Ref sig .tc := ⟨.hbm, 219, rfl⟩
abbrev main_call9_v5 : Ref sig .tc := ⟨.hbm, 220, rfl⟩
abbrev main_v75 : Ref sig .tc := ⟨.hbm, 221, rfl⟩
abbrev main_v76 : Ref sig .tc := ⟨.hbm, 222, rfl⟩
abbrev main_v77 : Ref sig .tc := ⟨.hbm, 223, rfl⟩
abbrev main_v78 : Ref sig .tc := ⟨.hbm, 224, rfl⟩
abbrev main_v79 : Ref sig .tc := ⟨.hbm, 225, rfl⟩
abbrev main_v80 : Ref sig .tc := ⟨.hbm, 226, rfl⟩
abbrev main_v81 : Ref sig .tc := ⟨.hbm, 227, rfl⟩
abbrev main_v82 : Ref sig .tc := ⟨.hbm, 228, rfl⟩
abbrev main_v83 : Ref sig .tc := ⟨.hbm, 229, rfl⟩
abbrev main_v84 : Ref sig .tc := ⟨.hbm, 230, rfl⟩
abbrev main_v85 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_call10_v0 : Ref sig .tc := ⟨.hbm, 236, rfl⟩
abbrev main_call10_v1 : Ref sig .tc := ⟨.hbm, 237, rfl⟩
abbrev main_call10_cst : Ref sig .tc := ⟨.hbm, 238, rfl⟩
abbrev main_call10_v2 : Ref sig .tc := ⟨.hbm, 239, rfl⟩
abbrev main_call10_v3 : Ref sig .tc := ⟨.hbm, 240, rfl⟩
abbrev main_call10_cst_0 : Ref sig .tc := ⟨.hbm, 241, rfl⟩
abbrev main_call10_v4 : Ref sig .tc := ⟨.hbm, 242, rfl⟩
abbrev main_call10_v5 : Ref sig .tc := ⟨.hbm, 243, rfl⟩
abbrev main_v90 : Ref sig .tc := ⟨.hbm, 244, rfl⟩
abbrev main_v91 : Ref sig .tc := ⟨.hbm, 245, rfl⟩
abbrev main_v92 : Ref sig .tc := ⟨.hbm, 246, rfl⟩
abbrev main_v93 : Ref sig .tc := ⟨.hbm, 247, rfl⟩
abbrev main_v94 : Ref sig .tc := ⟨.hbm, 248, rfl⟩
abbrev main_v95 : Ref sig .tc := ⟨.hbm, 249, rfl⟩
abbrev main_v96 : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩
abbrev main_v103 : Ref sig .tc := ⟨.hbm, 257, rfl⟩
abbrev main_v104 : Ref sig .tc := ⟨.hbm, 258, rfl⟩
abbrev main_call11_v0 : Ref sig .tc := ⟨.hbm, 259, rfl⟩
abbrev main_call11_v1 : Ref sig .tc := ⟨.hbm, 260, rfl⟩
abbrev main_call11_cst : Ref sig .tc := ⟨.hbm, 261, rfl⟩
abbrev main_call11_v2 : Ref sig .tc := ⟨.hbm, 262, rfl⟩
abbrev main_call11_v3 : Ref sig .tc := ⟨.hbm, 263, rfl⟩
abbrev main_call11_cst_0 : Ref sig .tc := ⟨.hbm, 264, rfl⟩
abbrev main_call11_v4 : Ref sig .tc := ⟨.hbm, 265, rfl⟩
abbrev main_call11_v5 : Ref sig .tc := ⟨.hbm, 266, rfl⟩
abbrev main_v105 : Ref sig .tc := ⟨.hbm, 267, rfl⟩
abbrev main_v106 : Ref sig .tc := ⟨.hbm, 268, rfl⟩
abbrev main_v107 : Ref sig .tc := ⟨.hbm, 269, rfl⟩
abbrev main_v108 : Ref sig .tc := ⟨.hbm, 270, rfl⟩
abbrev main_v109 : Ref sig .tc := ⟨.hbm, 271, rfl⟩
abbrev main_v110 : Ref sig .tc := ⟨.hbm, 272, rfl⟩
abbrev main_v111 : Ref sig .tc := ⟨.hbm, 273, rfl⟩
abbrev main_v112 : Ref sig .tc := ⟨.hbm, 274, rfl⟩
abbrev main_v113 : Ref sig .tc := ⟨.hbm, 275, rfl⟩
abbrev main_v114 : Ref sig .tc := ⟨.hbm, 276, rfl⟩
abbrev main_v115 : Ref sig .tc := ⟨.hbm, 277, rfl⟩
abbrev main_v116 : Ref sig .tc := ⟨.hbm, 278, rfl⟩
abbrev main_v117 : Ref sig .tc := ⟨.hbm, 279, rfl⟩
abbrev main_v118 : Ref sig .tc := ⟨.hbm, 280, rfl⟩
abbrev main_v119 : Ref sig .tc := ⟨.hbm, 281, rfl⟩
abbrev main_call12_v0 : Ref sig .tc := ⟨.hbm, 282, rfl⟩
abbrev main_call12_v1 : Ref sig .tc := ⟨.hbm, 283, rfl⟩
abbrev main_call12_cst : Ref sig .tc := ⟨.hbm, 284, rfl⟩
abbrev main_call12_v2 : Ref sig .tc := ⟨.hbm, 285, rfl⟩
abbrev main_call12_v3 : Ref sig .tc := ⟨.hbm, 286, rfl⟩
abbrev main_call12_cst_0 : Ref sig .tc := ⟨.hbm, 287, rfl⟩
abbrev main_call12_v4 : Ref sig .tc := ⟨.hbm, 288, rfl⟩
abbrev main_call12_v5 : Ref sig .tc := ⟨.hbm, 289, rfl⟩
abbrev main_v120 : Ref sig .tc := ⟨.hbm, 290, rfl⟩
abbrev main_v121 : Ref sig .tc := ⟨.hbm, 291, rfl⟩
abbrev main_v122 : Ref sig .tc := ⟨.hbm, 292, rfl⟩
abbrev main_v123 : Ref sig .tc := ⟨.hbm, 293, rfl⟩
abbrev main_v124 : Ref sig .tc := ⟨.hbm, 294, rfl⟩
abbrev main_v125 : Ref sig .tc := ⟨.hbm, 295, rfl⟩
abbrev main_v126 : Ref sig .tc := ⟨.hbm, 296, rfl⟩
abbrev main_v127 : Ref sig .tc := ⟨.hbm, 297, rfl⟩
abbrev main_v128 : Ref sig .tc := ⟨.hbm, 298, rfl⟩
abbrev main_v129 : Ref sig .tc := ⟨.hbm, 299, rfl⟩
abbrev main_v130 : Ref sig .tc := ⟨.hbm, 300, rfl⟩
abbrev main_v131 : Ref sig .tc := ⟨.hbm, 301, rfl⟩
abbrev main_v132 : Ref sig .tc := ⟨.hbm, 302, rfl⟩
abbrev main_v133 : Ref sig .tc := ⟨.hbm, 303, rfl⟩
abbrev main_v134 : Ref sig .tc := ⟨.hbm, 304, rfl⟩
abbrev main_call13_v0 : Ref sig .tc := ⟨.hbm, 305, rfl⟩
abbrev main_call13_v1 : Ref sig .tc := ⟨.hbm, 306, rfl⟩
abbrev main_call13_cst : Ref sig .tc := ⟨.hbm, 307, rfl⟩
abbrev main_call13_v2 : Ref sig .tc := ⟨.hbm, 308, rfl⟩
abbrev main_call13_v3 : Ref sig .tc := ⟨.hbm, 309, rfl⟩
abbrev main_call13_cst_0 : Ref sig .tc := ⟨.hbm, 310, rfl⟩
abbrev main_call13_v4 : Ref sig .tc := ⟨.hbm, 311, rfl⟩
abbrev main_call13_v5 : Ref sig .tc := ⟨.hbm, 312, rfl⟩
abbrev main_v135 : Ref sig .tc := ⟨.hbm, 313, rfl⟩
abbrev main_v136 : Ref sig .tc := ⟨.hbm, 314, rfl⟩
abbrev main_v137 : Ref sig .tc := ⟨.hbm, 315, rfl⟩
abbrev main_v138 : Ref sig .tc := ⟨.hbm, 316, rfl⟩
abbrev main_v139 : Ref sig .tc := ⟨.hbm, 317, rfl⟩
abbrev main_v140 : Ref sig .tc := ⟨.hbm, 318, rfl⟩
abbrev main_v141 : Ref sig .tc := ⟨.hbm, 319, rfl⟩
abbrev main_v142 : Ref sig .tc := ⟨.hbm, 320, rfl⟩
abbrev main_v143 : Ref sig .tc := ⟨.hbm, 321, rfl⟩
abbrev main_v144 : Ref sig .tc := ⟨.hbm, 322, rfl⟩
abbrev main_v145 : Ref sig .tc := ⟨.hbm, 323, rfl⟩
abbrev main_v146 : Ref sig .tc := ⟨.hbm, 324, rfl⟩

abbrev nD : Nat := 1
abbrev τ : Topo := Topo.v7x

variable {F : FTy → Type} [FloatOps F]
-- ==== Kernel3.lean ====
abbrev S16384x2048 : Shape := ⟨2, ![16384, 2048]⟩
abbrev S2048x4120 : Shape := ⟨2, ![2048, 4120]⟩
abbrev S2048x3584 : Shape := ⟨2, ![2048, 3584]⟩
abbrev S2048x512 : Shape := ⟨2, ![2048, 512]⟩
abbrev S2048x4096 : Shape := ⟨2, ![2048, 4096]⟩
abbrev S16384x4096 : Shape := ⟨2, ![16384, 4096]⟩
abbrev S1024x2048 : Shape := ⟨2, ![1024, 2048]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4120, .f32⟩
  | .hbm, ⟨2, _⟩ => ⟨S2048x3584, .f32⟩
  | .hbm, ⟨3, _⟩ => ⟨S2048x512, .f32⟩
  | .hbm, ⟨4, _⟩ => ⟨S2048x4096, .f32⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x4120 : Shape := ⟨2, ![2048, 4120]⟩
abbrev S16384x4120 : Shape := ⟨2, ![16384, 4120]⟩
abbrev S16384x3584 : Shape := ⟨2, ![16384, 3584]⟩
abbrev S16384x512 : Shape := ⟨2, ![16384, 512]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4120, .f32⟩
  | .hbm, ⟨2, _⟩ => ⟨S16384x2048, .f32⟩
  | .hbm, ⟨3, _⟩ => ⟨S16384x4120, .f32⟩
  | .hbm, ⟨4, _⟩ => ⟨S16384x3584, .f32⟩
  | .hbm, ⟨5, _⟩ => ⟨S16384x512, .f32⟩
  | .hbm, ⟨6, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S_ : Shape := ⟨0, ![]⟩
abbrev S16 : Shape := ⟨1, ![16]⟩
abbrev S1024x2048 : Shape := ⟨2, ![1024, 2048]⟩
abbrev S1x2048x256 : Shape := ⟨3, ![1, 2048, 256]⟩
abbrev S1 : Shape := ⟨1, ![1]⟩
abbrev S1x256x2048 : Shape := ⟨3, ![1, 256, 2048]⟩
abbrev S2048x256 : Shape := ⟨2, ![2048, 256]⟩
abbrev S256x2048 : Shape := ⟨2, ![256, 2048]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩

abbrev nBuf : Space → Nat
  | .hbm => 8
  | .vmem => 12
  | .smem => 2
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S_, .i32⟩
  | .hbm, ⟨6, _⟩ => ⟨S_, .i32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | .local _ .smem, ⟨0, _⟩ => ⟨S16, .i32⟩
  | .local _ .smem, ⟨1, _⟩ => ⟨S16, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 22], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let c512_i32 : BitVec 32 := 512#32
  let v2 : BitVec 1 := Scalar.cmpi .sgt v1 c512_i32
  let arg1 : BitVec 32 := BitVec.ofNat 32 (i 1).val
  let c0_i32 : BitVec 32 := 0#32
  let v3 : BitVec 1 := Scalar.cmpi .eq arg1 c0_i32
  let v4 : BitVec 1 := Scalar.andi v2 v3
  let v5 : BitVec 32 := Scalar.extui v4
  let c0_i32_0 : BitVec 32 := 0#32
  let v6 : BitVec 1 := Scalar.cmpi .ne v5 c0_i32_0
  v6

def k0_cond2 (i : grid0.Coords) (v1 : BitVec 32) : BitVec 1 :=
  let c512_i32 : BitVec 32 := 512#32
  let v2 : BitVec 1 := Scalar.cmpi .sgt v1 c512_i32
  let arg1 : BitVec 32 := BitVec.ofNat 32 (i 1).val
  let c0_i32_1 : BitVec 32 := 0#32
  let v7 : BitVec 1 := Scalar.cmpi .sgt arg1 c0_i32_1
  let v8 : BitVec 1 := Scalar.andi v2 v7
  let v9 : BitVec 32 := Scalar.extui v8
  let c0_i32_2 : BitVec 32 := 0#32
  let v10 : BitVec 1 := Scalar.cmpi .ne v9 c0_i32_2
  v10

def k0_cond3 (v1 : BitVec 32) : BitVec 1 :=
  let c512_i32 : BitVec 32 := 512#32
  let v2 : BitVec 1 := Scalar.cmpi .sgt v1 c512_i32
  let v_true : BitVec 1 := 1#1
  let v11 : BitVec 1 := Scalar.xori v2 v_true
  let v12 : BitVec 32 := Scalar.extui v11
  let c0_i32_3 : BitVec 32 := 0#32
  let v13 : BitVec 1 := Scalar.cmpi .ne v12 c0_i32_3
  v13

def k0_cond4 (i : grid0.Coords) (v1 : BitVec 32) : BitVec 1 :=
  let c0_i32_12 : BitVec 32 := 0#32
  let v23 : BitVec 1 := Scalar.cmpi .sgt v1 c0_i32_12
  let arg1 : BitVec 32 := BitVec.ofNat 32 (i 1).val
  let c0_i32_13 : BitVec 32 := 0#32
  let v24 : BitVec 1 := Scalar.cmpi .eq arg1 c0_i32_13
  let v25 : BitVec 1 := Scalar.andi v23 v24
  let v26 : BitVec 32 := Scalar.extui v25
  let c0_i32_14 : BitVec 32 := 0#32
  let v27 : BitVec 1 := Scalar.cmpi .ne v26 c0_i32_14
  v27

def k0_cond5 (i : grid0.Coords) (v1 : BitVec 32) : BitVec 1 :=
  let c0_i32_15 : BitVec 32 := 0#32
  let v28 : BitVec 1 := Scalar.cmpi .sgt v1 c0_i32_15
  let arg1 : BitVec 32 := BitVec.ofNat 32 (i 1).val
  let c0_i32_16 : BitVec 32 := 0#32
  let v29 : BitVec 1 := Scalar.cmpi .sgt arg1 c0_i32_16
  let v30 : BitVec 1 := Scalar.andi v28 v29
  let v31 : BitVec 32 := Scalar.extui v30
  let c0_i32_17 : BitVec 32 := 0#32
  let v32 : BitVec 1 := Scalar.cmpi .ne v31 c0_i32_17
  v32

def k0_cond6 (i : grid0.Coords) (v1 : BitVec 32) : BitVec 1 :=
  let c0_i32_18 : BitVec 32 := 0#32
  let v33 : BitVec 1 := Scalar.cmpi .sle v1 c0_i32_18
  let arg1 : BitVec 32 := BitVec.ofNat 32 (i 1).val
  let c0_i32_19 : BitVec 32 := 0#32
  let v34 : BitVec 1 := Scalar.cmpi .eq arg1 c0_i32_19
  let v35 : BitVec 1 := Scalar.andi v33 v34
  let v36 : BitVec 32 := Scalar.extui v35
  let c0_i32_20 : BitVec 32 := 0#32
  let v37 : BitVec 1 := Scalar.cmpi .ne v36 c0_i32_20
  v37

def k0_cond7 (i : grid0.Coords) (v1 : BitVec 32) : BitVec 1 :=
  let c512_i32_21 : BitVec 32 := 512#32
  let v38 : BitVec 1 := Scalar.cmpi .sgt v1 c512_i32_21
  let arg1 : BitVec 32 := BitVec.ofNat 32 (i 1).val
  let c0_i32_22 : BitVec 32 := 0#32
  let v39 : BitVec 1 := Scalar.cmpi .eq arg1 c0_i32_22
  let v40 : BitVec 1 := Scalar.andi v38 v39
  let v41 : BitVec 32 := Scalar.extui v40
  let c0_i32_23 : BitVec 32 := 0#32
  let v42 : BitVec 1 := Scalar.cmpi .ne v41 c0_i32_23
  v42

def k0_cond8 (i : grid0.Coords) (v1 : BitVec 32) : BitVec 1 :=
  let c512_i32_24 : BitVec 32 := 512#32
  let v43 : BitVec 1 := Scalar.cmpi .sgt v1 c512_i32_24
  let arg1 : BitVec 32 := BitVec.ofNat 32 (i 1).val
  let c0_i32_25 : BitVec 32 := 0#32
  let v44 : BitVec 1 := Scalar.cmpi .sgt arg1 c0_i32_25
  let v45 : BitVec 1 := Scalar.andi v43 v44
  let v46 : BitVec 32 := Scalar.extui v45
  let c0_i32_26 : BitVec 32 := 0#32
  let v47 : BitVec 1 := Scalar.cmpi .ne v46 c0_i32_26
  v47

def k0_cond9 (i : grid0.Coords) (v1 : BitVec 32) : BitVec 1 :=
  let c512_i32_27 : BitVec 32 := 512#32
  let v48 : BitVec 1 := Scalar.cmpi .sle v1 c512_i32_27
  let arg1 : BitVec 32 := BitVec.ofNat 32 (i 1).val
  let c0_i32_28 : BitVec 32 := 0#32
  let v49 : BitVec 1 := Scalar.cmpi .eq arg1 c0_i32_28
  let v50 : BitVec 1 := Scalar.andi v48 v49
  let v51 : BitVec 32 := Scalar.extui v50
  let c0_i32_29 : BitVec 32 := 0#32
  let v52 : BitVec 1 := Scalar.cmpi .ne v51 c0_i32_29
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : Index := Scalar.indexCast arg0
  let v3 : BitVec 32 := pf.at 1 (Rect.unit (s := S16) ![v2.toNat] S1.size (k0_off1_inb i)) numel1_S1
  let c0_i32 : BitVec 32 := 0#32
  let v4 : BitVec 1 := Scalar.cmpi .sgt v3 c0_i32
  let c21_i32 : BitVec 32 := 21#32
  let v5 : BitVec 32 := Scalar.select v4 arg1 c21_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : Index := Scalar.indexCast arg0
  let v3 : BitVec 32 := pf.at 1 (Rect.unit (s := S16) ![v2.toNat] S1.size (k0_off1_inb i)) numel1_S1
  let c0_i32 : BitVec 32 := 0#32
  let v4 : BitVec 1 := Scalar.cmpi .sgt v3 c0_i32
  let c21_i32 : BitVec 32 := 21#32
  let v5 : BitVec 32 := Scalar.select v4 arg1 c21_i32
  let c0_i32_0 : BitVec 32 := 0#32
  let c0_i32_1 : BitVec 32 := 0#32
  ![v1.toNat, c0_i32_0.toNat, v5.toNat]

def cc0_transform_4 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : Index := Scalar.indexCast arg0
  let v3 : BitVec 32 := pf.at 1 (Rect.unit (s := S16) ![v2.toNat] S1.size (k0_off1_inb i)) numel1_S1
  let c0_i32 : BitVec 32 := 0#32
  let v4 : BitVec 1 := Scalar.cmpi .sgt v3 c0_i32
  let c21_i32 : BitVec 32 := 21#32
  let v5 : BitVec 32 := Scalar.select v4 arg1 c21_i32
  let c0_i32_0 : BitVec 32 := 0#32
  let c0_i32_1 : BitVec 32 := 0#32
  ![v1.toNat, v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S16384x5632 : Shape := ⟨2, ![16384, 5632]⟩
abbrev S5632x2048 : Shape := ⟨2, ![5632, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S2048x5632, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S2048x5632, .f32⟩
  | .hbm, ⟨32, _⟩ => ⟨S16384x5632, .f32⟩
  | .hbm, ⟨33, _⟩ => ⟨S16384x5632, .f32⟩
  | .hbm, ⟨34, _⟩ => ⟨S5632x2048, .f32⟩
  | .hbm, ⟨35, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S2048x128 : Shape := ⟨2, ![2048, 128]⟩
abbrev S1x2048 : Shape := ⟨2, ![1, 2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048x128, .f32⟩
  | .hbm, ⟨4, _⟩ => ⟨S1x2048, .f32⟩
  | .hbm, ⟨5, _⟩ => ⟨S16384x2048, .f32⟩
  | .hbm, ⟨6, _⟩ => ⟨S16384x2048, .bf16⟩
  | .hbm, ⟨7, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x128, .f32⟩
  | .local _ .vmem, ⟨11, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x2048 : Shape := ⟨2, ![16384, 2048]⟩
abbrev S2048 : Shape := ⟨1, ![2048]⟩
abbrev S2048x128 : Shape := ⟨2, ![2048, 128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x128 : Shape := ⟨2, ![16384, 128]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048x128, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .bf16⟩
  | .hbm, ⟨22, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S16384x2048 : Shape := ⟨2, ![16384, 2048]⟩
abbrev S2048 : Shape := ⟨1, ![2048]⟩
abbrev S2048x128 : Shape := ⟨2, ![2048, 128]⟩
abbrev S1x2048 : Shape := ⟨2, ![1, 2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x128, .f32⟩
  | .hbm, ⟨3, _⟩ => ⟨S1x2048, .f32⟩
  | .hbm, ⟨4, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .f32⟩
  | .local _ .vmem, ⟨4, _⟩ => ⟨S512x128, .f32⟩
  | .local _ .vmem, ⟨5, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x2048 : Shape := ⟨2, ![16384, 2048]⟩
abbrev S2048 : Shape := ⟨1, ![2048]⟩
abbrev S2048x128 : Shape := ⟨2, ![2048, 128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x128 : Shape := ⟨2, ![16384, 128]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x128, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Win.FrameI.lean ====
/- The frame of the window call (KernelIdeal): what its output's buffer and its scratch buffers hold after the body in each of its two
   cases, the proof data, the body's obligation at every point, the run and the frame. The text follows the generated frame's
   last module, over the generated runs of the two cases. -/
module

public import proofs.«01_k».proof.Proof.Gen.KernelIdeal.Frame.RunB
public import Idealize.ShloMosaic.Lib.Claim

@[expose] public section

-- membership in a rectangle (`View.cover_of_tiled`) recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 3 tile its block (4 stores of `S128x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S4x128x128 .bf16) (harg2 : arg2.IsWhole) (arg3 : Memref sig .tc .vmem S1x16384x128 .bf16) (harg3 : arg3.IsWhole) (arg4 : Memref sig .tc .vmem S1x128x16384 .bf16) (harg4 : arg4.IsWhole) (arg5 : Memref sig .tc .vmem S128x512 .f32) (harg5 : arg5.IsWhole) (arg6 : Memref sig .tc .vmem S128x512 .bf16) (harg6 : arg6.IsWhole) (arg7 : Memref sig .tc .vmem S640x512 .f32) (harg7 : arg7.IsWhole) (arg8 : Memref sig .tc .vmem S640x512 .bf16) (harg8 : arg8.IsWhole) (hc0 : ¬cond0_0 i) (hc1 : cond0_1 i)
    (x0 : Vec F S4x128x128 .bf16) (x1 : Vec F S1x16384x128 .bf16) (x2 : Vec F S1x128x16384 .bf16) (y : S128x512.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S128x128.size (by sl_kernel_rfl) y

/-- What case A leaves in output 3's staging buffer: its pieces read back over junk. -/
def out0_A_3 (c : Dev nD) (i : grid0.Coords) (arg2 : Memref sig .tc .vmem S4x128x128 .bf16) (harg2 : arg2.IsWhole) (arg3 : Memref sig .tc .vmem S1x16384x128 .bf16) (harg3 : arg3.IsWhole) (arg4 : Memref sig .tc .vmem S1x128x16384 .bf16) (harg4 : arg4.IsWhole) (arg5 : Memref sig .tc .vmem S128x512 .f32) (harg5 : arg5.IsWhole) (arg6 : Memref sig .tc .vmem S128x512 .bf16) (harg6 : arg6.IsWhole) (arg7 : Memref sig .tc .vmem S640x512 .f32) (harg7 : arg7.IsWhole) (arg8 : Memref sig .tc .vmem S640x512 .bf16) (harg8 : arg8.IsWhole) (hc0 : ¬cond0_0 i) (hc1 : cond0_1 i)
    (x0 : Vec F S4x128x128 .bf16) (x1 : Vec F S1x16384x128 .bf16) (x2 : Vec F S1x128x16384 .bf16) : Vec F S128x512 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- Case B's pieces for output 3 tile its block (4 stores of `S128x128`, checked by the kernel's evaluation: Lib/Ring.lean `Piece.tiledL`, linear in the pieces, through a loop's `@[irreducible]` trip theorem too), so they cover it. -/
theorem cover0_B_3 (c : Dev nD) (i : grid0.Coords) (arg2 : Memref sig .tc .vmem S4x128x128 .bf16) (harg2 : arg2.IsWhole) (arg3 : Memref sig .tc .vmem S1x16384x128 .bf16) (harg3 : arg3.IsWhole) (arg4 : Memref sig .tc .vmem S1x128x16384 .bf16) (harg4 : arg4.IsWhole) (arg5 : Memref sig .tc .vmem S128x512 .f32) (harg5 : arg5.IsWhole) (arg6 : Memref sig .tc .vmem S128x512 .bf16) (harg6 : arg6.IsWhole) (arg7 : Memref sig .tc .vmem S640x512 .f32) (harg7 : arg7.IsWhole) (arg8 : Memref sig .tc .vmem S640x512 .bf16) (harg8 : arg8.IsWhole) (hc0 : cond0_0 i) (hc1 : ¬cond0_1 i)
    (x0 : Vec F S4x128x128 .bf16) (x1 : Vec F S1x16384x128 .bf16) (x2 : Vec F S1x128x16384 .bf16) (y : S128x512.Idx) :
    ∃ pc ∈ (kernelRun0_B c i arg2 harg2 arg3 harg3 arg4 harg4 arg5 harg5 arg6 harg6 arg7 harg7 arg8 harg8 hc0 hc1 x0 x1 x2).1, y ∈ pc.1.set :=
  View.cover_of_tiledL (kernelRun0_B c i arg2 harg2 arg3 harg3 arg4 harg4 arg5 harg5 arg6 harg6 arg7 harg7 arg8 harg8 hc0 hc1 x0 x1 x2).1 S128x128.size (by sl_kernel_rfl) y

/-- What case B leaves in output 3's staging buffer: its pieces read back over junk. -/
def out0_B_3 (c : Dev nD) (i : grid0.Coords) (arg2 : Memref sig .tc .vmem S4x128x128 .bf16) (harg2 : arg2.IsWhole) (arg3 : Memref sig .tc .vmem S1x16384x128 .bf16) (harg3 : arg3.IsWhole) (arg4 : Memref sig .tc .vmem S1x128x16384 .bf16) (harg4 : arg4.IsWhole) (arg5 : Memref sig .tc .vmem S128x512 .f32) (harg5 : arg5.IsWhole) (arg6 : Memref sig .tc .vmem S128x512 .bf16) (harg6 : arg6.IsWhole) (arg7 : Memref sig .tc .vmem S640x512 .f32) (harg7 : arg7.IsWhole) (arg8 : Memref sig .tc .vmem S640x512 .bf16) (harg8 : arg8.IsWhole) (hc0 : cond0_0 i) (hc1 : ¬cond0_1 i)
    (x0 : Vec F S4x128x128 .bf16) (x1 : Vec F S1x16384x128 .bf16) (x2 : Vec F S1x128x16384 .bf16) : Vec F S128x512 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x512 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) (fun h => (fun h => by (try dsimp only at h); omega) ((hcond0_0 ⟨0, hn⟩).mp h)) ((hcond0_1 ⟨0, hn⟩).mpr (by (try dsimp only) <;> omega)) (iblk m c 0 ⟨0, hn⟩) (iblk m c 1 ⟨0, hn⟩) (iblk m c 2 ⟨0, hn⟩)
  | n + 1, hn =>
    if h0 : 4 ≤ (n + 1) % 128 then
      if h1 : (n + 1) % 128 ≤ 3 then
        False.elim (by have hN : n + 1 < 256 := lt_of_lt_of_eq hn (show cfg0.N = 256 from N_0); omega)
      else
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)
    else
      if h1 : (n + 1) % 128 ≤ 3 then
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩)
      else
        False.elim (by have hN : n + 1 < 256 := lt_of_lt_of_eq hn (show cfg0.N = 256 from N_0); omega)

/-- `outsAt0` at a point of case A: that case's contents. -/
theorem outsAt0_A (c : Dev nD) (t : Fin cfg0.N) (h0 : ¬4 ≤ t.val % 128) (h1 : t.val % 128 ≤ 3) :
    outsAt0 m c t.val t.isLt = out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) := by
  obtain ⟨n, hn⟩ := t
  cases n with
  | zero => exact rfl
  | succ n => exact (dif_neg h0).trans ((dif_pos h1).trans rfl)

/-- `outsAt0` at a point of case B: that case's contents. -/
theorem outsAt0_B (c : Dev nD) (t : Fin cfg0.N) (h0 : 4 ≤ t.val % 128) (h1 : ¬t.val % 128 ≤ 3) :
    outsAt0 m c t.val t.isLt = out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) := by
  obtain ⟨n, hn⟩ := t
  cases n with
  | zero => exact (by exfalso; (try dsimp only at h0); exact by omega)
  | succ n => exact (dif_pos h0).trans ((dif_neg h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 256 := lt_of_lt_of_eq t.isLt (show cfg0.N = 256 from N_0)
  by_cases h0 : 4 ≤ t.val % 128
  · by_cases h1 : t.val % 128 ≤ 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_B t ((hcond0_0 t).mpr h0) (fun h => h1 ((hcond0_1 t).mp h))], after0_3]
      rw [outsAt0_B m c t h0 h1]
      unfold out0_B_3
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ ((hcond0_0 t).mpr h0) (fun h => h1 ((hcond0_1 t).mp h)) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%fT0, HS0⟩, ⟨%fT1, HS1⟩, ⟨%fT2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _ _ _ _)
  · by_cases h1 : t.val % 128 ≤ 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_A t (fun h => h0 ((hcond0_0 t).mp h)) ((hcond0_1 t).mpr h1)], after0_3]
      rw [outsAt0_A m c t h0 h1]
      unfold out0_A_3
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ (fun h => h0 ((hcond0_0 t).mp h)) ((hcond0_1 t).mpr h1) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%fT0, HS0⟩, ⟨%fT1, HS1⟩, ⟨%fT2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  have h := sound_body m c t
  unfold bodyPre bodyPost at h
  refine h

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Sw.RunK.lean ====
module

public import proofs.«01_k».proof.Proof.Gen.Kernel2.Skeleton
public import proofs.«01_k».proof.Proof.Gen.Kernel2.Launch
public import proofs.«01_k».proof.Defs
public import proofs.«01_k».proof.Proof.Gen.Kernel2
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

/-! The routed experts' body, run along each of its six ways through the conditionals: the tile's rows are all in use
(more than 512), some (between 1 and 512) or none, and the point is the first of its tile (the hidden slice 0) or a later
one. Each run says what the body leaves in the output block and in the normalised rows' buffer. -/
namespace Cert.Kernel2.Sw

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The two tables and the normalised rows' buffer, whole. -/
abbrev tb0 : Memref sig .tc .smem S40 .i32 := Memref.whole main_arg5
abbrev tb1 : Memref sig .tc .smem S40 .i32 := Memref.whole main_arg6
abbrev sc0 : Memref sig .tc .vmem S1024x2048 .bf16 := Memref.whole cc0_scratch0

/-- The tile's count of rows in use, as the body reads it. -/
abbrev wd (T1 : S40.Idx → Elt Bits .i32) (i : grid0.Coords) : BitVec 32 :=
  View.readAt (Elt Bits) (tb1).view (Rect.unit (s := S40) (k0_off1 i) S1.size (k0_off1_inb i)).toLoadRect T1 (Shape.Idx.first (numel1_S1.symm ▸ Nat.one_pos))

section
variable (c : Dev nD) (i : grid0.Coords) (arg4 : Memref sig .tc .vmem S1024x2048 .f32) (harg4 : arg4.IsWhole) (arg5 : Memref sig .tc .vmem S1x2048 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 T1 : S40.Idx → Elt Bits .i32)
  (x0 : S1024x2048.Idx → Elt Bits .f32) (x1 : S1x2048.Idx → Elt Bits .f32) (x2 : S1x2048x256.Idx → Elt Bits .f32) (x3 : S1x2048x256.Idx → Elt Bits .f32) (x4 : S1x256x2048.Idx → Elt Bits .f32) (y5 : S1024x2048.Idx → Elt Bits .f32) (xa0 : Buf (Elt Bits) ((c : Thread nD τ).loc cc0_scratch0))

/-- What the body holds beside the output block and the rows' buffer: the five input blocks and the tables. -/
abbrev ins : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (tb0.view.loc (c : Thread nD τ) ↦{fullShare.right} T0)
    ∗ (tb1.view.loc (c : Thread nD τ) ↦{fullShare.right} T1))

set_option backward.proofsInPublic true in
set_option maxHeartbeats 8000000 in
/-- The body's run: all rows in use, first slice. -/
noncomputable def runA (k0_h1 : k0_cond1 i (wd T1 i) = 1#1) (k0_h2 : ¬(k0_cond2 i (wd T1 i) = 1#1)) (k0_h3 : ¬(k0_cond3 (wd T1 i) = 1#1)) :
    Σ' (out0 : List (View.Piece (Elt Bits) S1024x2048 .f32)), { out1 : List (View.Piece (Elt Bits) S1024x2048 .bf16) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt Bits) f out0) ∗ (∃ f, sc0.view.loc (c : Thread nD τ) ↦{fullShare} sc0.view.writes (Elt Bits) f out1)) -∗ K ⟨⟩))
          ⊢ wp frame (wpE (defs₀ (F := Bits)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, _, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = k0_cond1 _ _ = _; exact k0_h1) | (guard_target = ¬(k0_cond2 _ _ = _); exact k0_h2) | (guard_target = ¬(k0_cond3 _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexists _; iexact HS0⟩

set_option backward.proofsInPublic true in
set_option maxHeartbeats 8000000 in
/-- The body's run: all rows in use, a later slice. -/
noncomputable def runB (k0_h1 : ¬(k0_cond1 i (wd T1 i) = 1#1)) (k0_h2 : k0_cond2 i (wd T1 i) = 1#1) (k0_h3 : ¬(k0_cond3 (wd T1 i) = 1#1)) :
    { out0 : List (View.Piece (Elt Bits) S1024x2048 .f32) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt Bits) f out0) ∗ (sc0.view.loc (c : Thread nD τ) ↦{fullShare} xa0)) -∗ K ⟨⟩))
          ⊢ wp frame (wpE (defs₀ (F := Bits)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = k0_cond2 _ _ = _; exact k0_h2) | (guard_target = ¬(k0_cond3 _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexact HS0⟩

set_option backward.proofsInPublic true in
set_option maxHeartbeats 8000000 in
/-- The body's run: some rows in use, first slice. -/
noncomputable def runC (k0_h1 : ¬(k0_cond1 i (wd T1 i) = 1#1)) (k0_h2 : ¬(k0_cond2 i (wd T1 i) = 1#1)) (k0_h3 : k0_cond3 (wd T1 i) = 1#1) (k0_h4 : k0_cond4 i (wd T1 i) = 1#1) (k0_h5 : ¬(k0_cond5 i (wd T1 i) = 1#1)) (k0_h6 : ¬(k0_cond6 i (wd T1 i) = 1#1)) (k0_h7 : ¬(k0_cond7 i (wd T1 i) = 1#1)) (k0_h8 : ¬(k0_cond8 i (wd T1 i) = 1#1)) (k0_h9 : k0_cond9 i (wd T1 i) = 1#1) :
    Σ' (out0 : List (View.Piece (Elt Bits) S1024x2048 .f32)), { out1 : List (View.Piece (Elt Bits) S1024x2048 .bf16) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt Bits) f out0) ∗ (∃ f, sc0.view.loc (c : Thread nD τ) ↦{fullShare} sc0.view.writes (Elt Bits) f out1)) -∗ K ⟨⟩))
          ⊢ wp frame (wpE (defs₀ (F := Bits)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, _, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = ¬(k0_cond2 _ _ = _); exact k0_h2) | (guard_target = k0_cond3 _ = _; exact k0_h3) | (guard_target = k0_cond4 _ _ = _; exact k0_h4) | (guard_target = ¬(k0_cond5 _ _ = _); exact k0_h5) | (guard_target = ¬(k0_cond6 _ _ = _); exact k0_h6) | (guard_target = ¬(k0_cond7 _ _ = _); exact k0_h7) | (guard_target = ¬(k0_cond8 _ _ = _); exact k0_h8) | (guard_target = k0_cond9 _ _ = _; exact k0_h9))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexists _; iexact HS0⟩

set_option backward.proofsInPublic true in
set_option maxHeartbeats 8000000 in
/-- The body's run: some rows in use, a later slice. -/
noncomputable def runD (k0_h1 : ¬(k0_cond1 i (wd T1 i) = 1#1)) (k0_h2 : ¬(k0_cond2 i (wd T1 i) = 1#1)) (k0_h3 : k0_cond3 (wd T1 i) = 1#1) (k0_h4 : ¬(k0_cond4 i (wd T1 i) = 1#1)) (k0_h5 : k0_cond5 i (wd T1 i) = 1#1) (k0_h6 : ¬(k0_cond6 i (wd T1 i) = 1#1)) (k0_h7 : ¬(k0_cond7 i (wd T1 i) = 1#1)) (k0_h8 : ¬(k0_cond8 i (wd T1 i) = 1#1)) (k0_h9 : ¬(k0_cond9 i (wd T1 i) = 1#1)) :
    { out0 : List (View.Piece (Elt Bits) S1024x2048 .f32) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (arg9.view.loc (c : Thread nD τ) ↦[arg9.view.set]{fullShare} arg9.view.writes (Elt Bits) (harg9.unread y5) out0) ∗ (sc0.view.loc (c : Thread nD τ) ↦{fullShare} xa0)) -∗ K ⟨⟩))
          ⊢ wp frame (wpE (defs₀ (F := Bits)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = ¬(k0_cond2 _ _ = _); exact k0_h2) | (guard_target = k0_cond3 _ = _; exact k0_h3) | (guard_target = ¬(k0_cond4 _ _ = _); exact k0_h4) | (guard_target = k0_cond5 _ _ = _; exact k0_h5) | (guard_target = ¬(k0_cond6 _ _ = _); exact k0_h6) | (guard_target = ¬(k0_cond7 _ _ = _); exact k0_h7) | (guard_target = ¬(k0_cond8 _ _ = _); exact k0_h8) | (guard_target = ¬(k0_cond9 _ _ = _); exact k0_h9))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexact HO5
    iexact HS0⟩

set_option backward.proofsInPublic true in
set_option maxHeartbeats 8000000 in
/-- The body's run: no row in use, first slice. -/
noncomputable def runE (k0_h1 : ¬(k0_cond1 i (wd T1 i) = 1#1)) (k0_h2 : ¬(k0_cond2 i (wd T1 i) = 1#1)) (k0_h3 : k0_cond3 (wd T1 i) = 1#1) (k0_h4 : ¬(k0_cond4 i (wd T1 i) = 1#1)) (k0_h5 : ¬(k0_cond5 i (wd T1 i) = 1#1)) (k0_h6 : k0_cond6 i (wd T1 i) = 1#1) (k0_h7 : ¬(k0_cond7 i (wd T1 i) = 1#1)) (k0_h8 : ¬(k0_cond8 i (wd T1 i) = 1#1)) (k0_h9 : k0_cond9 i (wd T1 i) = 1#1) :
    { out0 : List (View.Piece (Elt Bits) S1024x2048 .f32) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt Bits) f out0) ∗ (sc0.view.loc (c : Thread nD τ) ↦{fullShare} xa0)) -∗ K ⟨⟩))
          ⊢ wp frame (wpE (defs₀ (F := Bits)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = ¬(k0_cond2 _ _ = _); exact k0_h2) | (guard_target = k0_cond3 _ = _; exact k0_h3) | (guard_target = ¬(k0_cond4 _ _ = _); exact k0_h4) | (guard_target = ¬(k0_cond5 _ _ = _); exact k0_h5) | (guard_target = k0_cond6 _ _ = _; exact k0_h6) | (guard_target = ¬(k0_cond7 _ _ = _); exact k0_h7) | (guard_target = ¬(k0_cond8 _ _ = _); exact k0_h8) | (guard_target = k0_cond9 _ _ = _; exact k0_h9))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexact HS0⟩

set_option backward.proofsInPublic true in
set_option maxHeartbeats 8000000 in
/-- The body's run: no row in use, a later slice. -/
noncomputable def runF (k0_h1 : ¬(k0_cond1 i (wd T1 i) = 1#1)) (k0_h2 : ¬(k0_cond2 i (wd T1 i) = 1#1)) (k0_h3 : k0_cond3 (wd T1 i) = 1#1) (k0_h4 : ¬(k0_cond4 i (wd T1 i) = 1#1)) (k0_h5 : ¬(k0_cond5 i (wd T1 i) = 1#1)) (k0_h6 : ¬(k0_cond6 i (wd T1 i) = 1#1)) (k0_h7 : ¬(k0_cond7 i (wd T1 i) = 1#1)) (k0_h8 : ¬(k0_cond8 i (wd T1 i) = 1#1)) (k0_h9 : ¬(k0_cond9 i (wd T1 i) = 1#1)) :
    { _u : Unit //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ owns (c : Thread nD τ) arg9 fullShare y5 ∗ (sc0.view.loc (c : Thread nD τ) ↦{fullShare} xa0)) -∗ K ⟨⟩))
          ⊢ wp frame (wpE (defs₀ (F := Bits)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨(), fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = ¬(k0_cond2 _ _ = _); exact k0_h2) | (guard_target = k0_cond3 _ = _; exact k0_h3) | (guard_target = ¬(k0_cond4 _ _ = _); exact k0_h4) | (guard_target = ¬(k0_cond5 _ _ = _); exact k0_h5) | (guard_target = ¬(k0_cond6 _ _ = _); exact k0_h6) | (guard_target = ¬(k0_cond7 _ _ = _); exact k0_h7) | (guard_target = ¬(k0_cond8 _ _ = _); exact k0_h8) | (guard_target = ¬(k0_cond9 _ _ = _); exact k0_h9))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists _; isplitr; · ipureintro; exact harg9.read_unread _
      iexact HO5
    iexact HS0⟩

end

end Cert.Kernel2.Sw

end
-- ==== Proof.Sw.Words.lean ====
module

public import Idealize.ShloMosaic.Lib.Affine
public import Idealize.ShloMosaic.Lib.Tactic
public import Idealize.ShloMosaic.PureOps.Ideal

@[expose] public section

/-! The conditions the routed experts' body computes from a tile's count of rows in use, as two Booleans. -/
namespace Cert.Words

open Idealize.ShloMosaic

/-- Some row of the tile is in use: the count, read as a signed word, is above zero. -/
def lo (v : BitVec 32) : Bool := (0#32).slt v
/-- Some row of the tile's second half is in use: the count is above 512. -/
def hi (v : BitVec 32) : Bool := (512#32).slt v

theorem lo_of_hi {v : BitVec 32} (h : hi v = true) : lo v = true := by
  simp only [lo, hi, BitVec.slt, decide_eq_true_eq] at *
  have h1 : (0#32).toInt = 0 := by decide
  have h2 : (512#32).toInt = 512 := by decide
  omega

theorem sgt512 (v : BitVec 32) : Scalar.cmpi .sgt v 512#32 = BitVec.ofBool (hi v) := rfl
theorem sgt0 (v : BitVec 32) : Scalar.cmpi .sgt v 0#32 = BitVec.ofBool (lo v) := rfl
theorem sle512 (v : BitVec 32) : Scalar.cmpi .sle v 512#32 = BitVec.ofBool (!hi v) := by
  show BitVec.ofBool (v.sle 512#32) = _
  congr 1
  simp only [hi, BitVec.slt, BitVec.sle, ← decide_not, not_lt]
theorem sle0 (v : BitVec 32) : Scalar.cmpi .sle v 0#32 = BitVec.ofBool (!lo v) := by
  show BitVec.ofBool (v.sle 0#32) = _
  congr 1
  simp only [lo, BitVec.slt, BitVec.sle, ← decide_not, not_lt]
theorem eq0 : ∀ j : Fin 28, Scalar.cmpi .eq (BitVec.ofNat 32 j.val) 0#32 = BitVec.ofBool (decide (j.val = 0)) := by decide
theorem gt0 : ∀ j : Fin 28, Scalar.cmpi .sgt (BitVec.ofNat 32 j.val) 0#32 = BitVec.ofBool (!decide (j.val = 0)) := by decide

theorem and_bits : ∀ a b : Bool, Scalar.cmpi .ne (Scalar.extui (Scalar.andi (BitVec.ofBool a) (BitVec.ofBool b)) : BitVec 32) 0#32 = BitVec.ofBool (a && b) := by decide
theorem not_bits : ∀ a : Bool, Scalar.cmpi .ne (Scalar.extui (Scalar.xori (BitVec.ofBool a) 1#1) : BitVec 32) 0#32 = BitVec.ofBool (!a) := by decide
theorem ofBool_one (a : Bool) : (BitVec.ofBool a = 1#1) = (a = true) := by cases a <;> simp

end Cert.Words
-- ==== Proof.Sw.BodyK.lean ====
module

public import proofs.«01_k».proof.Proof.Sw.RunK
public import proofs.«01_k».proof.Proof.Sw.Words
public import Idealize.ShloMosaic.Lib.VecWindow
public import Idealize.ShloMosaic.Lib.Pipeline.Value

@[expose] public section

set_option maxRecDepth 16384
set_option Elab.async false

noncomputable section

/-! What a run of the routed experts' body leaves, in the two halves of 512 rows: a half in use holds the expert's slice of
the product (added to what the half held, after the tile's first slice), a half not in use holds zeros. -/
namespace Cert.Kernel2.Sw

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two halves' rectangles. -/
abbrev RA : Rect S1024x2048 := Rect.unit (s := S1024x2048) ![0, 0] S512x2048.size inb_S1024x2048_S512x2048_0_0
abbrev RB : Rect S1024x2048 := Rect.unit (s := S1024x2048) ![512, 0] S512x2048.size inb_S1024x2048_S512x2048_512_0

theorem mem_RA (y : S1024x2048.Idx) : y ∈ RA.set ↔ (y 0).val < 512 := by
  rw [Rect.mem_set_unit]
  constructor
  · intro h; have := (h 0).2; simpa using this
  · intro h a; fin_cases a
    · exact ⟨Nat.zero_le _, by simpa using h⟩
    · exact ⟨Nat.zero_le _, by have := (y 1).isLt; simpa using this⟩
theorem mem_RB (y : S1024x2048.Idx) : y ∈ RB.set ↔ 512 ≤ (y 0).val := by
  rw [Rect.mem_set_unit]
  constructor
  · intro h; exact (h 0).1
  · intro h a; fin_cases a
    · exact ⟨h, by have := (y 0).isLt; simpa using this⟩
    · exact ⟨Nat.zero_le _, by have := (y 1).isLt; simpa using this⟩
theorem not_RB_of_RA {y : S1024x2048.Idx} (h : y ∈ RA.set) : y ∉ RB.set := by
  rw [mem_RA] at h; rw [mem_RB]; omega

theorem emb_RA_not_RB (x : S512x2048.Idx) : RA.emb x ∉ RB.set := not_RB_of_RA (LoadRect.idx_mem RA.toLoadRect x)

/-- A block from its two halves. -/
def stitch {e : EltTy} (p q : S512x2048.Idx → Elt Bits e) : S1024x2048.Idx → Elt Bits e :=
  View.canon (Val := Elt Bits) [⟨RB, q⟩, ⟨RA, p⟩]

theorem stitch_RB {e : EltTy} (p q : S512x2048.Idx → Elt Bits e) (x : S512x2048.Idx) : stitch p q (RB.emb x) = q x :=
  View.canon_cons_emb RB q _ x
theorem stitch_RA {e : EltTy} (p q : S512x2048.Idx → Elt Bits e) (x : S512x2048.Idx) : stitch p q (RA.emb x) = p x :=
  (View.canon_cons_of_not_mem (Val := Elt Bits) ⟨RB, q⟩ [⟨RA, p⟩] (emb_RA_not_RB x)).trans (View.canon_cons_emb RA p [] x)
theorem ld_stitch_RA {e : EltTy} (p q : S512x2048.Idx → Elt Bits e) : View.ld (stitch p q) RA = p := funext fun x => stitch_RA p q x
theorem ld_stitch_RB {e : EltTy} (p q : S512x2048.Idx → Elt Bits e) : View.ld (stitch p q) RB = q := funext fun x => stitch_RB p q x

theorem cover2 {e : EltTy} (p q : S512x2048.Idx → Elt Bits e) (y : S1024x2048.Idx) :
    ∃ pc ∈ ([⟨RB, q⟩, ⟨RA, p⟩] : List (View.Piece (Elt Bits) S1024x2048 e)), y ∈ pc.1.set := by
  by_cases h : (y 0).val < 512
  · exact ⟨⟨RA, p⟩, by simp, (mem_RA y).2 h⟩
  · exact ⟨⟨RB, q⟩, by simp, (mem_RB y).2 (by omega)⟩

/-- Two stores, one per half, leave the stitched block, whatever was there. -/
theorem read_two {κ : Kind} {sp : Space} {e : EltTy} (v : View sig κ sp S1024x2048 e) (f : v.ty.Contents (Elt Bits)) (p q : S512x2048.Idx → Elt Bits e) :
    v.read (Elt Bits) (v.writes (Elt Bits) f [⟨RB, q⟩, ⟨RA, p⟩]) = stitch p q :=
  View.read_writes_eq_canon v f _ (cover2 p q)

/-- One store to the first half keeps the second. -/
theorem read_one {κ : Kind} {sp : Space} {e : EltTy} (v : View sig κ sp S1024x2048 e) (f : v.ty.Contents (Elt Bits)) (p p' q : S512x2048.Idx → Elt Bits e)
    (hf : v.read (Elt Bits) f = stitch p q) :
    v.read (Elt Bits) (v.writes (Elt Bits) f [⟨RA, p'⟩]) = stitch p' q := by
  funext y
  by_cases h : y ∈ RA.set
  · obtain ⟨x, hx⟩ := LoadRect.exists_idx_of_mem _ h
    have hx' : RA.emb x = y := hx
    rw [← hx', stitch_RA]; exact View.read_writes_cons_emb v f RA p' [] x
  · have hB : y ∈ RB.set := by rw [mem_RA] at h; rw [mem_RB]; omega
    rw [View.read_writes_apply_of_forall_not_mem v f y _ (by simpa using h), hf]
    obtain ⟨x, hx⟩ := LoadRect.exists_idx_of_mem _ hB
    have hx' : RB.emb x = y := hx
    rw [← hx', stitch_RB, stitch_RB]

/-- The rows normalised by their root mean square, rounded to the products' format. -/
abbrev XN (x : S512x2048.Idx → Elt Bits .f32) (g : S1x2048.Idx → Elt Bits .f32) : S512x2048.Idx → Elt Bits .bf16 := k0_pay25 (F := Bits) x g
/-- One slice of an expert: the gated product of the normalised rows. -/
abbrev EX (w1 w3 : S1x2048x256.Idx → Elt Bits .f32) (w2 : S1x256x2048.Idx → Elt Bits .f32) (xn : S512x2048.Idx → Elt Bits .bf16) : S512x2048.Idx → Elt Bits .f32 :=
  k0_pay26 (F := Bits) w1 w3 w2 xn
/-- A half after a point: `live` says that its rows are in use, `first` that the point is the tile's first. -/
def nxt (live first : Bool) (w1 w3 : S1x2048x256.Idx → Elt Bits .f32) (w2 : S1x256x2048.Idx → Elt Bits .f32) (xn : S512x2048.Idx → Elt Bits .bf16)
    (old : S512x2048.Idx → Elt Bits .f32) : S512x2048.Idx → Elt Bits .f32 :=
  if live then (if first then EX w1 w3 w2 xn else addf (F := Bits) (φ := .f32) old (EX w1 w3 w2 xn)) else (if first then k0_pay4 (F := Bits) else old)

theorem cond1_eq (i : grid0.Coords) (v : BitVec 32) : k0_cond1 i v = BitVec.ofBool (Words.hi v && decide ((i 1).val = 0)) := by
  unfold k0_cond1; dsimp only; rw [Words.eq0 (i 1)]; simp only [Words.sgt512, Words.sgt0, Words.sle512, Words.sle0]; exact Words.and_bits _ _
theorem cond2_eq (i : grid0.Coords) (v : BitVec 32) : k0_cond2 i v = BitVec.ofBool (Words.hi v && !decide ((i 1).val = 0)) := by
  unfold k0_cond2; dsimp only; rw [Words.gt0 (i 1)]; simp only [Words.sgt512, Words.sgt0, Words.sle512, Words.sle0]; exact Words.and_bits _ _
theorem cond3_eq (v : BitVec 32) : k0_cond3 v = BitVec.ofBool (!Words.hi v) := by
  unfold k0_cond3; simp only [Words.sgt512]; exact Words.not_bits _
theorem cond4_eq (i : grid0.Coords) (v : BitVec 32) : k0_cond4 i v = BitVec.ofBool (Words.lo v && decide ((i 1).val = 0)) := by
  unfold k0_cond4; dsimp only; rw [Words.eq0 (i 1)]; simp only [Words.sgt512, Words.sgt0, Words.sle512, Words.sle0]; exact Words.and_bits _ _
theorem cond5_eq (i : grid0.Coords) (v : BitVec 32) : k0_cond5 i v = BitVec.ofBool (Words.lo v && !decide ((i 1).val = 0)) := by
  unfold k0_cond5; dsimp only; rw [Words.gt0 (i 1)]; simp only [Words.sgt512, Words.sgt0, Words.sle512, Words.sle0]; exact Words.and_bits _ _
theorem cond6_eq (i : grid0.Coords) (v : BitVec 32) : k0_cond6 i v = BitVec.ofBool (!Words.lo v && decide ((i 1).val = 0)) := by
  unfold k0_cond6; dsimp only; rw [Words.eq0 (i 1)]; simp only [Words.sgt512, Words.sgt0, Words.sle512, Words.sle0]; exact Words.and_bits _ _
theorem cond7_eq (i : grid0.Coords) (v : BitVec 32) : k0_cond7 i v = BitVec.ofBool (Words.hi v && decide ((i 1).val = 0)) := by
  unfold k0_cond7; dsimp only; rw [Words.eq0 (i 1)]; simp only [Words.sgt512, Words.sgt0, Words.sle512, Words.sle0]; exact Words.and_bits _ _
theorem cond8_eq (i : grid0.Coords) (v : BitVec 32) : k0_cond8 i v = BitVec.ofBool (Words.hi v && !decide ((i 1).val = 0)) := by
  unfold k0_cond8; dsimp only; rw [Words.gt0 (i 1)]; simp only [Words.sgt512, Words.sgt0, Words.sle512, Words.sle0]; exact Words.and_bits _ _
theorem cond9_eq (i : grid0.Coords) (v : BitVec 32) : k0_cond9 i v = BitVec.ofBool (!Words.hi v && decide ((i 1).val = 0)) := by
  unfold k0_cond9; dsimp only; rw [Words.eq0 (i 1)]; simp only [Words.sgt512, Words.sgt0, Words.sle512, Words.sle0]; exact Words.and_bits _ _

/-- The idle table's formula at a point: nothing is stored only past the first slice of a tile with no row in use. -/
theorem idle_eq (i : grid0.Coords) (v : BitVec 32) :
    (!(k0_cond1 i v == 1#1) && !(k0_cond2 i v == 1#1) && !(k0_cond3 v == 1#1 && k0_cond4 i v == 1#1) && !(k0_cond3 v == 1#1 && k0_cond5 i v == 1#1) && !(k0_cond3 v == 1#1 && k0_cond6 i v == 1#1) && !(k0_cond3 v == 1#1 && k0_cond7 i v == 1#1) && !(k0_cond3 v == 1#1 && k0_cond8 i v == 1#1) && !(k0_cond3 v == 1#1 && k0_cond9 i v == 1#1))
      = (!Words.lo v && !decide ((i 1).val = 0)) := by
  simp only [cond1_eq, cond2_eq, cond3_eq, cond4_eq, cond5_eq, cond6_eq, cond7_eq, cond8_eq, cond9_eq]
  have h := @Words.lo_of_hi v
  cases hh : Words.hi v <;> cases hl : Words.lo v <;> cases hj : decide ((i 1).val = 0) <;> simp_all

section
variable (c : Dev nD) (i : grid0.Coords) (arg4 : Memref sig .tc .vmem S1024x2048 .f32) (harg4 : arg4.IsWhole) (arg5 : Memref sig .tc .vmem S1x2048 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 T1 : S40.Idx → Elt Bits .i32)
  (x0 : S1024x2048.Idx → Elt Bits .f32) (x1 : S1x2048.Idx → Elt Bits .f32) (x2 : S1x2048x256.Idx → Elt Bits .f32) (x3 : S1x2048x256.Idx → Elt Bits .f32) (x4 : S1x256x2048.Idx → Elt Bits .f32) (p q : S512x2048.Idx → Elt Bits .f32) (y5 : S1024x2048.Idx → Elt Bits .f32) (xa0 : Buf (Elt Bits) ((c : Thread nD τ).loc cc0_scratch0))

/-- What the rows' buffer holds of the tile: the normalised rows of each half in use. -/
def Good (l0 l1 : Bool) (n0 n1 : S512x2048.Idx → Elt Bits .bf16) (a : Buf (Elt Bits) ((c : Thread nD τ).loc cc0_scratch0)) : Prop :=
  (l0 = true → View.readAt (Elt Bits) sc0.view RA.toLoadRect a = n0) ∧ (l1 = true → View.readAt (Elt Bits) sc0.view RB.toLoadRect a = n1)

/-- The body's call. -/
abbrev callB : Prog (TpuEff nD τ sig (Elt Bits) Λ₀ .tc) PUnit :=
  cc0_swiglu i tb0 (Memref.isWhole_whole _) tb1 (Memref.isWhole_whole _) arg4 harg4 arg5 harg5 arg6 harg6 arg7 harg7 arg8 harg8 arg9 harg9 sc0 (Memref.isWhole_whole _)

set_option maxHeartbeats 2000000 in
theorem rawA (h1 : k0_cond1 i (wd T1 i) = 1#1) (h2 : ¬k0_cond2 i (wd T1 i) = 1#1) (h3 : ¬k0_cond3 (wd T1 i) = 1#1) : (runA c i arg4 harg4 arg5 harg5 arg6 harg6 arg7 harg7 arg8 harg8 arg9 harg9 T0 T1 x0 x1 x2 x3 x4 y5 xa0 h1 h2 h3).1 = [⟨RB, EX (View.readAt (Elt Bits) arg6.view (Rect.unit ![0, 0, 0] S1x2048x256.size inb_S1x2048x256_S1x2048x256_0_0_0).toLoadRect (arg6.view.rep x2)) (View.readAt (Elt Bits) arg7.view (Rect.unit ![0, 0, 0] S1x2048x256.size inb_S1x2048x256_S1x2048x256_0_0_0).toLoadRect (arg7.view.rep x3)) (View.readAt (Elt Bits) arg8.view (Rect.unit ![0, 0, 0] S1x256x2048.size inb_S1x256x2048_S1x256x2048_0_0_0).toLoadRect (arg8.view.rep x4)) (sc0.view.readCov [⟨RB, (XN (View.readAt (Elt Bits) arg4.view RB.toLoadRect (arg4.view.rep x0)) (View.readAt (Elt Bits) arg5.view (Rect.unit ![0, 0] S1x2048.size inb_S1x2048_S1x2048_0_0).toLoadRect (arg5.view.rep x1)))⟩, ⟨RA, (XN (View.readAt (Elt Bits) arg4.view RA.toLoadRect (arg4.view.rep x0)) (View.readAt (Elt Bits) arg5.view (Rect.unit ![0, 0] S1x2048.size inb_S1x2048_S1x2048_0_0).toLoadRect (arg5.view.rep x1)))⟩] RB.toLoadRect)⟩, ⟨RA, EX (View.readAt (Elt Bits) arg6.view (Rect.unit ![0, 0, 0] S1x2048x256.size inb_S1x2048x256_S1x2048x256_0_0_0).toLoadRect (arg6.view.rep x2)) (View.readAt (Elt Bits) arg7.view (Rect.unit ![0, 0, 0] S1x2048x256.size inb_S1x2048x256_S1x2048x256_0_0_0).toLoadRect (arg7.view.rep x3)) (View.readAt (Elt Bits) arg8.view (Rect.unit ![0, 0, 0] S1x256x2048.size inb_S1x256x2048_S1x256x2048_0_0_0).toLoadRect (arg8.view.rep x4)) (sc0.view.readCov [⟨RA, (XN (View.readAt (Elt Bits) arg4.view RA.toLoadRect (arg4.view.rep x0)) (View.readAt (Elt Bits) arg5.view (Rect.unit ![0, 0] S1x2048.size inb_S1x2048_S1x2048_0_0).toLoadRect (arg5.view.rep x1)))⟩] RA.toLoadRect)⟩] := by
  rfl

set_option maxHeartbeats 2000000 in
theorem rawB (h1 : ¬k0_cond1 i (wd T1 i) = 1#1) (h2 : k0_cond2 i (wd T1 i) = 1#1) (h3 : ¬k0_cond3 (wd T1 i) = 1#1) : (runB c i arg4 harg4 arg5 harg5 arg6 harg6 arg7 harg7 arg8 harg8 arg9 harg9 T0 T1 x0 x1 x2 x3 x4 y5 xa0 h1 h2 h3).1 = [⟨RB, k0_pay27 (F := Bits) (View.readAt (Elt Bits) arg6.view (Rect.unit ![0, 0, 0] S1x2048x256.size inb_S1x2048x256_S1x2048x256_0_0_0).toLoadRect (arg6.view.rep x2)) (View.readAt (Elt Bits) arg7.view (Rect.unit ![0, 0, 0] S1x2048x256.size inb_S1x2048x256_S1x2048x256_0_0_0).toLoadRect (arg7.view.rep x3)) (View.readAt (Elt Bits) arg8.view (Rect.unit ![0, 0, 0] S1x256x2048.size inb_S1x256x2048_S1x256x2048_0_0_0).toLoadRect (arg8.view.rep x4)) (View.readAt (Elt Bits) arg9.view RB.toLoadRect (harg9.unread y5)) (View.readAt (Elt Bits) sc0.view RB.toLoadRect xa0)⟩, ⟨RA, k0_pay27 (F := Bits) (View.readAt (Elt Bits) arg6.view (Rect.unit ![0, 0, 0] S1x2048x256.size inb_S1x2048x256_S1x2048x256_0_0_0).toLoadRect (arg6.view.rep x2)) (View.readAt (Elt Bits) arg7.view (Rect.unit ![0, 0, 0] S1x2048x256.size inb_S1x2048x256_S1x2048x256_0_0_0).toLoadRect (arg7.view.rep x3)) (View.readAt (Elt Bits) arg8.view (Rect.unit ![0, 0, 0] S1x256x2048.size inb_S1x256x2048_S1x256x2048_0_0_0).toLoadRect (arg8.view.rep x4)) (View.readAt (Elt Bits) arg9.view RA.toLoadRect (harg9.unread y5)) (View.readAt (Elt Bits) sc0.view RA.toLoadRect xa0)⟩] := by
  rfl

set_option maxHeartbeats 2000000 in
theorem rawC (h1 : ¬k0_cond1 i (wd T1 i) = 1#1) (h2 : ¬k0_cond2 i (wd T1 i) = 1#1) (h3 : k0_cond3 (wd T1 i) = 1#1) (h4 : k0_cond4 i (wd T1 i) = 1#1) (h5 : ¬k0_cond5 i (wd T1 i) = 1#1) (h6 : ¬k0_cond6 i (wd T1 i) = 1#1) (h7 : ¬k0_cond7 i (wd T1 i) = 1#1) (h8 : ¬k0_cond8 i (wd T1 i) = 1#1) (h9 : k0_cond9 i (wd T1 i) = 1#1) : (runC c i arg4 harg4 arg5 harg5 arg6 harg6 arg7 harg7 arg8 harg8 arg9 harg9 T0 T1 x0 x1 x2 x3 x4 y5 xa0 h1 h2 h3 h4 h5 h6 h7 h8 h9).1 = [⟨RB, k0_pay4 (F := Bits)⟩, ⟨RA, EX (View.readAt (Elt Bits) arg6.view (Rect.unit ![0, 0, 0] S1x2048x256.size inb_S1x2048x256_S1x2048x256_0_0_0).toLoadRect (arg6.view.rep x2)) (View.readAt (Elt Bits) arg7.view (Rect.unit ![0, 0, 0] S1x2048x256.size inb_S1x2048x256_S1x2048x256_0_0_0).toLoadRect (arg7.view.rep x3)) (View.readAt (Elt Bits) arg8.view (Rect.unit ![0, 0, 0] S1x256x2048.size inb_S1x256x2048_S1x256x2048_0_0_0).toLoadRect (arg8.view.rep x4)) (sc0.view.readCov [⟨RA, (XN (View.readAt (Elt Bits) arg4.view RA.toLoadRect (arg4.view.rep x0)) (View.readAt (Elt Bits) arg5.view (Rect.unit ![0, 0] S1x2048.size inb_S1x2048_S1x2048_0_0).toLoadRect (arg5.view.rep x1)))⟩] RA.toLoadRect)⟩] := by
  rfl

set_option maxHeartbeats 2000000 in
theorem rawD (h1 : ¬k0_cond1 i (wd T1 i) = 1#1) (h2 : ¬k0_cond2 i (wd T1 i) = 1#1) (h3 : k0_cond3 (wd T1 i) = 1#1) (h4 : ¬k0_cond4 i (wd T1 i) = 1#1) (h5 : k0_cond5 i (wd T1 i) = 1#1) (h6 : ¬k0_cond6 i (wd T1 i) = 1#1) (h7 : ¬k0_cond7 i (wd T1 i) = 1#1) (h8 : ¬k0_cond8 i (wd T1 i) = 1#1) (h9 : ¬k0_cond9 i (wd T1 i) = 1#1) : (runD c i arg4 harg4 arg5 harg5 arg6 harg6 arg7 harg7 arg8 harg8 arg9 harg9 T0 T1 x0 x1 x2 x3 x4 y5 xa0 h1 h2 h3 h4 h5 h6 h7 h8 h9).1 = [⟨RA, k0_pay27 (F := Bits) (View.readAt (Elt Bits) arg6.view (Rect.unit ![0, 0, 0] S1x2048x256.size inb_S1x2048x256_S1x2048x256_0_0_0).toLoadRect (arg6.view.rep x2)) (View.readAt (Elt Bits) arg7.view (Rect.unit ![0, 0, 0] S1x2048x256.size inb_S1x2048x256_S1x2048x256_0_0_0).toLoadRect (arg7.view.rep x3)) (View.readAt (Elt Bits) arg8.view (Rect.unit ![0, 0, 0] S1x256x2048.size inb_S1x256x2048_S1x256x2048_0_0_0).toLoadRect (arg8.view.rep x4)) (View.readAt (Elt Bits) arg9.view RA.toLoadRect (harg9.unread y5)) (View.readAt (Elt Bits) sc0.view RA.toLoadRect xa0)⟩] := by
  rfl

set_option maxHeartbeats 2000000 in
theorem rawE (h1 : ¬k0_cond1 i (wd T1 i) = 1#1) (h2 : ¬k0_cond2 i (wd T1 i) = 1#1) (h3 : k0_cond3 (wd T1 i) = 1#1) (h4 : ¬k0_cond4 i (wd T1 i) = 1#1) (h5 : ¬k0_cond5 i (wd T1 i) = 1#1) (h6 : k0_cond6 i (wd T1 i) = 1#1) (h7 : ¬k0_cond7 i (wd T1 i) = 1#1) (h8 : ¬k0_cond8 i (wd T1 i) = 1#1) (h9 : k0_cond9 i (wd T1 i) = 1#1) : (runE c i arg4 harg4 arg5 harg5 arg6 harg6 arg7 harg7 arg8 harg8 arg9 harg9 T0 T1 x0 x1 x2 x3 x4 y5 xa0 h1 h2 h3 h4 h5 h6 h7 h8 h9).1 = [⟨RB, k0_pay4 (F := Bits)⟩, ⟨RA, k0_pay4 (F := Bits)⟩] := by
  rfl

set_option maxHeartbeats 400000 in
theorem rawSA (h1 : k0_cond1 i (wd T1 i) = 1#1) (h2 : ¬k0_cond2 i (wd T1 i) = 1#1) (h3 : ¬k0_cond3 (wd T1 i) = 1#1) : (runA c i arg4 harg4 arg5 harg5 arg6 harg6 arg7 harg7 arg8 harg8 arg9 harg9 T0 T1 x0 x1 x2 x3 x4 y5 xa0 h1 h2 h3).2.1 = [⟨RB, (XN (View.readAt (Elt Bits) arg4.view RB.toLoadRect (arg4.view.rep x0)) (View.readAt (Elt Bits) arg5.view (Rect.unit ![0, 0] S1x2048.size inb_S1x2048_S1x2048_0_0).toLoadRect (arg5.view.rep x1)))⟩, ⟨RA, (XN (View.readAt (Elt Bits) arg4.view RA.toLoadRect (arg4.view.rep x0)) (View.readAt (Elt Bits) arg5.view (Rect.unit ![0, 0] S1x2048.size inb_S1x2048_S1x2048_0_0).toLoadRect (arg5.view.rep x1)))⟩] := rfl

set_option maxHeartbeats 400000 in
theorem rawSC (h1 : ¬k0_cond1 i (wd T1 i) = 1#1) (h2 : ¬k0_cond2 i (wd T1 i) = 1#1) (h3 : k0_cond3 (wd T1 i) = 1#1) (h4 : k0_cond4 i (wd T1 i) = 1#1) (h5 : ¬k0_cond5 i (wd T1 i) = 1#1) (h6 : ¬k0_cond6 i (wd T1 i) = 1#1) (h7 : ¬k0_cond7 i (wd T1 i) = 1#1) (h8 : ¬k0_cond8 i (wd T1 i) = 1#1) (h9 : k0_cond9 i (wd T1 i) = 1#1) : (runC c i arg4 harg4 arg5 harg5 arg6 harg6 arg7 harg7 arg8 harg8 arg9 harg9 T0 T1 x0 x1 x2 x3 x4 y5 xa0 h1 h2 h3 h4 h5 h6 h7 h8 h9).2.1 = [⟨RA, (XN (View.readAt (Elt Bits) arg4.view RA.toLoadRect (arg4.view.rep x0)) (View.readAt (Elt Bits) arg5.view (Rect.unit ![0, 0] S1x2048.size inb_S1x2048_S1x2048_0_0).toLoadRect (arg5.view.rep x1)))⟩] := rfl

theorem good_two (f : Buf (Elt Bits) ((c : Thread nD τ).loc cc0_scratch0)) (n0 n1 : S512x2048.Idx → Elt Bits .bf16) :
    Good c true true n0 n1 (sc0.view.writes (Elt Bits) f [⟨RB, n1⟩, ⟨RA, n0⟩]) := by
  have h := read_two sc0.view f n0 n1
  exact ⟨fun _ => (congrArg (fun X => View.ld X RA) h).trans (ld_stitch_RA n0 n1), fun _ => (congrArg (fun X => View.ld X RB) h).trans (ld_stitch_RB n0 n1)⟩
theorem good_one (f : Buf (Elt Bits) ((c : Thread nD τ).loc cc0_scratch0)) (n0 n1 : S512x2048.Idx → Elt Bits .bf16) :
    Good c true false n0 n1 (sc0.view.writes (Elt Bits) f [⟨RA, n0⟩]) :=
  ⟨fun _ => funext fun x => View.read_writes_cons_emb sc0.view f RA n0 [] x, fun h => absurd h (by simp)⟩

theorem pay27_eq (w1 w3 : S1x2048x256.Idx → Elt Bits .f32) (w2 : S1x256x2048.Idx → Elt Bits .f32) (o : S512x2048.Idx → Elt Bits .f32) (xn : S512x2048.Idx → Elt Bits .bf16) :
    k0_pay27 (F := Bits) w1 w3 w2 o xn = addf (F := Bits) (φ := .f32) o (EX w1 w3 w2 xn) := by
  have h : k0_pay27 (F := Bits) w1 w3 w2 o xn = addf (F := Bits) (φ := .f32) (shapeCast S512x2048 o shapeCasts_S512x2048_S512x2048) (EX w1 w3 w2 xn) := rfl
  rw [h, shapeCast_self]

set_option maxHeartbeats 400000 in
/-- The body where no row in use, a later slice. -/
theorem stepF (h1 : ¬(k0_cond1 i (wd T1 i) = 1#1)) (h2 : ¬(k0_cond2 i (wd T1 i) = 1#1)) (h3 : k0_cond3 (wd T1 i) = 1#1) (h4 : ¬(k0_cond4 i (wd T1 i) = 1#1)) (h5 : ¬(k0_cond5 i (wd T1 i) = 1#1)) (h6 : ¬(k0_cond6 i (wd T1 i) = 1#1)) (h7 : ¬(k0_cond7 i (wd T1 i) = 1#1)) (h8 : ¬(k0_cond8 i (wd T1 i) = 1#1)) (h9 : ¬(k0_cond9 i (wd T1 i) = 1#1))
    (hg : Good c false false (XN (View.ld x0 RA) x1) (XN (View.ld x0 RB) x1) xa0) (K : PUnit → sProp 𝕄) :
    iprop(ins c arg4 arg5 arg6 arg7 arg8 T0 T1 x0 x1 x2 x3 x4 ∗ owns (c : Thread nD τ) arg9 fullShare (stitch p q) ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt false false x2 x3 x4 (XN (View.ld x0 RA) x1) p) (nxt false false x2 x3 x4 (XN (View.ld x0 RB) x1) q))
          ∗ (∃ a, ⌜Good c false false (XN (View.ld x0 RA) x1) (XN (View.ld x0 RB) x1) a⌝ ∗ (sc0.view.loc (c : Thread nD τ) ↦{fullShare} a))) -∗ K ⟨⟩))
      ⊢ wp frame (wpE (defs₀ (F := Bits)) Variants.none c none) Set.univ (callB i arg4 harg4 arg5 harg5 arg6 harg6 arg7 harg7 arg8 harg8 arg9 harg9) K := by
  iintro ⟨HI, HO, HS, Hk⟩
  iapply ((runF c i arg4 harg4 arg5 harg5 arg6 harg6 arg7 harg7 arg8 harg8 arg9 harg9 T0 T1 x0 x1 x2 x3 x4 (stitch p q) xa0 h1 h2 h3 h4 h5 h6 h7 h8 h9).2 K)
  isplitl [HI]; · iexact HI
  isplitl [HO]; · iexact HO
  isplitl [HS]; · iexact HS
  iintro ⟨HI, HO, HS⟩
  iapply Hk
  isplitl [HI]; · iexact HI
  isplitl [HO]
  · iexact HO
  iexists _; isplitr; swap
  · iexact HS
  · ipureintro
    exact hg

set_option maxHeartbeats 400000 in
/-- The body where no row in use, the first slice. -/
theorem stepE (h1 : ¬(k0_cond1 i (wd T1 i) = 1#1)) (h2 : ¬(k0_cond2 i (wd T1 i) = 1#1)) (h3 : k0_cond3 (wd T1 i) = 1#1) (h4 : ¬(k0_cond4 i (wd T1 i) = 1#1)) (h5 : ¬(k0_cond5 i (wd T1 i) = 1#1)) (h6 : k0_cond6 i (wd T1 i) = 1#1) (h7 : ¬(k0_cond7 i (wd T1 i) = 1#1)) (h8 : ¬(k0_cond8 i (wd T1 i) = 1#1)) (h9 : k0_cond9 i (wd T1 i) = 1#1) (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt false true x2 x3 x4 (XN (View.ld x0 RA) x1) p) (nxt false true x2 x3 x4 (XN (View.ld x0 RB) x1) q))
          ∗ (∃ a, ⌜Good c false false (XN (View.ld x0 RA) x1) (XN (View.ld x0 RB) x1) a⌝ ∗ (sc0.view.loc (c : Thread nD τ) ↦{fullShare} a))) -∗ K ⟨⟩))
      ⊢ wp frame (wpE (defs₀ (F := Bits)) Variants.none c none) Set.univ (callB i arg4 harg4 arg5 harg5 arg6 harg6 arg7 harg7 arg8 harg8 arg9 harg9) K := by
  have hraw : _ = ([⟨RB, nxt false true x2 x3 x4 (XN (View.ld x0 RB) x1) q⟩, ⟨RA, nxt false true x2 x3 x4 (XN (View.ld x0 RA) x1) p⟩] : List (View.Piece (Elt Bits) S1024x2048 .f32)) := rawE c i arg4 harg4 arg5 harg5 arg6 harg6 arg7 harg7 arg8 harg8 arg9 harg9 T0 T1 x0 x1 x2 x3 x4 y5 xa0 h1 h2 h3 h4 h5 h6 h7 h8 h9
  iintro ⟨HI, HO, HS, Hk⟩
  iapply ((runE c i arg4 harg4 arg5 harg5 arg6 harg6 arg7 harg7 arg8 harg8 arg9 harg9 T0 T1 x0 x1 x2 x3 x4 y5 xa0 h1 h2 h3 h4 h5 h6 h7 h8 h9).2 K)
  isplitl [HI]; · iexact HI
  isplitl [HO]; · iexact HO
  isplitl [HS]; · iexact HS
  iintro ⟨HI, ⟨%f, HO⟩, HS⟩
  iapply Hk
  isplitl [HI]; · iexact HI
  isplitl [HO]
  · unfold owns; iexists _; isplitr; swap
    · iexact HO
    · ipureintro
      exact (congrArg (fun L => arg9.view.read (Elt Bits) (arg9.view.writes (Elt Bits) f L)) hraw).trans (read_two _ _ _ _)
  iexists _; isplitr; swap
  · iexact HS
  · ipureintro
    exact ⟨fun h => absurd h (by simp), fun h => absurd h (by simp)⟩

set_option maxHeartbeats 400000 in
/-- The body where some rows in use, a later slice. -/
theorem stepD (h1 : ¬(k0_cond1 i (wd T1 i) = 1#1)) (h2 : ¬(k0_cond2 i (wd T1 i) = 1#1)) (h3 : k0_cond3 (wd T1 i) = 1#1) (h4 : ¬(k0_cond4 i (wd T1 i) = 1#1)) (h5 : k0_cond5 i (wd T1 i) = 1#1) (h6 : ¬(k0_cond6 i (wd T1 i) = 1#1)) (h7 : ¬(k0_cond7 i (wd T1 i) = 1#1)) (h8 : ¬(k0_cond8 i (wd T1 i) = 1#1)) (h9 : ¬(k0_cond9 i (wd T1 i) = 1#1))
    (hg : Good c true false (XN (View.ld x0 RA) x1) (XN (View.ld x0 RB) x1) xa0) (K : PUnit → sProp 𝕄) :
    iprop(ins c arg4 arg5 arg6 arg7 arg8 T0 T1 x0 x1 x2 x3 x4 ∗ owns (c : Thread nD τ) arg9 fullShare (stitch p q) ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt true false x2 x3 x4 (XN (View.ld x0 RA) x1) p) (nxt false false x2 x3 x4 (XN (View.ld x0 RB) x1) q))
          ∗ (∃ a, ⌜Good c true false (XN (View.ld x0 RA) x1) (XN (View.ld x0 RB) x1) a⌝ ∗ (sc0.view.loc (c : Thread nD τ) ↦{fullShare} a))) -∗ K ⟨⟩))
      ⊢ wp frame (wpE (defs₀ (F := Bits)) Variants.none c none) Set.univ (callB i arg4 harg4 arg5 harg5 arg6 harg6 arg7 harg7 arg8 harg8 arg9 harg9) K := by
  have eq2 : View.readAt (Elt Bits) arg6.view (Rect.unit ![0, 0, 0] S1x2048x256.size inb_S1x2048x256_S1x2048x256_0_0_0).toLoadRect (arg6.view.rep x2) = x2 := View.readAt_rep_full _ _ _
  have eq3 : View.readAt (Elt Bits) arg7.view (Rect.unit ![0, 0, 0] S1x2048x256.size inb_S1x2048x256_S1x2048x256_0_0_0).toLoadRect (arg7.view.rep x3) = x3 := View.readAt_rep_full _ _ _
  have eq4 : View.readAt (Elt Bits) arg8.view (Rect.unit ![0, 0, 0] S1x256x2048.size inb_S1x256x2048_S1x256x2048_0_0_0).toLoadRect (arg8.view.rep x4) = x4 := View.readAt_rep_full _ _ _
  have hraw : _ = ([⟨RA, nxt true false x2 x3 x4 (XN (View.ld x0 RA) x1) p⟩] : List (View.Piece (Elt Bits) S1024x2048 .f32)) := (rawD c i arg4 harg4 arg5 harg5 arg6 harg6 arg7 harg7 arg8 harg8 arg9 harg9 T0 T1 x0 x1 x2 x3 x4 (stitch p q) xa0 h1 h2 h3 h4 h5 h6 h7 h8 h9).trans (by rw [eq2, eq3, eq4, pay27_eq, View.readAt_eq_ld _ (harg9.unread _), harg9.read_unread, ld_stitch_RA, hg.1 rfl]; rfl)
  iintro ⟨HI, HO, HS, Hk⟩
  iapply ((runD c i arg4 harg4 arg5 harg5 arg6 harg6 arg7 harg7 arg8 harg8 arg9 harg9 T0 T1 x0 x1 x2 x3 x4 (stitch p q) xa0 h1 h2 h3 h4 h5 h6 h7 h8 h9).2 K)
  isplitl [HI]; · iexact HI
  isplitl [HO]; · iexact HO
  isplitl [HS]; · iexact HS
  iintro ⟨HI, HO, HS⟩
  iapply Hk
  isplitl [HI]; · iexact HI
  isplitl [HO]
  · unfold owns; iexists _; isplitr; swap
    · iexact HO
    · ipureintro
      exact (congrArg (fun L => arg9.view.read (Elt Bits) (arg9.view.writes (Elt Bits) (harg9.unread (stitch p q)) L)) hraw).trans (read_one _ _ p _ q (harg9.read_unread _))
  iexists _; isplitr; swap
  · iexact HS
  · ipureintro
    exact hg

set_option maxHeartbeats 400000 in
/-- The body where some rows in use, the first slice. -/
theorem stepC (h1 : ¬(k0_cond1 i (wd T1 i) = 1#1)) (h2 : ¬(k0_cond2 i (wd T1 i) = 1#1)) (h3 : k0_cond3 (wd T1 i) = 1#1) (h4 : k0_cond4 i (wd T1 i) = 1#1) (h5 : ¬(k0_cond5 i (wd T1 i) = 1#1)) (h6 : ¬(k0_cond6 i (wd T1 i) = 1#1)) (h7 : ¬(k0_cond7 i (wd T1 i) = 1#1)) (h8 : ¬(k0_cond8 i (wd T1 i) = 1#1)) (h9 : k0_cond9 i (wd T1 i) = 1#1) (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt true true x2 x3 x4 (XN (View.ld x0 RA) x1) p) (nxt false true x2 x3 x4 (XN (View.ld x0 RB) x1) q))
          ∗ (∃ a, ⌜Good c true false (XN (View.ld x0 RA) x1) (XN (View.ld x0 RB) x1) a⌝ ∗ (sc0.view.loc (c : Thread nD τ) ↦{fullShare} a))) -∗ K ⟨⟩))
      ⊢ wp frame (wpE (defs₀ (F := Bits)) Variants.none c none) Set.univ (callB i arg4 harg4 arg5 harg5 arg6 harg6 arg7 harg7 arg8 harg8 arg9 harg9) K := by
  have eq2 : View.readAt (Elt Bits) arg6.view (Rect.unit ![0, 0, 0] S1x2048x256.size inb_S1x2048x256_S1x2048x256_0_0_0).toLoadRect (arg6.view.rep x2) = x2 := View.readAt_rep_full _ _ _
  have eq3 : View.readAt (Elt Bits) arg7.view (Rect.unit ![0, 0, 0] S1x2048x256.size inb_S1x2048x256_S1x2048x256_0_0_0).toLoadRect (arg7.view.rep x3) = x3 := View.readAt_rep_full _ _ _
  have eq4 : View.readAt (Elt Bits) arg8.view (Rect.unit ![0, 0, 0] S1x256x2048.size inb_S1x256x2048_S1x256x2048_0_0_0).toLoadRect (arg8.view.rep x4) = x4 := View.readAt_rep_full _ _ _
  have eq1 : View.readAt (Elt Bits) arg5.view (Rect.unit ![0, 0] S1x2048.size inb_S1x2048_S1x2048_0_0).toLoadRect (arg5.view.rep x1) = x1 := View.readAt_rep_full _ _ _
  have eq0A : View.readAt (Elt Bits) arg4.view RA.toLoadRect (arg4.view.rep x0) = View.ld x0 RA := by rw [View.readAt_rep]
  have eq0B : View.readAt (Elt Bits) arg4.view RB.toLoadRect (arg4.view.rep x0) = View.ld x0 RB := by rw [View.readAt_rep]
  have hS : _ = ([⟨RA, (XN (View.ld x0 RA) x1)⟩] : List (View.Piece (Elt Bits) S1024x2048 .bf16)) := (rawSC c i arg4 harg4 arg5 harg5 arg6 harg6 arg7 harg7 arg8 harg8 arg9 harg9 T0 T1 x0 x1 x2 x3 x4 y5 xa0 h1 h2 h3 h4 h5 h6 h7 h8 h9).trans (by rw [eq0A, eq1])
  have hraw : _ = ([⟨RB, nxt false true x2 x3 x4 (XN (View.ld x0 RB) x1) q⟩, ⟨RA, nxt true true x2 x3 x4 (XN (View.ld x0 RA) x1) p⟩] : List (View.Piece (Elt Bits) S1024x2048 .f32)) := (rawC c i arg4 harg4 arg5 harg5 arg6 harg6 arg7 harg7 arg8 harg8 arg9 harg9 T0 T1 x0 x1 x2 x3 x4 y5 xa0 h1 h2 h3 h4 h5 h6 h7 h8 h9).trans (by rw [eq2, eq3, eq4, View.readCov_cons_toLoadRect, eq0A, eq1]; rfl)
  iintro ⟨HI, HO, HS, Hk⟩
  iapply ((runC c i arg4 harg4 arg5 harg5 arg6 harg6 arg7 harg7 arg8 harg8 arg9 harg9 T0 T1 x0 x1 x2 x3 x4 y5 xa0 h1 h2 h3 h4 h5 h6 h7 h8 h9).2.2 K)
  isplitl [HI]; · iexact HI
  isplitl [HO]; · iexact HO
  isplitl [HS]; · iexact HS
  iintro ⟨HI, ⟨%f, HO⟩, ⟨%fs, HS⟩⟩
  iapply Hk
  isplitl [HI]; · iexact HI
  isplitl [HO]
  · unfold owns; iexists _; isplitr; swap
    · iexact HO
    · ipureintro
      exact (congrArg (fun L => arg9.view.read (Elt Bits) (arg9.view.writes (Elt Bits) f L)) hraw).trans (read_two _ _ _ _)
  iexists _; isplitr; swap
  · iexact HS
  · ipureintro
    exact (congrArg (fun L => Good c true false (XN (View.ld x0 RA) x1) (XN (View.ld x0 RB) x1) (sc0.view.writes (Elt Bits) fs L)) hS).mpr (good_one c _ _ _)

set_option maxHeartbeats 400000 in
/-- The body where all rows in use, a later slice. -/
theorem stepB (h1 : ¬(k0_cond1 i (wd T1 i) = 1#1)) (h2 : k0_cond2 i (wd T1 i) = 1#1) (h3 : ¬(k0_cond3 (wd T1 i) = 1#1))
    (hg : Good c true true (XN (View.ld x0 RA) x1) (XN (View.ld x0 RB) x1) xa0) (K : PUnit → sProp 𝕄) :
    iprop(ins c arg4 arg5 arg6 arg7 arg8 T0 T1 x0 x1 x2 x3 x4 ∗ owns (c : Thread nD τ) arg9 fullShare (stitch p q) ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt true false x2 x3 x4 (XN (View.ld x0 RA) x1) p) (nxt true false x2 x3 x4 (XN (View.ld x0 RB) x1) q))
          ∗ (∃ a, ⌜Good c true true (XN (View.ld x0 RA) x1) (XN (View.ld x0 RB) x1) a⌝ ∗ (sc0.view.loc (c : Thread nD τ) ↦{fullShare} a))) -∗ K ⟨⟩))
      ⊢ wp frame (wpE (defs₀ (F := Bits)) Variants.none c none) Set.univ (callB i arg4 harg4 arg5 harg5 arg6 harg6 arg7 harg7 arg8 harg8 arg9 harg9) K := by
  have eq2 : View.readAt (Elt Bits) arg6.view (Rect.unit ![0, 0, 0] S1x2048x256.size inb_S1x2048x256_S1x2048x256_0_0_0).toLoadRect (arg6.view.rep x2) = x2 := View.readAt_rep_full _ _ _
  have eq3 : View.readAt (Elt Bits) arg7.view (Rect.unit ![0, 0, 0] S1x2048x256.size inb_S1x2048x256_S1x2048x256_0_0_0).toLoadRect (arg7.view.rep x3) = x3 := View.readAt_rep_full _ _ _
  have eq4 : View.readAt (Elt Bits) arg8.view (Rect.unit ![0, 0, 0] S1x256x2048.size inb_S1x256x2048_S1x256x2048_0_0_0).toLoadRect (arg8.view.rep x4) = x4 := View.readAt_rep_full _ _ _
  have hraw : _ = ([⟨RB, nxt true false x2 x3 x4 (XN (View.ld x0 RB) x1) q⟩, ⟨RA, nxt true false x2 x3 x4 (XN (View.ld x0 RA) x1) p⟩] : List (View.Piece (Elt Bits) S1024x2048 .f32)) := (rawB c i arg4 harg4 arg5 harg5 arg6 harg6 arg7 harg7 arg8 harg8 arg9 harg9 T0 T1 x0 x1 x2 x3 x4 (stitch p q) xa0 h1 h2 h3).trans (by rw [eq2, eq3, eq4, pay27_eq, pay27_eq, View.readAt_eq_ld _ (harg9.unread _) RA, View.readAt_eq_ld _ (harg9.unread _) RB, harg9.read_unread, ld_stitch_RA, ld_stitch_RB, hg.1 rfl, hg.2 rfl]; rfl)
  iintro ⟨HI, HO, HS, Hk⟩
  iapply ((runB c i arg4 harg4 arg5 harg5 arg6 harg6 arg7 harg7 arg8 harg8 arg9 harg9 T0 T1 x0 x1 x2 x3 x4 (stitch p q) xa0 h1 h2 h3).2 K)
  isplitl [HI]; · iexact HI
  isplitl [HO]; · iexact HO
  isplitl [HS]; · iexact HS
  iintro ⟨HI, ⟨%f, HO⟩, HS⟩
  iapply Hk
  isplitl [HI]; · iexact HI
  isplitl [HO]
  · unfold owns; iexists _; isplitr; swap
    · iexact HO
    · ipureintro
      exact (congrArg (fun L => arg9.view.read (Elt Bits) (arg9.view.writes (Elt Bits) f L)) hraw).trans (read_two _ _ _ _)
  iexists _; isplitr; swap
  · iexact HS
  · ipureintro
    exact hg

set_option maxHeartbeats 400000 in
/-- The body where all rows in use, the first slice. -/
theorem stepA (h1 : k0_cond1 i (wd T1 i) = 1#1) (h2 : ¬(k0_cond2 i (wd T1 i) = 1#1)) (h3 : ¬(k0_cond3 (wd T1 i) = 1#1)) (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt true true x2 x3 x4 (XN (View.ld x0 RA) x1) p) (nxt true true x2 x3 x4 (XN (View.ld x0 RB) x1) q))
          ∗ (∃ a, ⌜Good c true true (XN (View.ld x0 RA) x1) (XN (View.ld x0 RB) x1) a⌝ ∗ (sc0.view.loc (c : Thread nD τ) ↦{fullShare} a))) -∗ K ⟨⟩))
      ⊢ wp frame (wpE (defs₀ (F := Bits)) Variants.none c none) Set.univ (callB i arg4 harg4 arg5 harg5 arg6 harg6 arg7 harg7 arg8 harg8 arg9 harg9) K := by
  have eq2 : View.readAt (Elt Bits) arg6.view (Rect.unit ![0, 0, 0] S1x2048x256.size inb_S1x2048x256_S1x2048x256_0_0_0).toLoadRect (arg6.view.rep x2) = x2 := View.readAt_rep_full _ _ _
  have eq3 : View.readAt (Elt Bits) arg7.view (Rect.unit ![0, 0, 0] S1x2048x256.size inb_S1x2048x256_S1x2048x256_0_0_0).toLoadRect (arg7.view.rep x3) = x3 := View.readAt_rep_full _ _ _
  have eq4 : View.readAt (Elt Bits) arg8.view (Rect.unit ![0, 0, 0] S1x256x2048.size inb_S1x256x2048_S1x256x2048_0_0_0).toLoadRect (arg8.view.rep x4) = x4 := View.readAt_rep_full _ _ _
  have eq1 : View.readAt (Elt Bits) arg5.view (Rect.unit ![0, 0] S1x2048.size inb_S1x2048_S1x2048_0_0).toLoadRect (arg5.view.rep x1) = x1 := View.readAt_rep_full _ _ _
  have eq0A : View.readAt (Elt Bits) arg4.view RA.toLoadRect (arg4.view.rep x0) = View.ld x0 RA := by rw [View.readAt_rep]
  have eq0B : View.readAt (Elt Bits) arg4.view RB.toLoadRect (arg4.view.rep x0) = View.ld x0 RB := by rw [View.readAt_rep]
  have hS : _ = ([⟨RB, (XN (View.ld x0 RB) x1)⟩, ⟨RA, (XN (View.ld x0 RA) x1)⟩] : List (View.Piece (Elt Bits) S1024x2048 .bf16)) := (rawSA c i arg4 harg4 arg5 harg5 arg6 harg6 arg7 harg7 arg8 harg8 arg9 harg9 T0 T1 x0 x1 x2 x3 x4 y5 xa0 h1 h2 h3).trans (by rw [eq0A, eq0B, eq1])
  have hraw : _ = ([⟨RB, nxt true true x2 x3 x4 (XN (View.ld x0 RB) x1) q⟩, ⟨RA, nxt true true x2 x3 x4 (XN (View.ld x0 RA) x1) p⟩] : List (View.Piece (Elt Bits) S1024x2048 .f32)) := (rawA c i arg4 harg4 arg5 harg5 arg6 harg6 arg7 harg7 arg8 harg8 arg9 harg9 T0 T1 x0 x1 x2 x3 x4 y5 xa0 h1 h2 h3).trans (by rw [eq2, eq3, eq4, View.readCov_cons_toLoadRect, View.readCov_cons_toLoadRect, eq0A, eq0B, eq1]; rfl)
  iintro ⟨HI, HO, HS, Hk⟩
  iapply ((runA c i arg4 harg4 arg5 harg5 arg6 harg6 arg7 harg7 arg8 harg8 arg9 harg9 T0 T1 x0 x1 x2 x3 x4 y5 xa0 h1 h2 h3).2.2 K)
  isplitl [HI]; · iexact HI
  isplitl [HO]; · iexact HO
  isplitl [HS]; · iexact HS
  iintro ⟨HI, ⟨%f, HO⟩, ⟨%fs, HS⟩⟩
  iapply Hk
  isplitl [HI]; · iexact HI
  isplitl [HO]
  · unfold owns; iexists _; isplitr; swap
    · iexact HO
    · ipureintro
      exact (congrArg (fun L => arg9.view.read (Elt Bits) (arg9.view.writes (Elt Bits) f L)) hraw).trans (read_two _ _ _ _)
  iexists _; isplitr; swap
  · iexact HS
  · ipureintro
    exact (congrArg (fun L => Good c true true (XN (View.ld x0 RA) x1) (XN (View.ld x0 RB) x1) (sc0.view.writes (Elt Bits) fs L)) hS).mpr (good_two c _ _ _)

/-- The body at any point. -/
theorem body_step (j : Bool) (hj : j = decide ((i 1).val = 0)) (v : BitVec 32) (hv : wd T1 i = v)
    (hy : j = false → y5 = stitch p q)
    (ha : j = false → Good c (Cert.Words.lo v) (Cert.Words.hi v) (XN (View.ld x0 RA) x1) (XN (View.ld x0 RB) x1) xa0)
    (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt (Cert.Words.lo v) j x2 x3 x4 (XN (View.ld x0 RA) x1) p) (nxt (Cert.Words.hi v) j x2 x3 x4 (XN (View.ld x0 RB) x1) q))
          ∗ (∃ a, ⌜Good c (Cert.Words.lo v) (Cert.Words.hi v) (XN (View.ld x0 RA) x1) (XN (View.ld x0 RB) x1) a⌝ ∗ (sc0.view.loc (c : Thread nD τ) ↦{fullShare} a))) -∗ K ⟨⟩))
      ⊢ wp frame (wpE (defs₀ (F := Bits)) Variants.none c none) Set.univ (callB i arg4 harg4 arg5 harg5 arg6 harg6 arg7 harg7 arg8 harg8 arg9 harg9) K := by
  subst hv
  have hlh := @Words.lo_of_hi (wd T1 i)
  revert ha
  cases hh : Words.hi (wd T1 i) <;> cases hl : Words.lo (wd T1 i) <;> cases j <;> intro ha
  · obtain rfl := hy rfl
    exact stepF c i arg4 harg4 arg5 harg5 arg6 harg6 arg7 harg7 arg8 harg8 arg9 harg9 T0 T1 x0 x1 x2 x3 x4 p q xa0 (by rw [cond1_eq, Words.ofBool_one]; simp [hh, hl, ← hj]) (by rw [cond2_eq, Words.ofBool_one]; simp [hh, hl, ← hj]) (by rw [cond3_eq, Words.ofBool_one]; simp [hh, hl, ← hj]) (by rw [cond4_eq, Words.ofBool_one]; simp [hh, hl, ← hj]) (by rw [cond5_eq, Words.ofBool_one]; simp [hh, hl, ← hj]) (by rw [cond6_eq, Words.ofBool_one]; simp [hh, hl, ← hj]) (by rw [cond7_eq, Words.ofBool_one]; simp [hh, hl, ← hj]) (by rw [cond8_eq, Words.ofBool_one]; simp [hh, hl, ← hj]) (by rw [cond9_eq, Words.ofBool_one]; simp [hh, hl, ← hj]) (ha rfl) K
  · exact stepE c i arg4 harg4 arg5 harg5 arg6 harg6 arg7 harg7 arg8 harg8 arg9 harg9 T0 T1 x0 x1 x2 x3 x4 p q y5 xa0 (by rw [cond1_eq, Words.ofBool_one]; simp [hh, hl, ← hj]) (by rw [cond2_eq, Words.ofBool_one]; simp [hh, hl, ← hj]) (by rw [cond3_eq, Words.ofBool_one]; simp [hh, hl, ← hj]) (by rw [cond4_eq, Words.ofBool_one]; simp [hh, hl, ← hj]) (by rw [cond5_eq, Words.ofBool_one]; simp [hh, hl, ← hj]) (by rw [cond6_eq, Words.ofBool_one]; simp [hh, hl, ← hj]) (by rw [cond7_eq, Words.ofBool_one]; simp [hh, hl, ← hj]) (by rw [cond8_eq, Words.ofBool_one]; simp [hh, hl, ← hj]) (by rw [cond9_eq, Words.ofBool_one]; simp [hh, hl, ← hj]) K
  · obtain rfl := hy rfl
    exact stepD c i arg4 harg4 arg5 harg5 arg6 harg6 arg7 harg7 arg8 harg8 arg9 harg9 T0 T1 x0 x1 x2 x3 x4 p q xa0 (by rw [cond1_eq, Words.ofBool_one]; simp [hh, hl, ← hj]) (by rw [cond2_eq, Words.ofBool_one]; simp [hh, hl, ← hj]) (by rw [cond3_eq, Words.ofBool_one]; simp [hh, hl, ← hj]) (by rw [cond4_eq, Words.ofBool_one]; simp [hh, hl, ← hj]) (by rw [cond5_eq, Words.ofBool_one]; simp [hh, hl, ← hj]) (by rw [cond6_eq, Words.ofBool_one]; simp [hh, hl, ← hj]) (by rw [cond7_eq, Words.ofBool_one]; simp [hh, hl, ← hj]) (by rw [cond8_eq, Words.ofBool_one]; simp [hh, hl, ← hj]) (by rw [cond9_eq, Words.ofBool_one]; simp [hh, hl, ← hj]) (ha rfl) K
  · exact stepC c i arg4 harg4 arg5 harg5 arg6 harg6 arg7 harg7 arg8 harg8 arg9 harg9 T0 T1 x0 x1 x2 x3 x4 p q y5 xa0 (by rw [cond1_eq, Words.ofBool_one]; simp [hh, hl, ← hj]) (by rw [cond2_eq, Words.ofBool_one]; simp [hh, hl, ← hj]) (by rw [cond3_eq, Words.ofBool_one]; simp [hh, hl, ← hj]) (by rw [cond4_eq, Words.ofBool_one]; simp [hh, hl, ← hj]) (by rw [cond5_eq, Words.ofBool_one]; simp [hh, hl, ← hj]) (by rw [cond6_eq, Words.ofBool_one]; simp [hh, hl, ← hj]) (by rw [cond7_eq, Words.ofBool_one]; simp [hh, hl, ← hj]) (by rw [cond8_eq, Words.ofBool_one]; simp [hh, hl, ← hj]) (by rw [cond9_eq, Words.ofBool_one]; simp [hh, hl, ← hj]) K
  · exact absurd (hlh hh) (by rw [hl]; simp)
  · exact absurd (hlh hh) (by rw [hl]; simp)
  · obtain rfl := hy rfl
    exact stepB c i arg4 harg4 arg5 harg5 arg6 harg6 arg7 harg7 arg8 harg8 arg9 harg9 T0 T1 x0 x1 x2 x3 x4 p q xa0 (by rw [cond1_eq, Words.ofBool_one]; simp [hh, hl, ← hj]) (by rw [cond2_eq, Words.ofBool_one]; simp [hh, hl, ← hj]) (by rw [cond3_eq, Words.ofBool_one]; simp [hh, hl, ← hj]) (ha rfl) K
  · exact stepA c i arg4 harg4 arg5 harg5 arg6 harg6 arg7 harg7 arg8 harg8 arg9 harg9 T0 T1 x0 x1 x2 x3 x4 p q y5 xa0 (by rw [cond1_eq, Words.ofBool_one]; simp [hh, hl, ← hj]) (by rw [cond2_eq, Words.ofBool_one]; simp [hh, hl, ← hj]) (by rw [cond3_eq, Words.ofBool_one]; simp [hh, hl, ← hj]) K

end

end Cert.Kernel2.Sw

end
-- ==== Proof.Sw.FrameK.lean ====
module

public import proofs.«01_k».proof.Proof.Sw.DataK

@[expose] public section

set_option maxRecDepth 16384
set_option Elab.async false

noncomputable section

/-! The body's obligation at every point of the grid, the launch, and the frame claim. -/
namespace Cert.Kernel2.Sw

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (hok : ok0 (F := Bits) (pf m)) (ρ : Dev nD → PrngReg)

attribute [local irreducible] stitch traj step0

set_option maxHeartbeats 800000 in
theorem sound_body (c : Dev nD) (t : Fin (cfgA m hok).N) :
    iprop((dats m hok ρ 0 c).Φ t.castSucc ∗ (dats m hok ρ 0 c).owesAt () t.castSucc
        ∗ (∃ d, owns (c : Thread nD τ) (ms0_0 m hok t) fullShare ((dats m hok ρ 0 c).before (0 : Fin 6) t d))
        ∗ (∃ d, owns (c : Thread nD τ) (ms0_1 m hok t) fullShare ((dats m hok ρ 0 c).before (1 : Fin 6) t d))
        ∗ (∃ d, owns (c : Thread nD τ) (ms0_2 m hok t) fullShare ((dats m hok ρ 0 c).before (2 : Fin 6) t d))
        ∗ (∃ d, owns (c : Thread nD τ) (ms0_3 m hok t) fullShare ((dats m hok ρ 0 c).before (3 : Fin 6) t d))
        ∗ (∃ d, owns (c : Thread nD τ) (ms0_4 m hok t) fullShare ((dats m hok ρ 0 c).before (4 : Fin 6) t d))
        ∗ (∃ d, owns (c : Thread nD τ) (ms0_5 m hok t) fullShare ((dats m hok ρ 0 c).before (5 : Fin 6) t d)))
      ⊢ wp frame (wpE (defs₀ (F := Bits)) Variants.none c none) Set.univ (bodyAt0 m hok t) fun _ =>
          iprop((dats m hok ρ 0 c).Φ t.succ ∗ (dats m hok ρ 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok ρ 0 c).before w t d))
                  | true => owns (c : Thread nD τ) (((cfgA m hok).win w).stage ((cfgA m hok).slots t w)) fullShare ((dats m hok ρ 0 c).after w t)
                | false => owns (c : Thread nD τ) (((cfgA m hok).win w).stage ((cfgA m hok).slots t w)) fullShare ((dats m hok ρ 0 c).after w t)) := by
  rw [bigSep_W0]
  simp only [before0_0, before0_1, before0_2, before0_3, before0_4]
  rewrite [show (dats m hok ρ 0 c).Φ t.succ = Phi m hok ρ c t.succ from rfl, show (dats m hok ρ 0 c).Φ t.castSucc = Phi m hok ρ c t.castSucc from rfl,
    show (dats m hok ρ 0 c).owesAt () t.succ = (dats m hok ρ 0 c).owesAt () t.castSucc from rfl]
  unfold Phi
  iintro ⟨⟨⟨%a0, %ha0, HS0⟩, HT0, HT1⟩, Ho, ⟨%d0, H0⟩, ⟨%d1, H1⟩, ⟨%d2, H2⟩, ⟨%d3, H3⟩, ⟨%d4, H4⟩, ⟨%d5, H5⟩⟩
  iapply (body_at m hok c t (iblk m hok ρ c (0 : Fin 6) t) (iblk m hok ρ c (1 : Fin 6) t) (iblk m hok ρ c (2 : Fin 6) t) (iblk m hok ρ c (3 : Fin 6) t) (iblk m hok ρ c (4 : Fin 6) t)
    (prev0 m hok ρ c t).1 (prev0 m hok ρ c t).2 ((dats m hok ρ 0 c).before (5 : Fin 6) t d5) a0 (before5_of m hok ρ c t d5) (good_of m hok ρ c t a0 ha0) _)
  isplitl [H0 H1 H2 H3 H4 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    iexact HT1
  isplitl [H5]; · iexact H5
  isplitl [HS0]; · iexact HS0
  iintro ⟨⟨H0, H1, H2, H3, H4, HT0, HT1⟩, H5, ⟨%a, %hg, HS0⟩⟩
  isplitl [HS0 HT0 HT1]
  · isplitl [HS0]
    · iexists a; isplitr; swap
      · iexact HS0
      · ipureintro; exact phiGood_succ m hok ρ c t a hg
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply (post5 m hok ρ c t)
  rw [after0_5, traj_eq]
  unfold step0
  iexact H5

/-- The library's body obligation, at every point. -/
theorem body_obligation (c : Dev nD) : BodyObligation (dats m hok ρ 0 c) (defs₀ (F := Bits)) Variants.none () Set.univ := fun t => by
  rw [bigSep_W0]
  exact sound_body m hok ρ c t

/-! ## The launch -/

/-- The rounds library's launch element. -/
def u₀ : UR sig nD τ :=
  initOf (Pipeline.cells (pcs m hok) ((launch0 (F := Bits)).cellOf_inj fun _ => adm m hok))
    (Pipeline.launchToks (pcs m hok) ((launch0 (F := Bits)).cellOf_inj fun _ => adm m hok))

theorem share_eq (c : Dev nD) (w : Fin (cfgA m hok).W) : (dats m hok ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg5) ↦{q 0} v 0) ∗ (((c : Thread nD τ).loc main_arg6) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm m hok).1 ∗ Pipeline.scopedRest spec0 c) ⊢ (dats m hok ρ 0 c).Φ 0 := by
  rw [prefHeld_eq, scopedRest0_eq, show (dats m hok ρ 0 c).Φ 0 = Phi m hok ρ c 0 from rfl]
  unfold Phi
  iintro ⟨-, ⟨HT0, HT1⟩, ⟨%a0, HS0⟩⟩
  isplitl [HS0]
  · iexists a0; isplitr; swap
    · iexact HS0
    · ipureintro; exact phiGood_zero m hok ρ c _
  isplitl [HT0]
  · iexact HT0
  iexact HT1

/-- at the last point it gives the scratch buffers back (`hout`), the tables let go. -/
theorem phiN_exit (c : Dev nD) : (dats m hok ρ 0 c).Φ (Fin.last (cfgA m hok).N) ⊢ iprop(BI.emp ∗ Pipeline.scopedRest spec0 c) := by
  rw [scopedRest0_eq, show (dats m hok ρ 0 c).Φ (Fin.last (cfgA m hok).N) = Phi m hok ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Bits) → Prop := fun r =>
  ∀ c : Dev nD, (∀ w : Fin (cfgA m hok).W, r.2.mem (((cfgA m hok).win w).arr.view.loc (c : Thread nD τ)) = (dats m hok ρ 0 c).arrAt w (cfgA m hok).N)
    ∧ ∀ j, r.2.mem ((c : Thread nD τ).loc (pre0.ref j)) = (adm m hok).1 j

theorem V_pre (c : Dev nD) (j : Fin 2) : m ((c : Thread nD τ).loc (pre0.ref j)) = (adm m hok).1 j := by
  obtain rfl : c = d0 := Subsingleton.elim _ _
  fin_cases j
  · rfl
  · rfl

set_option backward.isDefEq.respectTransparency.types false in
set_option maxHeartbeats 4000000 in
/-- At the compiled mesh, from any memory with zero counters: every weakly
    fair execution of @main on the TensorCores terminates, and every final state has each array at the computed contents,
    and every semaphore counter of the machine at zero. -/
theorem run_main_quiescent : θ_run (defs (F := Bits)) (onTc (τ := τ) (main (F := Bits))) (s₀ m ρ) (fun r => QC m hok ρ r ∧ r.2.sem = fun _ => 0) :=
  Pipeline.θ_run_region_noSem_pf_quiescent pcfgs (fun _ => adm m hok) (dats m hok ρ) () ((launch0 (F := Bits)).cellOf_inj fun _ => adm m hok) (0 : Fin 1)
    (launch0 (F := Bits)).win.to₀ (launch0 (F := Bits)).pre EP defs₀ Variants.none m ρ main
    (hbody := fun c => (body_obligation m hok ρ c).loose) (hne := (launch0 (F := Bits)).block_pos)
    (harr := (launch0 (F := Bits)).arr_whole) (hstage := (launch0 (F := Bits)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m hok ρ) 0 (launch0 (F := Bits)).win.arr_inj c (launch0 (F := Bits)).arr_whole
      (share_eq m hok ρ c) _ _ fun _ => rfl)
    (hpf := V_pre m hok)
    (X := fun _ => iprop(emp)) (Y := fun _ => iprop(emp)) (Z := fun _ => iprop(emp))
    (hX := fun c => by rw [unscopedRestP0_eq]; iintro -; isplitr <;> iempintro)
    (hin := phi0_intro m hok ρ)
    (hout := phiN_exit m hok ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := Bits)) (onTc (τ := τ) (main (F := Bits))) (s₀ m ρ) (QC m hok ρ) :=
  (θ_run defs _ _).mono (fun _ h => h.1) (run_main_quiescent m hok ρ)

include hok in
/-- `frame` without the counters: the argument arrays end unchanged. -/
theorem unchanged :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 6)).trans ((dats m hok ρ 0 c).arrAt_in (0 : Fin 6) rfl _), ((h c).1 (1 : Fin 6)).trans ((dats m hok ρ 0 c).arrAt_in (1 : Fin 6) rfl _), ((h c).1 (2 : Fin 6)).trans ((dats m hok ρ 0 c).arrAt_in (2 : Fin 6) rfl _), ((h c).1 (3 : Fin 6)).trans ((dats m hok ρ 0 c).arrAt_in (3 : Fin 6) rfl _), ((h c).1 (4 : Fin 6)).trans ((dats m hok ρ 0 c).arrAt_in (4 : Fin 6) rfl _), ((h c).2 0).trans (V_pre m hok c 0).symm, ((h c).2 1).trans (V_pre m hok c 1).symm⟩) (run_main m hok ρ)

include hok in
/-- The frame: every weakly fair execution ends, nothing faults, the arguments end unchanged, every counter at zero. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m hok ρ) ((θ_run defs _ _).mono (fun _ h => h.2) (run_main_quiescent m hok ρ))

end Cert.Kernel2.Sw

end
-- ==== Proof.Sw.RunI.lean ====
module

public import proofs.«01_k».proof.Proof.Gen.Kernel2Ideal.Skeleton
public import proofs.«01_k».proof.Proof.Gen.Kernel2Ideal.Launch
public import proofs.«01_k».proof.Defs
public import proofs.«01_k».proof.Proof.Gen.Kernel2Ideal
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

/-! The routed experts' body, run along each of its six ways through the conditionals: the tile's rows are all in use
(more than 512), some (between 1 and 512) or none, and the point is the first of its tile (the hidden slice 0) or a later
one. Each run says what the body leaves in the output block and in the normalised rows' buffer. -/
namespace Cert.Kernel2Ideal.Sw

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The two tables and the normalised rows' buffer, whole. -/
abbrev tb0 : Memref sig .tc .smem S40 .i32 := Memref.whole main_arg5
abbrev tb1 : Memref sig .tc .smem S40 .i32 := Memref.whole main_arg6
abbrev sc0 : Memref sig .tc .vmem S1024x2048 .bf16 := Memref.whole cc0_scratch0

/-- The tile's count of rows in use, as the body reads it. -/
abbrev wd (T1 : S40.Idx → Elt Ideal .i32) (i : grid0.Coords) : BitVec 32 :=
  View.readAt (Elt Ideal) (tb1).view (Rect.unit (s := S40) (k0_off1 i) S1.size (k0_off1_inb i)).toLoadRect T1 (Shape.Idx.first (numel1_S1.symm ▸ Nat.one_pos))

section
variable (c : Dev nD) (i : grid0.Coords) (arg4 : Memref sig .tc .vmem S1024x2048 .f32) (harg4 : arg4.IsWhole) (arg5 : Memref sig .tc .vmem S1x2048 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 T1 : S40.Idx → Elt Ideal .i32)
  (x0 : S1024x2048.Idx → Elt Ideal .f32) (x1 : S1x2048.Idx → Elt Ideal .f32) (x2 : S1x2048x256.Idx → Elt Ideal .f32) (x3 : S1x2048x256.Idx → Elt Ideal .f32) (x4 : S1x256x2048.Idx → Elt Ideal .f32) (y5 : S1024x2048.Idx → Elt Ideal .f32) (xa0 : Buf (Elt Ideal) ((c : Thread nD τ).loc cc0_scratch0))

/-- What the body holds beside the output block and the rows' buffer: the five input blocks and the tables. -/
abbrev ins : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (tb0.view.loc (c : Thread nD τ) ↦{fullShare.right} T0)
    ∗ (tb1.view.loc (c : Thread nD τ) ↦{fullShare.right} T1))

set_option backward.proofsInPublic true in
set_option maxHeartbeats 8000000 in
/-- The body's run: all rows in use, first slice. -/
noncomputable def runA (k0_h1 : k0_cond1 i (wd T1 i) = 1#1) (k0_h2 : ¬(k0_cond2 i (wd T1 i) = 1#1)) (k0_h3 : ¬(k0_cond3 (wd T1 i) = 1#1)) :
    Σ' (out0 : List (View.Piece (Elt Ideal) S1024x2048 .f32)), { out1 : List (View.Piece (Elt Ideal) S1024x2048 .bf16) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt Ideal) f out0) ∗ (∃ f, sc0.view.loc (c : Thread nD τ) ↦{fullShare} sc0.view.writes (Elt Ideal) f out1)) -∗ K ⟨⟩))
          ⊢ wp frame (wpE (defs₀ (F := Ideal)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, _, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = k0_cond1 _ _ = _; exact k0_h1) | (guard_target = ¬(k0_cond2 _ _ = _); exact k0_h2) | (guard_target = ¬(k0_cond3 _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexists _; iexact HS0⟩

set_option backward.proofsInPublic true in
set_option maxHeartbeats 8000000 in
/-- The body's run: all rows in use, a later slice. -/
noncomputable def runB (k0_h1 : ¬(k0_cond1 i (wd T1 i) = 1#1)) (k0_h2 : k0_cond2 i (wd T1 i) = 1#1) (k0_h3 : ¬(k0_cond3 (wd T1 i) = 1#1)) :
    { out0 : List (View.Piece (Elt Ideal) S1024x2048 .f32) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt Ideal) f out0) ∗ (sc0.view.loc (c : Thread nD τ) ↦{fullShare} xa0)) -∗ K ⟨⟩))
          ⊢ wp frame (wpE (defs₀ (F := Ideal)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = k0_cond2 _ _ = _; exact k0_h2) | (guard_target = ¬(k0_cond3 _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexact HS0⟩

set_option backward.proofsInPublic true in
set_option maxHeartbeats 8000000 in
/-- The body's run: some rows in use, first slice. -/
noncomputable def runC (k0_h1 : ¬(k0_cond1 i (wd T1 i) = 1#1)) (k0_h2 : ¬(k0_cond2 i (wd T1 i) = 1#1)) (k0_h3 : k0_cond3 (wd T1 i) = 1#1) (k0_h4 : k0_cond4 i (wd T1 i) = 1#1) (k0_h5 : ¬(k0_cond5 i (wd T1 i) = 1#1)) (k0_h6 : ¬(k0_cond6 i (wd T1 i) = 1#1)) (k0_h7 : ¬(k0_cond7 i (wd T1 i) = 1#1)) (k0_h8 : ¬(k0_cond8 i (wd T1 i) = 1#1)) (k0_h9 : k0_cond9 i (wd T1 i) = 1#1) :
    Σ' (out0 : List (View.Piece (Elt Ideal) S1024x2048 .f32)), { out1 : List (View.Piece (Elt Ideal) S1024x2048 .bf16) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt Ideal) f out0) ∗ (∃ f, sc0.view.loc (c : Thread nD τ) ↦{fullShare} sc0.view.writes (Elt Ideal) f out1)) -∗ K ⟨⟩))
          ⊢ wp frame (wpE (defs₀ (F := Ideal)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, _, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = ¬(k0_cond2 _ _ = _); exact k0_h2) | (guard_target = k0_cond3 _ = _; exact k0_h3) | (guard_target = k0_cond4 _ _ = _; exact k0_h4) | (guard_target = ¬(k0_cond5 _ _ = _); exact k0_h5) | (guard_target = ¬(k0_cond6 _ _ = _); exact k0_h6) | (guard_target = ¬(k0_cond7 _ _ = _); exact k0_h7) | (guard_target = ¬(k0_cond8 _ _ = _); exact k0_h8) | (guard_target = k0_cond9 _ _ = _; exact k0_h9))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexists _; iexact HS0⟩

set_option backward.proofsInPublic true in
set_option maxHeartbeats 8000000 in
/-- The body's run: some rows in use, a later slice. -/
noncomputable def runD (k0_h1 : ¬(k0_cond1 i (wd T1 i) = 1#1)) (k0_h2 : ¬(k0_cond2 i (wd T1 i) = 1#1)) (k0_h3 : k0_cond3 (wd T1 i) = 1#1) (k0_h4 : ¬(k0_cond4 i (wd T1 i) = 1#1)) (k0_h5 : k0_cond5 i (wd T1 i) = 1#1) (k0_h6 : ¬(k0_cond6 i (wd T1 i) = 1#1)) (k0_h7 : ¬(k0_cond7 i (wd T1 i) = 1#1)) (k0_h8 : ¬(k0_cond8 i (wd T1 i) = 1#1)) (k0_h9 : ¬(k0_cond9 i (wd T1 i) = 1#1)) :
    { out0 : List (View.Piece (Elt Ideal) S1024x2048 .f32) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (arg9.view.loc (c : Thread nD τ) ↦[arg9.view.set]{fullShare} arg9.view.writes (Elt Ideal) (harg9.unread y5) out0) ∗ (sc0.view.loc (c : Thread nD τ) ↦{fullShare} xa0)) -∗ K ⟨⟩))
          ⊢ wp frame (wpE (defs₀ (F := Ideal)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = ¬(k0_cond2 _ _ = _); exact k0_h2) | (guard_target = k0_cond3 _ = _; exact k0_h3) | (guard_target = ¬(k0_cond4 _ _ = _); exact k0_h4) | (guard_target = k0_cond5 _ _ = _; exact k0_h5) | (guard_target = ¬(k0_cond6 _ _ = _); exact k0_h6) | (guard_target = ¬(k0_cond7 _ _ = _); exact k0_h7) | (guard_target = ¬(k0_cond8 _ _ = _); exact k0_h8) | (guard_target = ¬(k0_cond9 _ _ = _); exact k0_h9))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexact HO5
    iexact HS0⟩

set_option backward.proofsInPublic true in
set_option maxHeartbeats 8000000 in
/-- The body's run: no row in use, first slice. -/
noncomputable def runE (k0_h1 : ¬(k0_cond1 i (wd T1 i) = 1#1)) (k0_h2 : ¬(k0_cond2 i (wd T1 i) = 1#1)) (k0_h3 : k0_cond3 (wd T1 i) = 1#1) (k0_h4 : ¬(k0_cond4 i (wd T1 i) = 1#1)) (k0_h5 : ¬(k0_cond5 i (wd T1 i) = 1#1)) (k0_h6 : k0_cond6 i (wd T1 i) = 1#1) (k0_h7 : ¬(k0_cond7 i (wd T1 i) = 1#1)) (k0_h8 : ¬(k0_cond8 i (wd T1 i) = 1#1)) (k0_h9 : k0_cond9 i (wd T1 i) = 1#1) :
    { out0 : List (View.Piece (Elt Ideal) S1024x2048 .f32) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt Ideal) f out0) ∗ (sc0.view.loc (c : Thread nD τ) ↦{fullShare} xa0)) -∗ K ⟨⟩))
          ⊢ wp frame (wpE (defs₀ (F := Ideal)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = ¬(k0_cond2 _ _ = _); exact k0_h2) | (guard_target = k0_cond3 _ = _; exact k0_h3) | (guard_target = ¬(k0_cond4 _ _ = _); exact k0_h4) | (guard_target = ¬(k0_cond5 _ _ = _); exact k0_h5) | (guard_target = k0_cond6 _ _ = _; exact k0_h6) | (guard_target = ¬(k0_cond7 _ _ = _); exact k0_h7) | (guard_target = ¬(k0_cond8 _ _ = _); exact k0_h8) | (guard_target = k0_cond9 _ _ = _; exact k0_h9))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexact HS0⟩

set_option backward.proofsInPublic true in
set_option maxHeartbeats 8000000 in
/-- The body's run: no row in use, a later slice. -/
noncomputable def runF (k0_h1 : ¬(k0_cond1 i (wd T1 i) = 1#1)) (k0_h2 : ¬(k0_cond2 i (wd T1 i) = 1#1)) (k0_h3 : k0_cond3 (wd T1 i) = 1#1) (k0_h4 : ¬(k0_cond4 i (wd T1 i) = 1#1)) (k0_h5 : ¬(k0_cond5 i (wd T1 i) = 1#1)) (k0_h6 : ¬(k0_cond6 i (wd T1 i) = 1#1)) (k0_h7 : ¬(k0_cond7 i (wd T1 i) = 1#1)) (k0_h8 : ¬(k0_cond8 i (wd T1 i) = 1#1)) (k0_h9 : ¬(k0_cond9 i (wd T1 i) = 1#1)) :
    { _u : Unit //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ owns (c : Thread nD τ) arg9 fullShare y5 ∗ (sc0.view.loc (c : Thread nD τ) ↦{fullShare} xa0)) -∗ K ⟨⟩))
          ⊢ wp frame (wpE (defs₀ (F := Ideal)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨(), fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = ¬(k0_cond2 _ _ = _); exact k0_h2) | (guard_target = k0_cond3 _ = _; exact k0_h3) | (guard_target = ¬(k0_cond4 _ _ = _); exact k0_h4) | (guard_target = ¬(k0_cond5 _ _ = _); exact k0_h5) | (guard_target = ¬(k0_cond6 _ _ = _); exact k0_h6) | (guard_target = ¬(k0_cond7 _ _ = _); exact k0_h7) | (guard_target = ¬(k0_cond8 _ _ = _); exact k0_h8) | (guard_target = ¬(k0_cond9 _ _ = _); exact k0_h9))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists _; isplitr; · ipureintro; exact harg9.read_unread _
      iexact HO5
    iexact HS0⟩

end

end Cert.Kernel2Ideal.Sw

end
-- ==== Proof.Sw.BodyI.lean ====
module

public import proofs.«01_k».proof.Proof.Sw.RunI
public import proofs.«01_k».proof.Proof.Sw.Words
public import Idealize.ShloMosaic.Lib.VecWindow
public import Idealize.ShloMosaic.Lib.Pipeline.Value

@[expose] public section

set_option maxRecDepth 16384
set_option Elab.async false

noncomputable section

/-! What a run of the routed experts' body leaves, in the two halves of 512 rows: a half in use holds the expert's slice of
the product (added to what the half held, after the tile's first slice), a half not in use holds zeros. -/
namespace Cert.Kernel2Ideal.Sw

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two halves' rectangles. -/
abbrev RA : Rect S1024x2048 := Rect.unit (s := S1024x2048) ![0, 0] S512x2048.size inb_S1024x2048_S512x2048_0_0
abbrev RB : Rect S1024x2048 := Rect.unit (s := S1024x2048) ![512, 0] S512x2048.size inb_S1024x2048_S512x2048_512_0

theorem mem_RA (y : S1024x2048.Idx) : y ∈ RA.set ↔ (y 0).val < 512 := by
  rw [Rect.mem_set_unit]
  constructor
  · intro h; have := (h 0).2; simpa using this
  · intro h a; fin_cases a
    · exact ⟨Nat.zero_le _, by simpa using h⟩
    · exact ⟨Nat.zero_le _, by have := (y 1).isLt; simpa using this⟩
theorem mem_RB (y : S1024x2048.Idx) : y ∈ RB.set ↔ 512 ≤ (y 0).val := by
  rw [Rect.mem_set_unit]
  constructor
  · intro h; exact (h 0).1
  · intro h a; fin_cases a
    · exact ⟨h, by have := (y 0).isLt; simpa using this⟩
    · exact ⟨Nat.zero_le _, by have := (y 1).isLt; simpa using this⟩
theorem not_RB_of_RA {y : S1024x2048.Idx} (h : y ∈ RA.set) : y ∉ RB.set := by
  rw [mem_RA] at h; rw [mem_RB]; omega

theorem emb_RA_not_RB (x : S512x2048.Idx) : RA.emb x ∉ RB.set := not_RB_of_RA (LoadRect.idx_mem RA.toLoadRect x)

/-- A block from its two halves. -/
def stitch {e : EltTy} (p q : S512x2048.Idx → Elt Ideal e) : S1024x2048.Idx → Elt Ideal e :=
  View.canon (Val := Elt Ideal) [⟨RB, q⟩, ⟨RA, p⟩]

theorem stitch_RB {e : EltTy} (p q : S512x2048.Idx → Elt Ideal e) (x : S512x2048.Idx) : stitch p q (RB.emb x) = q x :=
  View.canon_cons_emb RB q _ x
theorem stitch_RA {e : EltTy} (p q : S512x2048.Idx → Elt Ideal e) (x : S512x2048.Idx) : stitch p q (RA.emb x) = p x :=
  (View.canon_cons_of_not_mem (Val := Elt Ideal) ⟨RB, q⟩ [⟨RA, p⟩] (emb_RA_not_RB x)).trans (View.canon_cons_emb RA p [] x)
theorem ld_stitch_RA {e : EltTy} (p q : S512x2048.Idx → Elt Ideal e) : View.ld (stitch p q) RA = p := funext fun x => stitch_RA p q x
theorem ld_stitch_RB {e : EltTy} (p q : S512x2048.Idx → Elt Ideal e) : View.ld (stitch p q) RB = q := funext fun x => stitch_RB p q x

theorem cover2 {e : EltTy} (p q : S512x2048.Idx → Elt Ideal e) (y : S1024x2048.Idx) :
    ∃ pc ∈ ([⟨RB, q⟩, ⟨RA, p⟩] : List (View.Piece (Elt Ideal) S1024x2048 e)), y ∈ pc.1.set := by
  by_cases h : (y 0).val < 512
  · exact ⟨⟨RA, p⟩, by simp, (mem_RA y).2 h⟩
  · exact ⟨⟨RB, q⟩, by simp, (mem_RB y).2 (by omega)⟩

/-- Two stores, one per half, leave the stitched block, whatever was there. -/
theorem read_two {κ : Kind} {sp : Space} {e : EltTy} (v : View sig κ sp S1024x2048 e) (f : v.ty.Contents (Elt Ideal)) (p q : S512x2048.Idx → Elt Ideal e) :
    v.read (Elt Ideal) (v.writes (Elt Ideal) f [⟨RB, q⟩, ⟨RA, p⟩]) = stitch p q :=
  View.read_writes_eq_canon v f _ (cover2 p q)

/-- One store to the first half keeps the second. -/
theorem read_one {κ : Kind} {sp : Space} {e : EltTy} (v : View sig κ sp S1024x2048 e) (f : v.ty.Contents (Elt Ideal)) (p p' q : S512x2048.Idx → Elt Ideal e)
    (hf : v.read (Elt Ideal) f = stitch p q) :
    v.read (Elt Ideal) (v.writes (Elt Ideal) f [⟨RA, p'⟩]) = stitch p' q := by
  funext y
  by_cases h : y ∈ RA.set
  · obtain ⟨x, hx⟩ := LoadRect.exists_idx_of_mem _ h
    have hx' : RA.emb x = y := hx
    rw [← hx', stitch_RA]; exact View.read_writes_cons_emb v f RA p' [] x
  · have hB : y ∈ RB.set := by rw [mem_RA] at h; rw [mem_RB]; omega
    rw [View.read_writes_apply_of_forall_not_mem v f y _ (by simpa using h), hf]
    obtain ⟨x, hx⟩ := LoadRect.exists_idx_of_mem _ hB
    have hx' : RB.emb x = y := hx
    rw [← hx', stitch_RB, stitch_RB]

/-- The rows normalised by their root mean square, rounded to the products' format. -/
abbrev XN (x : S512x2048.Idx → Elt Ideal .f32) (g : S1x2048.Idx → Elt Ideal .f32) : S512x2048.Idx → Elt Ideal .bf16 := k0_pay25 (F := Ideal) x g
/-- One slice of an expert: the gated product of the normalised rows. -/
abbrev EX (w1 w3 : S1x2048x256.Idx → Elt Ideal .f32) (w2 : S1x256x2048.Idx → Elt Ideal .f32) (xn : S512x2048.Idx → Elt Ideal .bf16) : S512x2048.Idx → Elt Ideal .f32 :=
  k0_pay26 (F := Ideal) w1 w3 w2 xn
/-- A half after a point: `live` says that its rows are in use, `first` that the point is the tile's first. -/
def nxt (live first : Bool) (w1 w3 : S1x2048x256.Idx → Elt Ideal .f32) (w2 : S1x256x2048.Idx → Elt Ideal .f32) (xn : S512x2048.Idx → Elt Ideal .bf16)
    (old : S512x2048.Idx → Elt Ideal .f32) : S512x2048.Idx → Elt Ideal .f32 :=
  if live then (if first then EX w1 w3 w2 xn else addf (F := Ideal) (φ := .f32) old (EX w1 w3 w2 xn)) else (if first then k0_pay4 (F := Ideal) else old)

theorem cond1_eq (i : grid0.Coords) (v : BitVec 32) : k0_cond1 i v = BitVec.ofBool (Words.hi v && decide ((i 1).val = 0)) := by
  unfold k0_cond1; dsimp only; rw [Words.eq0 (i 1)]; simp only [Words.sgt512, Words.sgt0, Words.sle512, Words.sle0]; exact Words.and_bits _ _
theorem cond2_eq (i : grid0.Coords) (v : BitVec 32) : k0_cond2 i v = BitVec.ofBool (Words.hi v && !decide ((i 1).val = 0)) := by
  unfold k0_cond2; dsimp only; rw [Words.gt0 (i 1)]; simp only [Words.sgt512, Words.sgt0, Words.sle512, Words.sle0]; exact Words.and_bits _ _
theorem cond3_eq (v : BitVec 32) : k0_cond3 v = BitVec.ofBool (!Words.hi v) := by
  unfold k0_cond3; simp only [Words.sgt512]; exact Words.not_bits _
theorem cond4_eq (i : grid0.Coords) (v : BitVec 32) : k0_cond4 i v = BitVec.ofBool (Words.lo v && decide ((i 1).val = 0)) := by
  unfold k0_cond4; dsimp only; rw [Words.eq0 (i 1)]; simp only [Words.sgt512, Words.sgt0, Words.sle512, Words.sle0]; exact Words.and_bits _ _
theorem cond5_eq (i : grid0.Coords) (v : BitVec 32) : k0_cond5 i v = BitVec.ofBool (Words.lo v && !decide ((i 1).val = 0)) := by
  unfold k0_cond5; dsimp only; rw [Words.gt0 (i 1)]; simp only [Words.sgt512, Words.sgt0, Words.sle512, Words.sle0]; exact Words.and_bits _ _
theorem cond6_eq (i : grid0.Coords) (v : BitVec 32) : k0_cond6 i v = BitVec.ofBool (!Words.lo v && decide ((i 1).val = 0)) := by
  unfold k0_cond6; dsimp only; rw [Words.eq0 (i 1)]; simp only [Words.sgt512, Words.sgt0, Words.sle512, Words.sle0]; exact Words.and_bits _ _
theorem cond7_eq (i : grid0.Coords) (v : BitVec 32) : k0_cond7 i v = BitVec.ofBool (Words.hi v && decide ((i 1).val = 0)) := by
  unfold k0_cond7; dsimp only; rw [Words.eq0 (i 1)]; simp only [Words.sgt512, Words.sgt0, Words.sle512, Words.sle0]; exact Words.and_bits _ _
theorem cond8_eq (i : grid0.Coords) (v : BitVec 32) : k0_cond8 i v = BitVec.ofBool (Words.hi v && !decide ((i 1).val = 0)) := by
  unfold k0_cond8; dsimp only; rw [Words.gt0 (i 1)]; simp only [Words.sgt512, Words.sgt0, Words.sle512, Words.sle0]; exact Words.and_bits _ _
theorem cond9_eq (i : grid0.Coords) (v : BitVec 32) : k0_cond9 i v = BitVec.ofBool (!Words.hi v && decide ((i 1).val = 0)) := by
  unfold k0_cond9; dsimp only; rw [Words.eq0 (i 1)]; simp only [Words.sgt512, Words.sgt0, Words.sle512, Words.sle0]; exact Words.and_bits _ _

/-- The idle table's formula at a point: nothing is stored only past the first slice of a tile with no row in use. -/
theorem idle_eq (i : grid0.Coords) (v : BitVec 32) :
    (!(k0_cond1 i v == 1#1) && !(k0_cond2 i v == 1#1) && !(k0_cond3 v == 1#1 && k0_cond4 i v == 1#1) && !(k0_cond3 v == 1#1 && k0_cond5 i v == 1#1) && !(k0_cond3 v == 1#1 && k0_cond6 i v == 1#1) && !(k0_cond3 v == 1#1 && k0_cond7 i v == 1#1) && !(k0_cond3 v == 1#1 && k0_cond8 i v == 1#1) && !(k0_cond3 v == 1#1 && k0_cond9 i v == 1#1))
      = (!Words.lo v && !decide ((i 1).val = 0)) := by
  simp only [cond1_eq, cond2_eq, cond3_eq, cond4_eq, cond5_eq, cond6_eq, cond7_eq, cond8_eq, cond9_eq]
  have h := @Words.lo_of_hi v
  cases hh : Words.hi v <;> cases hl : Words.lo v <;> cases hj : decide ((i 1).val = 0) <;> simp_all

section
variable (c : Dev nD) (i : grid0.Coords) (arg4 : Memref sig .tc .vmem S1024x2048 .f32) (harg4 : arg4.IsWhole) (arg5 : Memref sig .tc .vmem S1x2048 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 T1 : S40.Idx → Elt Ideal .i32)
  (x0 : S1024x2048.Idx → Elt Ideal .f32) (x1 : S1x2048.Idx → Elt Ideal .f32) (x2 : S1x2048x256.Idx → Elt Ideal .f32) (x3 : S1x2048x256.Idx → Elt Ideal .f32) (x4 : S1x256x2048.Idx → Elt Ideal .f32) (p q : S512x2048.Idx → Elt Ideal .f32) (y5 : S1024x2048.Idx → Elt Ideal .f32) (xa0 : Buf (Elt Ideal) ((c : Thread nD τ).loc cc0_scratch0))

/-- What the rows' buffer holds of the tile: the normalised rows of each half in use. -/
def Good (l0 l1 : Bool) (n0 n1 : S512x2048.Idx → Elt Ideal .bf16) (a : Buf (Elt Ideal) ((c : Thread nD τ).loc cc0_scratch0)) : Prop :=
  (l0 = true → View.readAt (Elt Ideal) sc0.view RA.toLoadRect a = n0) ∧ (l1 = true → View.readAt (Elt Ideal) sc0.view RB.toLoadRect a = n1)

/-- The body's call. -/
abbrev callB : Prog (TpuEff nD τ sig (Elt Ideal) Λ₀ .tc) PUnit :=
  cc0_swiglu i tb0 (Memref.isWhole_whole _) tb1 (Memref.isWhole_whole _) arg4 harg4 arg5 harg5 arg6 harg6 arg7 harg7 arg8 harg8 arg9 harg9 sc0 (Memref.isWhole_whole _)

set_option maxHeartbeats 2000000 in
theorem rawA (h1 : k0_cond1 i (wd T1 i) = 1#1) (h2 : ¬k0_cond2 i (wd T1 i) = 1#1) (h3 : ¬k0_cond3 (wd T1 i) = 1#1) : (runA c i arg4 harg4 arg5 harg5 arg6 harg6 arg7 harg7 arg8 harg8 arg9 harg9 T0 T1 x0 x1 x2 x3 x4 y5 xa0 h1 h2 h3).1 = [⟨RB, EX (View.readAt (Elt Ideal) arg6.view (Rect.unit ![0, 0, 0] S1x2048x256.size inb_S1x2048x256_S1x2048x256_0_0_0).toLoadRect (arg6.view.rep x2)) (View.readAt (Elt Ideal) arg7.view (Rect.unit ![0, 0, 0] S1x2048x256.size inb_S1x2048x256_S1x2048x256_0_0_0).toLoadRect (arg7.view.rep x3)) (View.readAt (Elt Ideal) arg8.view (Rect.unit ![0, 0, 0] S1x256x2048.size inb_S1x256x2048_S1x256x2048_0_0_0).toLoadRect (arg8.view.rep x4)) (sc0.view.readCov [⟨RB, (XN (View.readAt (Elt Ideal) arg4.view RB.toLoadRect (arg4.view.rep x0)) (View.readAt (Elt Ideal) arg5.view (Rect.unit ![0, 0] S1x2048.size inb_S1x2048_S1x2048_0_0).toLoadRect (arg5.view.rep x1)))⟩, ⟨RA, (XN (View.readAt (Elt Ideal) arg4.view RA.toLoadRect (arg4.view.rep x0)) (View.readAt (Elt Ideal) arg5.view (Rect.unit ![0, 0] S1x2048.size inb_S1x2048_S1x2048_0_0).toLoadRect (arg5.view.rep x1)))⟩] RB.toLoadRect)⟩, ⟨RA, EX (View.readAt (Elt Ideal) arg6.view (Rect.unit ![0, 0, 0] S1x2048x256.size inb_S1x2048x256_S1x2048x256_0_0_0).toLoadRect (arg6.view.rep x2)) (View.readAt (Elt Ideal) arg7.view (Rect.unit ![0, 0, 0] S1x2048x256.size inb_S1x2048x256_S1x2048x256_0_0_0).toLoadRect (arg7.view.rep x3)) (View.readAt (Elt Ideal) arg8.view (Rect.unit ![0, 0, 0] S1x256x2048.size inb_S1x256x2048_S1x256x2048_0_0_0).toLoadRect (arg8.view.rep x4)) (sc0.view.readCov [⟨RA, (XN (View.readAt (Elt Ideal) arg4.view RA.toLoadRect (arg4.view.rep x0)) (View.readAt (Elt Ideal) arg5.view (Rect.unit ![0, 0] S1x2048.size inb_S1x2048_S1x2048_0_0).toLoadRect (arg5.view.rep x1)))⟩] RA.toLoadRect)⟩] := by
  rfl

set_option maxHeartbeats 2000000 in
theorem rawB (h1 : ¬k0_cond1 i (wd T1 i) = 1#1) (h2 : k0_cond2 i (wd T1 i) = 1#1) (h3 : ¬k0_cond3 (wd T1 i) = 1#1) : (runB c i arg4 harg4 arg5 harg5 arg6 harg6 arg7 harg7 arg8 harg8 arg9 harg9 T0 T1 x0 x1 x2 x3 x4 y5 xa0 h1 h2 h3).1 = [⟨RB, k0_pay27 (F := Ideal) (View.readAt (Elt Ideal) arg6.view (Rect.unit ![0, 0, 0] S1x2048x256.size inb_S1x2048x256_S1x2048x256_0_0_0).toLoadRect (arg6.view.rep x2)) (View.readAt (Elt Ideal) arg7.view (Rect.unit ![0, 0, 0] S1x2048x256.size inb_S1x2048x256_S1x2048x256_0_0_0).toLoadRect (arg7.view.rep x3)) (View.readAt (Elt Ideal) arg8.view (Rect.unit ![0, 0, 0] S1x256x2048.size inb_S1x256x2048_S1x256x2048_0_0_0).toLoadRect (arg8.view.rep x4)) (View.readAt (Elt Ideal) arg9.view RB.toLoadRect (harg9.unread y5)) (View.readAt (Elt Ideal) sc0.view RB.toLoadRect xa0)⟩, ⟨RA, k0_pay27 (F := Ideal) (View.readAt (Elt Ideal) arg6.view (Rect.unit ![0, 0, 0] S1x2048x256.size inb_S1x2048x256_S1x2048x256_0_0_0).toLoadRect (arg6.view.rep x2)) (View.readAt (Elt Ideal) arg7.view (Rect.unit ![0, 0, 0] S1x2048x256.size inb_S1x2048x256_S1x2048x256_0_0_0).toLoadRect (arg7.view.rep x3)) (View.readAt (Elt Ideal) arg8.view (Rect.unit ![0, 0, 0] S1x256x2048.size inb_S1x256x2048_S1x256x2048_0_0_0).toLoadRect (arg8.view.rep x4)) (View.readAt (Elt Ideal) arg9.view RA.toLoadRect (harg9.unread y5)) (View.readAt (Elt Ideal) sc0.view RA.toLoadRect xa0)⟩] := by
  rfl

set_option maxHeartbeats 2000000 in
theorem rawC (h1 : ¬k0_cond1 i (wd T1 i) = 1#1) (h2 : ¬k0_cond2 i (wd T1 i) = 1#1) (h3 : k0_cond3 (wd T1 i) = 1#1) (h4 : k0_cond4 i (wd T1 i) = 1#1) (h5 : ¬k0_cond5 i (wd T1 i) = 1#1) (h6 : ¬k0_cond6 i (wd T1 i) = 1#1) (h7 : ¬k0_cond7 i (wd T1 i) = 1#1) (h8 : ¬k0_cond8 i (wd T1 i) = 1#1) (h9 : k0_cond9 i (wd T1 i) = 1#1) : (runC c i arg4 harg4 arg5 harg5 arg6 harg6 arg7 harg7 arg8 harg8 arg9 harg9 T0 T1 x0 x1 x2 x3 x4 y5 xa0 h1 h2 h3 h4 h5 h6 h7 h8 h9).1 = [⟨RB, k0_pay4 (F := Ideal)⟩, ⟨RA, EX (View.readAt (Elt Ideal) arg6.view (Rect.unit ![0, 0, 0] S1x2048x256.size inb_S1x2048x256_S1x2048x256_0_0_0).toLoadRect (arg6.view.rep x2)) (View.readAt (Elt Ideal) arg7.view (Rect.unit ![0, 0, 0] S1x2048x256.size inb_S1x2048x256_S1x2048x256_0_0_0).toLoadRect (arg7.view.rep x3)) (View.readAt (Elt Ideal) arg8.view (Rect.unit ![0, 0, 0] S1x256x2048.size inb_S1x256x2048_S1x256x2048_0_0_0).toLoadRect (arg8.view.rep x4)) (sc0.view.readCov [⟨RA, (XN (View.readAt (Elt Ideal) arg4.view RA.toLoadRect (arg4.view.rep x0)) (View.readAt (Elt Ideal) arg5.view (Rect.unit ![0, 0] S1x2048.size inb_S1x2048_S1x2048_0_0).toLoadRect (arg5.view.rep x1)))⟩] RA.toLoadRect)⟩] := by
  rfl

set_option maxHeartbeats 2000000 in
theorem rawD (h1 : ¬k0_cond1 i (wd T1 i) = 1#1) (h2 : ¬k0_cond2 i (wd T1 i) = 1#1) (h3 : k0_cond3 (wd T1 i) = 1#1) (h4 : ¬k0_cond4 i (wd T1 i) = 1#1) (h5 : k0_cond5 i (wd T1 i) = 1#1) (h6 : ¬k0_cond6 i (wd T1 i) = 1#1) (h7 : ¬k0_cond7 i (wd T1 i) = 1#1) (h8 : ¬k0_cond8 i (wd T1 i) = 1#1) (h9 : ¬k0_cond9 i (wd T1 i) = 1#1) : (runD c i arg4 harg4 arg5 harg5 arg6 harg6 arg7 harg7 arg8 harg8 arg9 harg9 T0 T1 x0 x1 x2 x3 x4 y5 xa0 h1 h2 h3 h4 h5 h6 h7 h8 h9).1 = [⟨RA, k0_pay27 (F := Ideal) (View.readAt (Elt Ideal) arg6.view (Rect.unit ![0, 0, 0] S1x2048x256.size inb_S1x2048x256_S1x2048x256_0_0_0).toLoadRect (arg6.view.rep x2)) (View.readAt (Elt Ideal) arg7.view (Rect.unit ![0, 0, 0] S1x2048x256.size inb_S1x2048x256_S1x2048x256_0_0_0).toLoadRect (arg7.view.rep x3)) (View.readAt (Elt Ideal) arg8.view (Rect.unit ![0, 0, 0] S1x256x2048.size inb_S1x256x2048_S1x256x2048_0_0_0).toLoadRect (arg8.view.rep x4)) (View.readAt (Elt Ideal) arg9.view RA.toLoadRect (harg9.unread y5)) (View.readAt (Elt Ideal) sc0.view RA.toLoadRect xa0)⟩] := by
  rfl

set_option maxHeartbeats 2000000 in
theorem rawE (h1 : ¬k0_cond1 i (wd T1 i) = 1#1) (h2 : ¬k0_cond2 i (wd T1 i) = 1#1) (h3 : k0_cond3 (wd T1 i) = 1#1) (h4 : ¬k0_cond4 i (wd T1 i) = 1#1) (h5 : ¬k0_cond5 i (wd T1 i) = 1#1) (h6 : k0_cond6 i (wd T1 i) = 1#1) (h7 : ¬k0_cond7 i (wd T1 i) = 1#1) (h8 : ¬k0_cond8 i (wd T1 i) = 1#1) (h9 : k0_cond9 i (wd T1 i) = 1#1) : (runE c i arg4 harg4 arg5 harg5 arg6 harg6 arg7 harg7 arg8 harg8 arg9 harg9 T0 T1 x0 x1 x2 x3 x4 y5 xa0 h1 h2 h3 h4 h5 h6 h7 h8 h9).1 = [⟨RB, k0_pay4 (F := Ideal)⟩, ⟨RA, k0_pay4 (F := Ideal)⟩] := by
  rfl

set_option maxHeartbeats 400000 in
theorem rawSA (h1 : k0_cond1 i (wd T1 i) = 1#1) (h2 : ¬k0_cond2 i (wd T1 i) = 1#1) (h3 : ¬k0_cond3 (wd T1 i) = 1#1) : (runA c i arg4 harg4 arg5 harg5 arg6 harg6 arg7 harg7 arg8 harg8 arg9 harg9 T0 T1 x0 x1 x2 x3 x4 y5 xa0 h1 h2 h3).2.1 = [⟨RB, (XN (View.readAt (Elt Ideal) arg4.view RB.toLoadRect (arg4.view.rep x0)) (View.readAt (Elt Ideal) arg5.view (Rect.unit ![0, 0] S1x2048.size inb_S1x2048_S1x2048_0_0).toLoadRect (arg5.view.rep x1)))⟩, ⟨RA, (XN (View.readAt (Elt Ideal) arg4.view RA.toLoadRect (arg4.view.rep x0)) (View.readAt (Elt Ideal) arg5.view (Rect.unit ![0, 0] S1x2048.size inb_S1x2048_S1x2048_0_0).toLoadRect (arg5.view.rep x1)))⟩] := rfl

set_option maxHeartbeats 400000 in
theorem rawSC (h1 : ¬k0_cond1 i (wd T1 i) = 1#1) (h2 : ¬k0_cond2 i (wd T1 i) = 1#1) (h3 : k0_cond3 (wd T1 i) = 1#1) (h4 : k0_cond4 i (wd T1 i) = 1#1) (h5 : ¬k0_cond5 i (wd T1 i) = 1#1) (h6 : ¬k0_cond6 i (wd T1 i) = 1#1) (h7 : ¬k0_cond7 i (wd T1 i) = 1#1) (h8 : ¬k0_cond8 i (wd T1 i) = 1#1) (h9 : k0_cond9 i (wd T1 i) = 1#1) : (runC c i arg4 harg4 arg5 harg5 arg6 harg6 arg7 harg7 arg8 harg8 arg9 harg9 T0 T1 x0 x1 x2 x3 x4 y5 xa0 h1 h2 h3 h4 h5 h6 h7 h8 h9).2.1 = [⟨RA, (XN (View.readAt (Elt Ideal) arg4.view RA.toLoadRect (arg4.view.rep x0)) (View.readAt (Elt Ideal) arg5.view (Rect.unit ![0, 0] S1x2048.size inb_S1x2048_S1x2048_0_0).toLoadRect (arg5.view.rep x1)))⟩] := rfl

theorem good_two (f : Buf (Elt Ideal) ((c : Thread nD τ).loc cc0_scratch0)) (n0 n1 : S512x2048.Idx → Elt Ideal .bf16) :
    Good c true true n0 n1 (sc0.view.writes (Elt Ideal) f [⟨RB, n1⟩, ⟨RA, n0⟩]) := by
  have h := read_two sc0.view f n0 n1
  exact ⟨fun _ => (congrArg (fun X => View.ld X RA) h).trans (ld_stitch_RA n0 n1), fun _ => (congrArg (fun X => View.ld X RB) h).trans (ld_stitch_RB n0 n1)⟩
theorem good_one (f : Buf (Elt Ideal) ((c : Thread nD τ).loc cc0_scratch0)) (n0 n1 : S512x2048.Idx → Elt Ideal .bf16) :
    Good c true false n0 n1 (sc0.view.writes (Elt Ideal) f [⟨RA, n0⟩]) :=
  ⟨fun _ => funext fun x => View.read_writes_cons_emb sc0.view f RA n0 [] x, fun h => absurd h (by simp)⟩

theorem pay27_eq (w1 w3 : S1x2048x256.Idx → Elt Ideal .f32) (w2 : S1x256x2048.Idx → Elt Ideal .f32) (o : S512x2048.Idx → Elt Ideal .f32) (xn : S512x2048.Idx → Elt Ideal .bf16) :
    k0_pay27 (F := Ideal) w1 w3 w2 o xn = addf (F := Ideal) (φ := .f32) o (EX w1 w3 w2 xn) := by
  have h : k0_pay27 (F := Ideal) w1 w3 w2 o xn = addf (F := Ideal) (φ := .f32) (shapeCast S512x2048 o shapeCasts_S512x2048_S512x2048) (EX w1 w3 w2 xn) := rfl
  rw [h, shapeCast_self]

set_option maxHeartbeats 400000 in
/-- The body where no row in use, a later slice. -/
theorem stepF (h1 : ¬(k0_cond1 i (wd T1 i) = 1#1)) (h2 : ¬(k0_cond2 i (wd T1 i) = 1#1)) (h3 : k0_cond3 (wd T1 i) = 1#1) (h4 : ¬(k0_cond4 i (wd T1 i) = 1#1)) (h5 : ¬(k0_cond5 i (wd T1 i) = 1#1)) (h6 : ¬(k0_cond6 i (wd T1 i) = 1#1)) (h7 : ¬(k0_cond7 i (wd T1 i) = 1#1)) (h8 : ¬(k0_cond8 i (wd T1 i) = 1#1)) (h9 : ¬(k0_cond9 i (wd T1 i) = 1#1))
    (hg : Good c false false (XN (View.ld x0 RA) x1) (XN (View.ld x0 RB) x1) xa0) (K : PUnit → sProp 𝕄) :
    iprop(ins c arg4 arg5 arg6 arg7 arg8 T0 T1 x0 x1 x2 x3 x4 ∗ owns (c : Thread nD τ) arg9 fullShare (stitch p q) ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt false false x2 x3 x4 (XN (View.ld x0 RA) x1) p) (nxt false false x2 x3 x4 (XN (View.ld x0 RB) x1) q))
          ∗ (∃ a, ⌜Good c false false (XN (View.ld x0 RA) x1) (XN (View.ld x0 RB) x1) a⌝ ∗ (sc0.view.loc (c : Thread nD τ) ↦{fullShare} a))) -∗ K ⟨⟩))
      ⊢ wp frame (wpE (defs₀ (F := Ideal)) Variants.none c none) Set.univ (callB i arg4 harg4 arg5 harg5 arg6 harg6 arg7 harg7 arg8 harg8 arg9 harg9) K := by
  iintro ⟨HI, HO, HS, Hk⟩
  iapply ((runF c i arg4 harg4 arg5 harg5 arg6 harg6 arg7 harg7 arg8 harg8 arg9 harg9 T0 T1 x0 x1 x2 x3 x4 (stitch p q) xa0 h1 h2 h3 h4 h5 h6 h7 h8 h9).2 K)
  isplitl [HI]; · iexact HI
  isplitl [HO]; · iexact HO
  isplitl [HS]; · iexact HS
  iintro ⟨HI, HO, HS⟩
  iapply Hk
  isplitl [HI]; · iexact HI
  isplitl [HO]
  · iexact HO
  iexists _; isplitr; swap
  · iexact HS
  · ipureintro
    exact hg

set_option maxHeartbeats 400000 in
/-- The body where no row in use, the first slice. -/
theorem stepE (h1 : ¬(k0_cond1 i (wd T1 i) = 1#1)) (h2 : ¬(k0_cond2 i (wd T1 i) = 1#1)) (h3 : k0_cond3 (wd T1 i) = 1#1) (h4 : ¬(k0_cond4 i (wd T1 i) = 1#1)) (h5 : ¬(k0_cond5 i (wd T1 i) = 1#1)) (h6 : k0_cond6 i (wd T1 i) = 1#1) (h7 : ¬(k0_cond7 i (wd T1 i) = 1#1)) (h8 : ¬(k0_cond8 i (wd T1 i) = 1#1)) (h9 : k0_cond9 i (wd T1 i) = 1#1) (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt false true x2 x3 x4 (XN (View.ld x0 RA) x1) p) (nxt false true x2 x3 x4 (XN (View.ld x0 RB) x1) q))
          ∗ (∃ a, ⌜Good c false false (XN (View.ld x0 RA) x1) (XN (View.ld x0 RB) x1) a⌝ ∗ (sc0.view.loc (c : Thread nD τ) ↦{fullShare} a))) -∗ K ⟨⟩))
      ⊢ wp frame (wpE (defs₀ (F := Ideal)) Variants.none c none) Set.univ (callB i arg4 harg4 arg5 harg5 arg6 harg6 arg7 harg7 arg8 harg8 arg9 harg9) K := by
  have hraw : _ = ([⟨RB, nxt false true x2 x3 x4 (XN (View.ld x0 RB) x1) q⟩, ⟨RA, nxt false true x2 x3 x4 (XN (View.ld x0 RA) x1) p⟩] : List (View.Piece (Elt Ideal) S1024x2048 .f32)) := rawE c i arg4 harg4 arg5 harg5 arg6 harg6 arg7 harg7 arg8 harg8 arg9 harg9 T0 T1 x0 x1 x2 x3 x4 y5 xa0 h1 h2 h3 h4 h5 h6 h7 h8 h9
  iintro ⟨HI, HO, HS, Hk⟩
  iapply ((runE c i arg4 harg4 arg5 harg5 arg6 harg6 arg7 harg7 arg8 harg8 arg9 harg9 T0 T1 x0 x1 x2 x3 x4 y5 xa0 h1 h2 h3 h4 h5 h6 h7 h8 h9).2 K)
  isplitl [HI]; · iexact HI
  isplitl [HO]; · iexact HO
  isplitl [HS]; · iexact HS
  iintro ⟨HI, ⟨%f, HO⟩, HS⟩
  iapply Hk
  isplitl [HI]; · iexact HI
  isplitl [HO]
  · unfold owns; iexists _; isplitr; swap
    · iexact HO
    · ipureintro
      exact (congrArg (fun L => arg9.view.read (Elt Ideal) (arg9.view.writes (Elt Ideal) f L)) hraw).trans (read_two _ _ _ _)
  iexists _; isplitr; swap
  · iexact HS
  · ipureintro
    exact ⟨fun h => absurd h (by simp), fun h => absurd h (by simp)⟩

set_option maxHeartbeats 400000 in
/-- The body where some rows in use, a later slice. -/
theorem stepD (h1 : ¬(k0_cond1 i (wd T1 i) = 1#1)) (h2 : ¬(k0_cond2 i (wd T1 i) = 1#1)) (h3 : k0_cond3 (wd T1 i) = 1#1) (h4 : ¬(k0_cond4 i (wd T1 i) = 1#1)) (h5 : k0_cond5 i (wd T1 i) = 1#1) (h6 : ¬(k0_cond6 i (wd T1 i) = 1#1)) (h7 : ¬(k0_cond7 i (wd T1 i) = 1#1)) (h8 : ¬(k0_cond8 i (wd T1 i) = 1#1)) (h9 : ¬(k0_cond9 i (wd T1 i) = 1#1))
    (hg : Good c true false (XN (View.ld x0 RA) x1) (XN (View.ld x0 RB) x1) xa0) (K : PUnit → sProp 𝕄) :
    iprop(ins c arg4 arg5 arg6 arg7 arg8 T0 T1 x0 x1 x2 x3 x4 ∗ owns (c : Thread nD τ) arg9 fullShare (stitch p q) ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt true false x2 x3 x4 (XN (View.ld x0 RA) x1) p) (nxt false false x2 x3 x4 (XN (View.ld x0 RB) x1) q))
          ∗ (∃ a, ⌜Good c true false (XN (View.ld x0 RA) x1) (XN (View.ld x0 RB) x1) a⌝ ∗ (sc0.view.loc (c : Thread nD τ) ↦{fullShare} a))) -∗ K ⟨⟩))
      ⊢ wp frame (wpE (defs₀ (F := Ideal)) Variants.none c none) Set.univ (callB i arg4 harg4 arg5 harg5 arg6 harg6 arg7 harg7 arg8 harg8 arg9 harg9) K := by
  have eq2 : View.readAt (Elt Ideal) arg6.view (Rect.unit ![0, 0, 0] S1x2048x256.size inb_S1x2048x256_S1x2048x256_0_0_0).toLoadRect (arg6.view.rep x2) = x2 := View.readAt_rep_full _ _ _
  have eq3 : View.readAt (Elt Ideal) arg7.view (Rect.unit ![0, 0, 0] S1x2048x256.size inb_S1x2048x256_S1x2048x256_0_0_0).toLoadRect (arg7.view.rep x3) = x3 := View.readAt_rep_full _ _ _
  have eq4 : View.readAt (Elt Ideal) arg8.view (Rect.unit ![0, 0, 0] S1x256x2048.size inb_S1x256x2048_S1x256x2048_0_0_0).toLoadRect (arg8.view.rep x4) = x4 := View.readAt_rep_full _ _ _
  have hraw : _ = ([⟨RA, nxt true false x2 x3 x4 (XN (View.ld x0 RA) x1) p⟩] : List (View.Piece (Elt Ideal) S1024x2048 .f32)) := (rawD c i arg4 harg4 arg5 harg5 arg6 harg6 arg7 harg7 arg8 harg8 arg9 harg9 T0 T1 x0 x1 x2 x3 x4 (stitch p q) xa0 h1 h2 h3 h4 h5 h6 h7 h8 h9).trans (by rw [eq2, eq3, eq4, pay27_eq, View.readAt_eq_ld _ (harg9.unread _), harg9.read_unread, ld_stitch_RA, hg.1 rfl]; rfl)
  iintro ⟨HI, HO, HS, Hk⟩
  iapply ((runD c i arg4 harg4 arg5 harg5 arg6 harg6 arg7 harg7 arg8 harg8 arg9 harg9 T0 T1 x0 x1 x2 x3 x4 (stitch p q) xa0 h1 h2 h3 h4 h5 h6 h7 h8 h9).2 K)
  isplitl [HI]; · iexact HI
  isplitl [HO]; · iexact HO
  isplitl [HS]; · iexact HS
  iintro ⟨HI, HO, HS⟩
  iapply Hk
  isplitl [HI]; · iexact HI
  isplitl [HO]
  · unfold owns; iexists _; isplitr; swap
    · iexact HO
    · ipureintro
      exact (congrArg (fun L => arg9.view.read (Elt Ideal) (arg9.view.writes (Elt Ideal) (harg9.unread (stitch p q)) L)) hraw).trans (read_one _ _ p _ q (harg9.read_unread _))
  iexists _; isplitr; swap
  · iexact HS
  · ipureintro
    exact hg

set_option maxHeartbeats 400000 in
/-- The body where some rows in use, the first slice. -/
theorem stepC (h1 : ¬(k0_cond1 i (wd T1 i) = 1#1)) (h2 : ¬(k0_cond2 i (wd T1 i) = 1#1)) (h3 : k0_cond3 (wd T1 i) = 1#1) (h4 : k0_cond4 i (wd T1 i) = 1#1) (h5 : ¬(k0_cond5 i (wd T1 i) = 1#1)) (h6 : ¬(k0_cond6 i (wd T1 i) = 1#1)) (h7 : ¬(k0_cond7 i (wd T1 i) = 1#1)) (h8 : ¬(k0_cond8 i (wd T1 i) = 1#1)) (h9 : k0_cond9 i (wd T1 i) = 1#1) (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt true true x2 x3 x4 (XN (View.ld x0 RA) x1) p) (nxt false true x2 x3 x4 (XN (View.ld x0 RB) x1) q))
          ∗ (∃ a, ⌜Good c true false (XN (View.ld x0 RA) x1) (XN (View.ld x0 RB) x1) a⌝ ∗ (sc0.view.loc (c : Thread nD τ) ↦{fullShare} a))) -∗ K ⟨⟩))
      ⊢ wp frame (wpE (defs₀ (F := Ideal)) Variants.none c none) Set.univ (callB i arg4 harg4 arg5 harg5 arg6 harg6 arg7 harg7 arg8 harg8 arg9 harg9) K := by
  have eq2 : View.readAt (Elt Ideal) arg6.view (Rect.unit ![0, 0, 0] S1x2048x256.size inb_S1x2048x256_S1x2048x256_0_0_0).toLoadRect (arg6.view.rep x2) = x2 := View.readAt_rep_full _ _ _
  have eq3 : View.readAt (Elt Ideal) arg7.view (Rect.unit ![0, 0, 0] S1x2048x256.size inb_S1x2048x256_S1x2048x256_0_0_0).toLoadRect (arg7.view.rep x3) = x3 := View.readAt_rep_full _ _ _
  have eq4 : View.readAt (Elt Ideal) arg8.view (Rect.unit ![0, 0, 0] S1x256x2048.size inb_S1x256x2048_S1x256x2048_0_0_0).toLoadRect (arg8.view.rep x4) = x4 := View.readAt_rep_full _ _ _
  have eq1 : View.readAt (Elt Ideal) arg5.view (Rect.unit ![0, 0] S1x2048.size inb_S1x2048_S1x2048_0_0).toLoadRect (arg5.view.rep x1) = x1 := View.readAt_rep_full _ _ _
  have eq0A : View.readAt (Elt Ideal) arg4.view RA.toLoadRect (arg4.view.rep x0) = View.ld x0 RA := by rw [View.readAt_rep]
  have eq0B : View.readAt (Elt Ideal) arg4.view RB.toLoadRect (arg4.view.rep x0) = View.ld x0 RB := by rw [View.readAt_rep]
  have hS : _ = ([⟨RA, (XN (View.ld x0 RA) x1)⟩] : List (View.Piece (Elt Ideal) S1024x2048 .bf16)) := (rawSC c i arg4 harg4 arg5 harg5 arg6 harg6 arg7 harg7 arg8 harg8 arg9 harg9 T0 T1 x0 x1 x2 x3 x4 y5 xa0 h1 h2 h3 h4 h5 h6 h7 h8 h9).trans (by rw [eq0A, eq1])
  have hraw : _ = ([⟨RB, nxt false true x2 x3 x4 (XN (View.ld x0 RB) x1) q⟩, ⟨RA, nxt true true x2 x3 x4 (XN (View.ld x0 RA) x1) p⟩] : List (View.Piece (Elt Ideal) S1024x2048 .f32)) := (rawC c i arg4 harg4 arg5 harg5 arg6 harg6 arg7 harg7 arg8 harg8 arg9 harg9 T0 T1 x0 x1 x2 x3 x4 y5 xa0 h1 h2 h3 h4 h5 h6 h7 h8 h9).trans (by rw [eq2, eq3, eq4, View.readCov_cons_toLoadRect, eq0A, eq1]; rfl)
  iintro ⟨HI, HO, HS, Hk⟩
  iapply ((runC c i arg4 harg4 arg5 harg5 arg6 harg6 arg7 harg7 arg8 harg8 arg9 harg9 T0 T1 x0 x1 x2 x3 x4 y5 xa0 h1 h2 h3 h4 h5 h6 h7 h8 h9).2.2 K)
  isplitl [HI]; · iexact HI
  isplitl [HO]; · iexact HO
  isplitl [HS]; · iexact HS
  iintro ⟨HI, ⟨%f, HO⟩, ⟨%fs, HS⟩⟩
  iapply Hk
  isplitl [HI]; · iexact HI
  isplitl [HO]
  · unfold owns; iexists _; isplitr; swap
    · iexact HO
    · ipureintro
      exact (congrArg (fun L => arg9.view.read (Elt Ideal) (arg9.view.writes (Elt Ideal) f L)) hraw).trans (read_two _ _ _ _)
  iexists _; isplitr; swap
  · iexact HS
  · ipureintro
    exact (congrArg (fun L => Good c true false (XN (View.ld x0 RA) x1) (XN (View.ld x0 RB) x1) (sc0.view.writes (Elt Ideal) fs L)) hS).mpr (good_one c _ _ _)

set_option maxHeartbeats 400000 in
/-- The body where all rows in use, a later slice. -/
theorem stepB (h1 : ¬(k0_cond1 i (wd T1 i) = 1#1)) (h2 : k0_cond2 i (wd T1 i) = 1#1) (h3 : ¬(k0_cond3 (wd T1 i) = 1#1))
    (hg : Good c true true (XN (View.ld x0 RA) x1) (XN (View.ld x0 RB) x1) xa0) (K : PUnit → sProp 𝕄) :
    iprop(ins c arg4 arg5 arg6 arg7 arg8 T0 T1 x0 x1 x2 x3 x4 ∗ owns (c : Thread nD τ) arg9 fullShare (stitch p q) ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt true false x2 x3 x4 (XN (View.ld x0 RA) x1) p) (nxt true false x2 x3 x4 (XN (View.ld x0 RB) x1) q))
          ∗ (∃ a, ⌜Good c true true (XN (View.ld x0 RA) x1) (XN (View.ld x0 RB) x1) a⌝ ∗ (sc0.view.loc (c : Thread nD τ) ↦{fullShare} a))) -∗ K ⟨⟩))
      ⊢ wp frame (wpE (defs₀ (F := Ideal)) Variants.none c none) Set.univ (callB i arg4 harg4 arg5 harg5 arg6 harg6 arg7 harg7 arg8 harg8 arg9 harg9) K := by
  have eq2 : View.readAt (Elt Ideal) arg6.view (Rect.unit ![0, 0, 0] S1x2048x256.size inb_S1x2048x256_S1x2048x256_0_0_0).toLoadRect (arg6.view.rep x2) = x2 := View.readAt_rep_full _ _ _
  have eq3 : View.readAt (Elt Ideal) arg7.view (Rect.unit ![0, 0, 0] S1x2048x256.size inb_S1x2048x256_S1x2048x256_0_0_0).toLoadRect (arg7.view.rep x3) = x3 := View.readAt_rep_full _ _ _
  have eq4 : View.readAt (Elt Ideal) arg8.view (Rect.unit ![0, 0, 0] S1x256x2048.size inb_S1x256x2048_S1x256x2048_0_0_0).toLoadRect (arg8.view.rep x4) = x4 := View.readAt_rep_full _ _ _
  have hraw : _ = ([⟨RB, nxt true false x2 x3 x4 (XN (View.ld x0 RB) x1) q⟩, ⟨RA, nxt true false x2 x3 x4 (XN (View.ld x0 RA) x1) p⟩] : List (View.Piece (Elt Ideal) S1024x2048 .f32)) := (rawB c i arg4 harg4 arg5 harg5 arg6 harg6 arg7 harg7 arg8 harg8 arg9 harg9 T0 T1 x0 x1 x2 x3 x4 (stitch p q) xa0 h1 h2 h3).trans (by rw [eq2, eq3, eq4, pay27_eq, pay27_eq, View.readAt_eq_ld _ (harg9.unread _) RA, View.readAt_eq_ld _ (harg9.unread _) RB, harg9.read_unread, ld_stitch_RA, ld_stitch_RB, hg.1 rfl, hg.2 rfl]; rfl)
  iintro ⟨HI, HO, HS, Hk⟩
  iapply ((runB c i arg4 harg4 arg5 harg5 arg6 harg6 arg7 harg7 arg8 harg8 arg9 harg9 T0 T1 x0 x1 x2 x3 x4 (stitch p q) xa0 h1 h2 h3).2 K)
  isplitl [HI]; · iexact HI
  isplitl [HO]; · iexact HO
  isplitl [HS]; · iexact HS
  iintro ⟨HI, ⟨%f, HO⟩, HS⟩
  iapply Hk
  isplitl [HI]; · iexact HI
  isplitl [HO]
  · unfold owns; iexists _; isplitr; swap
    · iexact HO
    · ipureintro
      exact (congrArg (fun L => arg9.view.read (Elt Ideal) (arg9.view.writes (Elt Ideal) f L)) hraw).trans (read_two _ _ _ _)
  iexists _; isplitr; swap
  · iexact HS
  · ipureintro
    exact hg

set_option maxHeartbeats 400000 in
/-- The body where all rows in use, the first slice. -/
theorem stepA (h1 : k0_cond1 i (wd T1 i) = 1#1) (h2 : ¬(k0_cond2 i (wd T1 i) = 1#1)) (h3 : ¬(k0_cond3 (wd T1 i) = 1#1)) (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt true true x2 x3 x4 (XN (View.ld x0 RA) x1) p) (nxt true true x2 x3 x4 (XN (View.ld x0 RB) x1) q))
          ∗ (∃ a, ⌜Good c true true (XN (View.ld x0 RA) x1) (XN (View.ld x0 RB) x1) a⌝ ∗ (sc0.view.loc (c : Thread nD τ) ↦{fullShare} a))) -∗ K ⟨⟩))
      ⊢ wp frame (wpE (defs₀ (F := Ideal)) Variants.none c none) Set.univ (callB i arg4 harg4 arg5 harg5 arg6 harg6 arg7 harg7 arg8 harg8 arg9 harg9) K := by
  have eq2 : View.readAt (Elt Ideal) arg6.view (Rect.unit ![0, 0, 0] S1x2048x256.size inb_S1x2048x256_S1x2048x256_0_0_0).toLoadRect (arg6.view.rep x2) = x2 := View.readAt_rep_full _ _ _
  have eq3 : View.readAt (Elt Ideal) arg7.view (Rect.unit ![0, 0, 0] S1x2048x256.size inb_S1x2048x256_S1x2048x256_0_0_0).toLoadRect (arg7.view.rep x3) = x3 := View.readAt_rep_full _ _ _
  have eq4 : View.readAt (Elt Ideal) arg8.view (Rect.unit ![0, 0, 0] S1x256x2048.size inb_S1x256x2048_S1x256x2048_0_0_0).toLoadRect (arg8.view.rep x4) = x4 := View.readAt_rep_full _ _ _
  have eq1 : View.readAt (Elt Ideal) arg5.view (Rect.unit ![0, 0] S1x2048.size inb_S1x2048_S1x2048_0_0).toLoadRect (arg5.view.rep x1) = x1 := View.readAt_rep_full _ _ _
  have eq0A : View.readAt (Elt Ideal) arg4.view RA.toLoadRect (arg4.view.rep x0) = View.ld x0 RA := by rw [View.readAt_rep]
  have eq0B : View.readAt (Elt Ideal) arg4.view RB.toLoadRect (arg4.view.rep x0) = View.ld x0 RB := by rw [View.readAt_rep]
  have hS : _ = ([⟨RB, (XN (View.ld x0 RB) x1)⟩, ⟨RA, (XN (View.ld x0 RA) x1)⟩] : List (View.Piece (Elt Ideal) S1024x2048 .bf16)) := (rawSA c i arg4 harg4 arg5 harg5 arg6 harg6 arg7 harg7 arg8 harg8 arg9 harg9 T0 T1 x0 x1 x2 x3 x4 y5 xa0 h1 h2 h3).trans (by rw [eq0A, eq0B, eq1])
  have hraw : _ = ([⟨RB, nxt true true x2 x3 x4 (XN (View.ld x0 RB) x1) q⟩, ⟨RA, nxt true true x2 x3 x4 (XN (View.ld x0 RA) x1) p⟩] : List (View.Piece (Elt Ideal) S1024x2048 .f32)) := (rawA c i arg4 harg4 arg5 harg5 arg6 harg6 arg7 harg7 arg8 harg8 arg9 harg9 T0 T1 x0 x1 x2 x3 x4 y5 xa0 h1 h2 h3).trans (by rw [eq2, eq3, eq4, View.readCov_cons_toLoadRect, View.readCov_cons_toLoadRect, eq0A, eq0B, eq1]; rfl)
  iintro ⟨HI, HO, HS, Hk⟩
  iapply ((runA c i arg4 harg4 arg5 harg5 arg6 harg6 arg7 harg7 arg8 harg8 arg9 harg9 T0 T1 x0 x1 x2 x3 x4 y5 xa0 h1 h2 h3).2.2 K)
  isplitl [HI]; · iexact HI
  isplitl [HO]; · iexact HO
  isplitl [HS]; · iexact HS
  iintro ⟨HI, ⟨%f, HO⟩, ⟨%fs, HS⟩⟩
  iapply Hk
  isplitl [HI]; · iexact HI
  isplitl [HO]
  · unfold owns; iexists _; isplitr; swap
    · iexact HO
    · ipureintro
      exact (congrArg (fun L => arg9.view.read (Elt Ideal) (arg9.view.writes (Elt Ideal) f L)) hraw).trans (read_two _ _ _ _)
  iexists _; isplitr; swap
  · iexact HS
  · ipureintro
    exact (congrArg (fun L => Good c true true (XN (View.ld x0 RA) x1) (XN (View.ld x0 RB) x1) (sc0.view.writes (Elt Ideal) fs L)) hS).mpr (good_two c _ _ _)

/-- The body at any point. -/
theorem body_step (j : Bool) (hj : j = decide ((i 1).val = 0)) (v : BitVec 32) (hv : wd T1 i = v)
    (hy : j = false → y5 = stitch p q)
    (ha : j = false → Good c (Cert.Words.lo v) (Cert.Words.hi v) (XN (View.ld x0 RA) x1) (XN (View.ld x0 RB) x1) xa0)
    (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt (Cert.Words.lo v) j x2 x3 x4 (XN (View.ld x0 RA) x1) p) (nxt (Cert.Words.hi v) j x2 x3 x4 (XN (View.ld x0 RB) x1) q))
          ∗ (∃ a, ⌜Good c (Cert.Words.lo v) (Cert.Words.hi v) (XN (View.ld x0 RA) x1) (XN (View.ld x0 RB) x1) a⌝ ∗ (sc0.view.loc (c : Thread nD τ) ↦{fullShare} a))) -∗ K ⟨⟩))
      ⊢ wp frame (wpE (defs₀ (F := Ideal)) Variants.none c none) Set.univ (callB i arg4 harg4 arg5 harg5 arg6 harg6 arg7 harg7 arg8 harg8 arg9 harg9) K := by
  subst hv
  have hlh := @Words.lo_of_hi (wd T1 i)
  revert ha
  cases hh : Words.hi (wd T1 i) <;> cases hl : Words.lo (wd T1 i) <;> cases j <;> intro ha
  · obtain rfl := hy rfl
    exact stepF c i arg4 harg4 arg5 harg5 arg6 harg6 arg7 harg7 arg8 harg8 arg9 harg9 T0 T1 x0 x1 x2 x3 x4 p q xa0 (by rw [cond1_eq, Words.ofBool_one]; simp [hh, hl, ← hj]) (by rw [cond2_eq, Words.ofBool_one]; simp [hh, hl, ← hj]) (by rw [cond3_eq, Words.ofBool_one]; simp [hh, hl, ← hj]) (by rw [cond4_eq, Words.ofBool_one]; simp [hh, hl, ← hj]) (by rw [cond5_eq, Words.ofBool_one]; simp [hh, hl, ← hj]) (by rw [cond6_eq, Words.ofBool_one]; simp [hh, hl, ← hj]) (by rw [cond7_eq, Words.ofBool_one]; simp [hh, hl, ← hj]) (by rw [cond8_eq, Words.ofBool_one]; simp [hh, hl, ← hj]) (by rw [cond9_eq, Words.ofBool_one]; simp [hh, hl, ← hj]) (ha rfl) K
  · exact stepE c i arg4 harg4 arg5 harg5 arg6 harg6 arg7 harg7 arg8 harg8 arg9 harg9 T0 T1 x0 x1 x2 x3 x4 p q y5 xa0 (by rw [cond1_eq, Words.ofBool_one]; simp [hh, hl, ← hj]) (by rw [cond2_eq, Words.ofBool_one]; simp [hh, hl, ← hj]) (by rw [cond3_eq, Words.ofBool_one]; simp [hh, hl, ← hj]) (by rw [cond4_eq, Words.ofBool_one]; simp [hh, hl, ← hj]) (by rw [cond5_eq, Words.ofBool_one]; simp [hh, hl, ← hj]) (by rw [cond6_eq, Words.ofBool_one]; simp [hh, hl, ← hj]) (by rw [cond7_eq, Words.ofBool_one]; simp [hh, hl, ← hj]) (by rw [cond8_eq, Words.ofBool_one]; simp [hh, hl, ← hj]) (by rw [cond9_eq, Words.ofBool_one]; simp [hh, hl, ← hj]) K
  · obtain rfl := hy rfl
    exact stepD c i arg4 harg4 arg5 harg5 arg6 harg6 arg7 harg7 arg8 harg8 arg9 harg9 T0 T1 x0 x1 x2 x3 x4 p q xa0 (by rw [cond1_eq, Words.ofBool_one]; simp [hh, hl, ← hj]) (by rw [cond2_eq, Words.ofBool_one]; simp [hh, hl, ← hj]) (by rw [cond3_eq, Words.ofBool_one]; simp [hh, hl, ← hj]) (by rw [cond4_eq, Words.ofBool_one]; simp [hh, hl, ← hj]) (by rw [cond5_eq, Words.ofBool_one]; simp [hh, hl, ← hj]) (by rw [cond6_eq, Words.ofBool_one]; simp [hh, hl, ← hj]) (by rw [cond7_eq, Words.ofBool_one]; simp [hh, hl, ← hj]) (by rw [cond8_eq, Words.ofBool_one]; simp [hh, hl, ← hj]) (by rw [cond9_eq, Words.ofBool_one]; simp [hh, hl, ← hj]) (ha rfl) K
  · exact stepC c i arg4 harg4 arg5 harg5 arg6 harg6 arg7 harg7 arg8 harg8 arg9 harg9 T0 T1 x0 x1 x2 x3 x4 p q y5 xa0 (by rw [cond1_eq, Words.ofBool_one]; simp [hh, hl, ← hj]) (by rw [cond2_eq, Words.ofBool_one]; simp [hh, hl, ← hj]) (by rw [cond3_eq, Words.ofBool_one]; simp [hh, hl, ← hj]) (by rw [cond4_eq, Words.ofBool_one]; simp [hh, hl, ← hj]) (by rw [cond5_eq, Words.ofBool_one]; simp [hh, hl, ← hj]) (by rw [cond6_eq, Words.ofBool_one]; simp [hh, hl, ← hj]) (by rw [cond7_eq, Words.ofBool_one]; simp [hh, hl, ← hj]) (by rw [cond8_eq, Words.ofBool_one]; simp [hh, hl, ← hj]) (by rw [cond9_eq, Words.ofBool_one]; simp [hh, hl, ← hj]) K
  · exact absurd (hlh hh) (by rw [hl]; simp)
  · exact absurd (hlh hh) (by rw [hl]; simp)
  · obtain rfl := hy rfl
    exact stepB c i arg4 harg4 arg5 harg5 arg6 harg6 arg7 harg7 arg8 harg8 arg9 harg9 T0 T1 x0 x1 x2 x3 x4 p q xa0 (by rw [cond1_eq, Words.ofBool_one]; simp [hh, hl, ← hj]) (by rw [cond2_eq, Words.ofBool_one]; simp [hh, hl, ← hj]) (by rw [cond3_eq, Words.ofBool_one]; simp [hh, hl, ← hj]) (ha rfl) K
  · exact stepA c i arg4 harg4 arg5 harg5 arg6 harg6 arg7 harg7 arg8 harg8 arg9 harg9 T0 T1 x0 x1 x2 x3 x4 p q y5 xa0 (by rw [cond1_eq, Words.ofBool_one]; simp [hh, hl, ← hj]) (by rw [cond2_eq, Words.ofBool_one]; simp [hh, hl, ← hj]) (by rw [cond3_eq, Words.ofBool_one]; simp [hh, hl, ← hj]) K

end

end Cert.Kernel2Ideal.Sw

end
-- ==== Proof.Sw.DataI.lean ====
module

public import proofs.«01_k».proof.Proof.Sw.BodyI
public import proofs.«01_k».proof.Proof.Gen.Pre_in_range
public import Idealize.ShloMosaic.Lib.Pipeline.Quiescent
public import Idealize.ShloMosaic.Lib.Claim

@[expose] public section

set_option maxRecDepth 16384
set_option Elab.async false

noncomputable section

/-! The routed experts' launch at ANY contents of its two tables whose side condition holds: what the pipeline's buffers
hold point by point (`traj`), the body's obligation from the six runs, the launch, and the frame claim. -/
namespace Cert.Kernel2Ideal.Sw

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (m : (ℓ : Loc nD τ sig) → Buf (Elt Ideal) ℓ)

/-- The one device, and the tables' contents in its memory. -/
abbrev d0 : Dev nD := ⟨0, by decide⟩
abbrev T0 : S40.Idx → BitVec 32 := m ((d0 : Thread nD τ).loc main_arg5)
abbrev T1 : S40.Idx → BitVec 32 := m ((d0 : Thread nD τ).loc main_arg6)

set_option backward.proofsInPublic true in
def pf : pre0.Contents (Elt Ideal) := fun | ⟨0, _⟩ => T0 m | ⟨1, _⟩ => T1 m | ⟨_ + 2, h⟩ => absurd h (by simp)

/-- A tile of the grid as an index of the tables. -/
abbrev tix (i : grid0.Coords) : S40.Idx := fun a => ⟨(i 0).val, by fin_cases a; exact (i 0).isLt⟩

theorem ofNat40 (n : ℕ) (h : n < 40) : (BitVec.ofNat 32 n).toNat = n := by
  rw [BitVec.toNat_ofNat]; exact Nat.mod_eq_of_lt (by omega)

theorem off1_val (i : grid0.Coords) (a : Fin 1) : k0_off1 i a = (i 0).val := by
  have h : (i 0).val < 40 := (i 0).isLt
  fin_cases a
  exact ofNat40 _ h

theorem wd_eq (T : S40.Idx → BitVec 32) (i : grid0.Coords) : wd T i = T (tix i) := by
  show T _ = T _
  congr 1
  funext a
  apply Fin.ext
  have h := off1_val i a
  fin_cases a
  show k0_off1 i 0 + 0 * 1 = _
  simpa using h

theorem at0 (i : grid0.Coords) : (pf m).at 0 (Rect.unit (s := S40) (k0_off1 i) S1.size (k0_off1_inb i)) numel1_S1 = T0 m (tix i) := wd_eq (T0 m) i

theorem atD_eq (i : grid0.Coords) : (pf m).atD 1 (k0_off1 i) = wd (T1 m) i := by
  rw [wd_eq]
  have h : ∀ a, k0_off1 i a + 1 ≤ S40.size a := fun a => by fin_cases a; exact k0_off1_inb i 0
  refine (dif_pos h).trans ?_
  show T1 m _ = T1 m _
  congr 1
  funext a
  exact Fin.ext (off1_val i a)

/-- The tables' side condition, from the range of the first. -/
theorem sel_le : ∀ (b : BitVec 1) (j : Fin 28), (Scalar.select b (BitVec.ofNat 32 j.val) 27#32).toNat ≤ 27 := by decide

theorem ok_of (h : ∀ x, (T0 m x).toNat < 8) : ok0 (F := Ideal) (pf m) := by
  have e0 : ∀ i : grid0.Coords, ((pf m).at 0 (Rect.unit (s := S40) (k0_off1 i) S1.size (k0_off1_inb i)) numel1_S1).toNat < 8 := fun i => by
    rw [at0]; exact h _
  refine ⟨fun i => ⟨?_, .inl rfl⟩, fun i => ⟨?_, .inl rfl⟩, fun i => ⟨?_, .inl rfl⟩⟩
  · intro a
    fin_cases a
    · show (((pf m).at 0 (Rect.unit (s := S40) (k0_off1 i) S1.size (k0_off1_inb i)) numel1_S1).toNat + 1) * 1 ≤ 8
      have := e0 i; omega
    · show (0 + 1) * 2048 ≤ 2048; omega
    · show ((Scalar.select (Scalar.cmpi .sgt ((pf m).at 1 (Rect.unit (s := S40) (k0_off1 i) S1.size (k0_off1_inb i)) numel1_S1) 0#32) (BitVec.ofNat 32 (i 1).val) 27#32).toNat + 1) * 256 ≤ 7168
      have := sel_le (Scalar.cmpi .sgt ((pf m).at 1 (Rect.unit (s := S40) (k0_off1 i) S1.size (k0_off1_inb i)) numel1_S1) 0#32) (i 1); omega
  · intro a
    fin_cases a
    · show (((pf m).at 0 (Rect.unit (s := S40) (k0_off1 i) S1.size (k0_off1_inb i)) numel1_S1).toNat + 1) * 1 ≤ 8
      have := e0 i; omega
    · show (0 + 1) * 2048 ≤ 2048; omega
    · show ((Scalar.select (Scalar.cmpi .sgt ((pf m).at 1 (Rect.unit (s := S40) (k0_off1 i) S1.size (k0_off1_inb i)) numel1_S1) 0#32) (BitVec.ofNat 32 (i 1).val) 27#32).toNat + 1) * 256 ≤ 7168
      have := sel_le (Scalar.cmpi .sgt ((pf m).at 1 (Rect.unit (s := S40) (k0_off1 i) S1.size (k0_off1_inb i)) numel1_S1) 0#32) (i 1); omega
  · intro a
    fin_cases a
    · show (((pf m).at 0 (Rect.unit (s := S40) (k0_off1 i) S1.size (k0_off1_inb i)) numel1_S1).toNat + 1) * 1 ≤ 8
      have := e0 i; omega
    · show ((Scalar.select (Scalar.cmpi .sgt ((pf m).at 1 (Rect.unit (s := S40) (k0_off1 i) S1.size (k0_off1_inb i)) numel1_S1) 0#32) (BitVec.ofNat 32 (i 1).val) 27#32).toNat + 1) * 256 ≤ 7168
      have := sel_le (Scalar.cmpi .sgt ((pf m).at 1 (Rect.unit (s := S40) (k0_off1 i) S1.size (k0_off1_inb i)) numel1_S1) 0#32) (i 1); omega
    · show (0 + 1) * 2048 ≤ 2048; omega

theorem word_lt8 (v : BitVec 32) (h : Scalar.andi (Scalar.cmpi .sge v 0#32) (Scalar.cmpi .slt v 8#32) = 1#1) : v.toNat < 8 := by
  have h' : BitVec.ofBool ((0#32).sle v) &&& BitVec.ofBool (v.slt 8#32) = 1#1 := h
  rw [BitVec.ofBool_and_ofBool, Words.ofBool_one, Bool.and_eq_true] at h'
  obtain ⟨h1, h2⟩ := h'
  simp only [BitVec.sle, BitVec.slt, decide_eq_true_eq] at h1 h2
  have h8 : (8#32).toInt = 8 := by decide
  have h0 : (0#32).toInt = 0 := by decide
  rw [h0] at h1; rw [h8] at h2
  have := BitVec.toInt_eq_toNat_cond v
  split at this <;> omega

theorem lt8_of_pre (h : Pre_Kernel2Ideal m) (x : S40.Idx) : (T0 m x).toNat < 8 :=
  word_lt8 _ (congrFun (h d0) x)

variable (hok : ok0 (F := Ideal) (pf m))

/-- The pipeline at the memory's tables. -/
def adm : (pcfg0 (F := Ideal)).Adm := ⟨pf m, hok⟩
abbrev cfgA : Pipeline.Cfg sig Λ₀ := cfg0 (F := Ideal) (adm m hok)
abbrev pcs : Fin 1 → Pipeline.Cfg sig Λ₀ := Pipeline.pin (pcfgs (F := Ideal)) fun _ => adm m hok

variable (ρ : Dev nD → PrngReg)

abbrev crd (t : Fin (cfgA m hok).N) : (cfgA m hok).grid.Coords := (cfgA m hok).grid.coords t

theorem N_eq : (cfgA m hok).N = 1120 := N_0
theorem lt_N (t : Fin (cfgA m hok).N) : t.val < 1120 := lt_of_lt_of_eq t.isLt N_0
theorem crd1 (t : Fin (cfgA m hok).N) : (crd m hok t 1).val = t.val % 28 := by
  show t.val / grid0.stride 1 % 28 = _
  rw [show grid0.stride 1 = 1 from by decide, Nat.div_one]
theorem crd0 (t : Fin (cfgA m hok).N) : (crd m hok t 0).val = t.val / 28 := by
  have h := lt_N m hok t
  show t.val / grid0.stride 0 % 40 = _
  rw [show grid0.stride 0 = 28 from by decide]
  exact Nat.mod_eq_of_lt (by omega)

abbrev ms0_0 (t : Fin (cfgA m hok).N) : Memref sig .tc .vmem S1024x2048 .f32 := spec0_0.stage ((cfgA m hok).slots t (0 : Fin 6))
abbrev hs0_0 (t : Fin (cfgA m hok).N) : (ms0_0 m hok t).IsWhole := hstage0_0 (((cfgA m hok).slots t (0 : Fin 6)).cast nbuf0_0)
abbrev ms0_1 (t : Fin (cfgA m hok).N) : Memref sig .tc .vmem S1x2048 .f32 := spec0_1.stage ((cfgA m hok).slots t (1 : Fin 6))
abbrev hs0_1 (t : Fin (cfgA m hok).N) : (ms0_1 m hok t).IsWhole := hstage0_1 (((cfgA m hok).slots t (1 : Fin 6)).cast nbuf0_1)
abbrev ms0_2 (t : Fin (cfgA m hok).N) : Memref sig .tc .vmem S1x2048x256 .f32 := spec0_2.stage ((cfgA m hok).slots t (2 : Fin 6))
abbrev hs0_2 (t : Fin (cfgA m hok).N) : (ms0_2 m hok t).IsWhole := hstage0_2 (((cfgA m hok).slots t (2 : Fin 6)).cast nbuf0_2)
abbrev ms0_3 (t : Fin (cfgA m hok).N) : Memref sig .tc .vmem S1x2048x256 .f32 := spec0_3.stage ((cfgA m hok).slots t (3 : Fin 6))
abbrev hs0_3 (t : Fin (cfgA m hok).N) : (ms0_3 m hok t).IsWhole := hstage0_3 (((cfgA m hok).slots t (3 : Fin 6)).cast nbuf0_3)
abbrev ms0_4 (t : Fin (cfgA m hok).N) : Memref sig .tc .vmem S1x256x2048 .f32 := spec0_4.stage ((cfgA m hok).slots t (4 : Fin 6))
abbrev hs0_4 (t : Fin (cfgA m hok).N) : (ms0_4 m hok t).IsWhole := hstage0_4 (((cfgA m hok).slots t (4 : Fin 6)).cast nbuf0_4)
abbrev ms0_5 (t : Fin (cfgA m hok).N) : Memref sig .tc .vmem S1024x2048 .f32 := spec0_5.stage ((cfgA m hok).slots t (5 : Fin 6))
abbrev hs0_5 (t : Fin (cfgA m hok).N) : (ms0_5 m hok t).IsWhole := hstage0_5 (((cfgA m hok).slots t (5 : Fin 6)).cast nbuf0_5)

/-- Window `w`'s block at point `t`, read off its array at launch. -/
def iblk (c : Dev nD) (w : Fin (cfgA m hok).W) (t : Fin (cfgA m hok).N) : (((cfgA m hok).win w).xblock (crd m hok t)).Idx → Elt Ideal ((cfgA m hok).win w).elt :=
  (((cfgA m hok).win w).blk t).view.read (Elt Ideal) ((s₀ m ρ).mem (((cfgA m hok).win w).arr.view.loc (c : Thread nD τ)))

/-- The tile's count of rows in use at point `t`; its halves' normalised rows. -/
abbrev wv (t : Fin (cfgA m hok).N) : BitVec 32 := wd (T1 m) (crd m hok t)
abbrev xnA (c : Dev nD) (t : Fin (cfgA m hok).N) : S512x2048.Idx → Elt Ideal .bf16 := XN (View.ld (iblk m hok ρ c (0 : Fin 6) t : S1024x2048.Idx → Elt Ideal .f32) RA) (iblk m hok ρ c (1 : Fin 6) t)
abbrev xnB (c : Dev nD) (t : Fin (cfgA m hok).N) : S512x2048.Idx → Elt Ideal .bf16 := XN (View.ld (iblk m hok ρ c (0 : Fin 6) t : S1024x2048.Idx → Elt Ideal .f32) RB) (iblk m hok ρ c (1 : Fin 6) t)
abbrev goodAt (c : Dev nD) (t : Fin (cfgA m hok).N) (a : Buf (Elt Ideal) ((c : Thread nD τ).loc cc0_scratch0)) : Prop :=
  Good c (Words.lo (wv m hok t)) (Words.hi (wv m hok t)) (xnA m hok ρ c t) (xnB m hok ρ c t) a

abbrev Half : Type := S512x2048.Idx → Elt Ideal .f32

/-- One point: what the two halves hold after it, from what they held. -/
def step0 (c : Dev nD) (t : Fin (cfgA m hok).N) (prev : Half × Half) : Half × Half :=
  (nxt (Words.lo (wv m hok t)) (decide (t.val % 28 = 0)) (iblk m hok ρ c (2 : Fin 6) t) (iblk m hok ρ c (3 : Fin 6) t) (iblk m hok ρ c (4 : Fin 6) t) (xnA m hok ρ c t) prev.1,
   nxt (Words.hi (wv m hok t)) (decide (t.val % 28 = 0)) (iblk m hok ρ c (2 : Fin 6) t) (iblk m hok ρ c (3 : Fin 6) t) (iblk m hok ρ c (4 : Fin 6) t) (xnB m hok ρ c t) prev.2)

def traj (c : Dev nD) : (n : ℕ) → n < (cfgA m hok).N → Half × Half
  | 0, h => step0 m hok ρ c ⟨0, h⟩ (default, default)
  | n + 1, h => step0 m hok ρ c ⟨n + 1, h⟩ (traj c n (Nat.lt_of_succ_lt h))

def prev0 (c : Dev nD) (t : Fin (cfgA m hok).N) : Half × Half :=
  if h : t.val = 0 then (default, default) else traj m hok ρ c (t.val - 1) (by omega)

theorem traj_eq (c : Dev nD) (t : Fin (cfgA m hok).N) : traj m hok ρ c t.val t.isLt = step0 m hok ρ c t (prev0 m hok ρ c t) := by
  obtain ⟨n, hn⟩ := t
  cases n with
  | zero => rfl
  | succ n => unfold prev0; simp only [Nat.add_one_ne_zero, dif_neg, not_false_eq_true]; rfl

attribute [local irreducible] stitch traj step0

/-- Past a tile's first point, the rows' buffer is good for the tile. -/
def PhiGood (c : Dev nD) (n : ℕ) (a : Buf (Elt Ideal) ((c : Thread nD τ).loc cc0_scratch0)) : Prop :=
  ∀ h : n - 1 < (cfgA m hok).N, n % 28 ≠ 0 → goodAt m hok ρ c ⟨n - 1, h⟩ a

/-- Between points: past a tile's first point the rows' buffer holds the normalised rows in use. -/
def Phi (c : Dev nD) (t : Fin ((cfgA m hok).N + 1)) : sProp 𝕄 :=
  iprop((∃ a, ⌜PhiGood m hok ρ c t.val a⌝ ∗ (sc0.view.loc (c : Thread nD τ) ↦{fullShare} a))
    ∗ (tb0.view.loc (c : Thread nD τ) ↦{fullShare.right} T0 m) ∗ (tb1.view.loc (c : Thread nD τ) ↦{fullShare.right} T1 m))

/-- The proof data of the one pipeline on core `c`. -/
def dats (_ : Fin 1) (c : Dev nD) : Dat τ (Elt Ideal) Unit ℕ (UR sig nD τ) ℕ (cfgA m hok) c where
  A w := (s₀ m ρ).mem (((cfgA m hok).win w).arr.view.loc (c : Thread nD τ))
  after w t := match w with
    | ⟨0, _⟩ => iblk m hok ρ c (0 : Fin 6) t
    | ⟨1, _⟩ => iblk m hok ρ c (1 : Fin 6) t
    | ⟨2, _⟩ => iblk m hok ρ c (2 : Fin 6) t
    | ⟨3, _⟩ => iblk m hok ρ c (3 : Fin 6) t
    | ⟨4, _⟩ => iblk m hok ρ c (4 : Fin 6) t
    | ⟨5, _⟩ => stitch (traj m hok ρ c t.val t.isLt).1 (traj m hok ρ c t.val t.isLt).2
  Φ t := Phi m hok ρ c t
  q _ := fullShare
  owed _ := 0

theorem after0_0 (c : Dev nD) (t : Fin (cfgA m hok).N) : (dats m hok ρ 0 c).after (0 : Fin 6) t = iblk m hok ρ c (0 : Fin 6) t := rfl
theorem after0_1 (c : Dev nD) (t : Fin (cfgA m hok).N) : (dats m hok ρ 0 c).after (1 : Fin 6) t = iblk m hok ρ c (1 : Fin 6) t := rfl
theorem after0_2 (c : Dev nD) (t : Fin (cfgA m hok).N) : (dats m hok ρ 0 c).after (2 : Fin 6) t = iblk m hok ρ c (2 : Fin 6) t := rfl
theorem after0_3 (c : Dev nD) (t : Fin (cfgA m hok).N) : (dats m hok ρ 0 c).after (3 : Fin 6) t = iblk m hok ρ c (3 : Fin 6) t := rfl
theorem after0_4 (c : Dev nD) (t : Fin (cfgA m hok).N) : (dats m hok ρ 0 c).after (4 : Fin 6) t = iblk m hok ρ c (4 : Fin 6) t := rfl
theorem after0_5 (c : Dev nD) (t : Fin (cfgA m hok).N) : (dats m hok ρ 0 c).after (5 : Fin 6) t = stitch (traj m hok ρ c t.val t.isLt).1 (traj m hok ρ c t.val t.isLt).2 := rfl

theorem before0_0 (c : Dev nD) (t : Fin (cfgA m hok).N) (d) : (dats m hok ρ 0 c).before (0 : Fin 6) t d = iblk m hok ρ c (0 : Fin 6) t :=
  ((dats m hok ρ 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m hok).N) (d) : (dats m hok ρ 0 c).before (1 : Fin 6) t d = iblk m hok ρ c (1 : Fin 6) t :=
  ((dats m hok ρ 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m hok).N) (d) : (dats m hok ρ 0 c).before (2 : Fin 6) t d = iblk m hok ρ c (2 : Fin 6) t :=
  ((dats m hok ρ 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA m hok).N) (d) : (dats m hok ρ 0 c).before (3 : Fin 6) t d = iblk m hok ρ c (3 : Fin 6) t :=
  ((dats m hok ρ 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA m hok).N) (d) : (dats m hok ρ 0 c).before (4 : Fin 6) t d = iblk m hok ρ c (4 : Fin 6) t :=
  ((dats m hok ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-! ## The schedule: the output's block is written back at a tile's last point -/

theorem index5 (t : Fin (cfgA m hok).N) : ((cfgA m hok).win (5 : Fin 6)).index t = ![t.val / 28, 0] := by
  have h := lt_N m hok t
  show cc0_transform_5 (crd m hok t) = _
  unfold cc0_transform_5
  dsimp only
  rw [crd0, ofNat40 _ (by omega)]
  rfl

theorem index0 (t : Fin (cfgA m hok).N) : ((cfgA m hok).win (0 : Fin 6)).index t = ![t.val / 28, 0] := by
  have h := lt_N m hok t
  show cc0_transform_0 (crd m hok t) = _
  unfold cc0_transform_0
  dsimp only
  rw [crd0, ofNat40 _ (by omega)]
  rfl

theorem flush5 (t : Fin (cfgA m hok).N) : ((cfgA m hok).win (5 : Fin 6)).flush t = decide (t.val % 28 = 27) := by
  have h := lt_N m hok t
  unfold Window.flush
  rw [show ((cfgA m hok).win (5 : Fin 6)).isOut = true from rfl, Bool.true_and, Bool.eq_iff_iff, Bool.or_eq_true, decide_eq_true_eq, decide_eq_true_eq, decide_eq_true_eq]
  constructor
  · rintro (h1 | ⟨h1, h2⟩)
    · have : t.val + 1 = 1120 := h1.trans N_0
      omega
    · by_contra h3
      apply h2
      rw [index5, index5]
      have : (t.val + 1) / 28 = t.val / 28 := by omega
      show ![(t.val + 1) / 28, 0] = _
      rw [this]
  · intro h1
    by_cases h2 : t.val + 1 = 1120
    · exact .inl (h2.trans N_0.symm)
    · refine .inr ⟨lt_of_lt_of_eq (by omega : t.val + 1 < 1120) N_0.symm, ?_⟩
      rw [index5, index5]
      intro h3
      have h4 : (t.val + 1) / 28 = t.val / 28 := congrFun h3 0
      omega

theorem idle5 (t : Fin (cfgA m hok).N) : (cfgA m hok).idle (5 : Fin 6) ((cfgA m hok).grid.coords t) = (!Words.lo (wv m hok t) && !decide (t.val % 28 = 0)) := by
  have h := idle_eq (crd m hok t) ((pf m).atD 1 (k0_off1 (crd m hok t)))
  rw [crd1, atD_eq] at h
  rw [← h, ← atD_eq]
  rfl

theorem fresh5 (t : Fin (cfgA m hok).N) : (cfgA m hok).fresh (5 : Fin 6) t.val = decide (t.val % 28 = 0) :=
  Pipeline.Cfg.fresh_tab (cfgA m hok) (5 : Fin 6) (fun n => decide (n % 28 = 0)) rfl (fun t => by
    rw [flush5, idle5]
    by_cases h : t.val % 28 = 0
    · have h1 : ¬ (t.val + 1) % 28 = 0 := by omega
      have h2 : ¬ t.val % 28 = 27 := by omega
      simp only [h, h1, h2, decide_true, decide_false, Bool.not_true, Bool.and_false, Bool.false_and, Bool.or_false]
      decide
    · rw [decide_eq_false h, Bool.and_false, Bool.or_false]
      exact decide_eq_decide.2 (by omega)) t.val (Nat.le_of_lt t.isLt)

theorem step0_idle (c : Dev nD) (t : Fin (cfgA m hok).N) (hi : (cfgA m hok).idle (5 : Fin 6) ((cfgA m hok).grid.coords t) = true) (p : Half × Half) : step0 m hok ρ c t p = p := by
  rw [idle5, Bool.and_eq_true, Bool.not_eq_true', Bool.not_eq_true'] at hi
  obtain ⟨h1, h2⟩ := hi
  have h3 : Words.hi (wv m hok t) = false := by
    cases h : Words.hi (wv m hok t)
    · rfl
    · exact absurd (Words.lo_of_hi h) (by rw [h1]; decide)
  unfold step0 nxt
  rw [h1, h2, h3]
  rfl

theorem hcarry5 (c : Dev nD) : ∀ (t : Fin (cfgA m hok).N) (ht : t.val ≠ 0), (cfgA m hok).idle (5 : Fin 6) ((cfgA m hok).grid.coords t) = true → (cfgA m hok).fresh (5 : Fin 6) t.val = false →
    (dats m hok ρ 0 c).after (5 : Fin 6) t = (dats m hok ρ 0 c).after (5 : Fin 6) ⟨t.val - 1, by omega⟩ := by
  intro t ht hi hf
  rw [after0_5, after0_5, traj_eq, step0_idle m hok ρ c t hi]
  unfold prev0; rw [dif_neg ht]

theorem before0_5 (c : Dev nD) (t : Fin (cfgA m hok).N) (d) :
    (dats m hok ρ 0 c).before (5 : Fin 6) t d = if decide (t.val % 28 = 0) = true then d else stitch (prev0 m hok ρ c t).1 (prev0 m hok ρ c t).2 := by
  rw [(dats m hok ρ 0 c).before_out_traj (5 : Fin 6) rfl (fun _ _ => rfl) (hcarry5 m hok ρ c) t.val t rfl d, fresh5]
  by_cases h : t.val % 28 = 0
  · rw [decide_eq_true h, if_pos rfl, if_pos rfl]
  · have h0 : t.val ≠ 0 := fun h0 => h (by rw [h0])
    rw [decide_eq_false h, if_neg Bool.false_ne_true, if_neg Bool.false_ne_true, after0_5]; unfold prev0; rw [dif_neg h0]

/-! ## A tile's points read the same rows -/

theorem iblk0_fetched (c : Dev nD) (t : Fin (cfgA m hok).N) : (dats m hok ρ 0 c).fetched (0 : Fin 6) t (fun _ => default) = iblk m hok ρ c (0 : Fin 6) t := by
  unfold Dat.fetched Dat.blockOf iblk; rfl
theorem iblk1_fetched (c : Dev nD) (t : Fin (cfgA m hok).N) : (dats m hok ρ 0 c).fetched (1 : Fin 6) t (fun _ => default) = iblk m hok ρ c (1 : Fin 6) t := by
  unfold Dat.fetched Dat.blockOf iblk; rfl
theorem iblk0_congr (c : Dev nD) (t t' : Fin (cfgA m hok).N) (h : t.val / 28 = t'.val / 28) : (iblk m hok ρ c (0 : Fin 6) t : S1024x2048.Idx → Elt Ideal .f32) = iblk m hok ρ c (0 : Fin 6) t' := by
  have hx : ((cfgA m hok).win (0 : Fin 6)).index t = ((cfgA m hok).win (0 : Fin 6)).index t' := by rw [index0 m hok t, index0 m hok t', h]
  exact (iblk0_fetched m hok ρ c t).symm.trans (((dats m hok ρ 0 c).fetched_congr (0 : Fin 6) hx rfl _).trans (iblk0_fetched m hok ρ c t'))
theorem iblk1_congr (c : Dev nD) (t t' : Fin (cfgA m hok).N) : (iblk m hok ρ c (1 : Fin 6) t : S1x2048.Idx → Elt Ideal .f32) = iblk m hok ρ c (1 : Fin 6) t' :=
  (iblk1_fetched m hok ρ c t).symm.trans (((dats m hok ρ 0 c).fetched_congr (1 : Fin 6) rfl rfl _).trans (iblk1_fetched m hok ρ c t'))
theorem wv_congr (t t' : Fin (cfgA m hok).N) (h : t.val / 28 = t'.val / 28) : wv m hok t = wv m hok t' := by
  unfold wv
  rw [wd_eq, wd_eq]
  congr 1
  funext a
  apply Fin.ext
  show (crd m hok t 0).val = (crd m hok t' 0).val
  rw [crd0, crd0, h]
theorem goodAt_congr (c : Dev nD) (t t' : Fin (cfgA m hok).N) (h : t.val / 28 = t'.val / 28) (a) : goodAt m hok ρ c t a → goodAt m hok ρ c t' a := by
  unfold goodAt xnA xnB
  rw [iblk0_congr m hok ρ c t t' h, iblk1_congr m hok ρ c t t', wv_congr m hok t t' h]
  exact id

theorem pred_div (n : ℕ) (h : ¬ n % 28 = 0) : (n - 1) / 28 = n / 28 := by omega
theorem goodAt_prev (c : Dev nD) (t : Fin (cfgA m hok).N) (h : ¬ t.val % 28 = 0) (a) :
    goodAt m hok ρ c ⟨t.val - 1, lt_of_le_of_lt (Nat.sub_le _ _) t.isLt⟩ a → goodAt m hok ρ c t a :=
  goodAt_congr m hok ρ c _ t (pred_div t.val h) a

theorem jcond (t : Fin (cfgA m hok).N) : decide (t.val % 28 = 0) = decide ((crd m hok t 1).val = 0) := by rw [crd1]
theorem before5_of (c : Dev nD) (t : Fin (cfgA m hok).N) (d) (h : decide (t.val % 28 = 0) = false) :
    (dats m hok ρ 0 c).before (5 : Fin 6) t d = stitch (prev0 m hok ρ c t).1 (prev0 m hok ρ c t).2 :=
  (before0_5 m hok ρ c t d).trans (if_neg (by rw [h]; exact Bool.false_ne_true))
theorem good_of' (c : Dev nD) (t : Fin (cfgA m hok).N) (a) (n : ℕ) (hn : n = t.val) (ha : PhiGood m hok ρ c n a)
    (h : decide (t.val % 28 = 0) = false) : goodAt m hok ρ c t a := by
  subst hn
  exact goodAt_prev m hok ρ c t (of_decide_eq_false h) a (ha (lt_of_le_of_lt (Nat.sub_le _ _) t.isLt) (of_decide_eq_false h))
theorem good_of (c : Dev nD) (t : Fin (cfgA m hok).N) (a) (ha : PhiGood m hok ρ c t.castSucc.val a)
    (h : decide (t.val % 28 = 0) = false) : goodAt m hok ρ c t a := good_of' m hok ρ c t a _ (Fin.val_castSucc t) ha h
theorem phiGood_succ' (c : Dev nD) (t : Fin (cfgA m hok).N) (a) (n : ℕ) (hn : n = t.val + 1) (hg : goodAt m hok ρ c t a) : PhiGood m hok ρ c n a := by
  subst hn
  unfold PhiGood
  intro h1 _
  have e : (⟨t.val + 1 - 1, h1⟩ : Fin (cfgA m hok).N) = t := Fin.ext (Nat.add_sub_cancel _ _)
  rw [e]
  exact hg
theorem phiGood_succ (c : Dev nD) (t : Fin (cfgA m hok).N) (a) (hg : goodAt m hok ρ c t a) : PhiGood m hok ρ c t.succ.val a :=
  phiGood_succ' m hok ρ c t a _ (Fin.val_succ t) hg
theorem phiGood_zero (c : Dev nD) (a) : PhiGood m hok ρ c 0 a := fun _ h => absurd rfl h

/-! ## The body's obligation -/

abbrev bodyAt0 (t : Fin (cfgA m hok).N) : Prog (TpuEff nD τ sig (Elt Ideal) Λ₀ .tc) PUnit :=
  cc0_swiglu (crd m hok t) (Memref.whole main_arg5) (Memref.isWhole_whole _) (Memref.whole main_arg6) (Memref.isWhole_whole _) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (Memref.whole cc0_scratch0) (Memref.isWhole_whole _)

/-- The output's buffer at what the point leaves, as the obligation asks for it. -/
theorem post5 (c : Dev nD) (t : Fin (cfgA m hok).N) :
    owns (c : Thread nD τ) (ms0_5 m hok t) fullShare ((dats m hok ρ 0 c).after (5 : Fin 6) t) ⊢
      (match (cfgA m hok).idle (5 : Fin 6) ((cfgA m hok).grid.coords t) with
        | true =>
          match ((cfgA m hok).win (5 : Fin 6)).flush t with
          | false => iprop(∃ d, owns (c : Thread nD τ) (((cfgA m hok).win (5 : Fin 6)).stage ((cfgA m hok).slots t (5 : Fin 6))) fullShare ((dats m hok ρ 0 c).before (5 : Fin 6) t d))
          | true => owns (c : Thread nD τ) (((cfgA m hok).win (5 : Fin 6)).stage ((cfgA m hok).slots t (5 : Fin 6))) fullShare ((dats m hok ρ 0 c).after (5 : Fin 6) t)
        | false => owns (c : Thread nD τ) (((cfgA m hok).win (5 : Fin 6)).stage ((cfgA m hok).slots t (5 : Fin 6))) fullShare ((dats m hok ρ 0 c).after (5 : Fin 6) t) : sProp 𝕄) := by
  cases hi : (cfgA m hok).idle (5 : Fin 6) ((cfgA m hok).grid.coords t)
  · exact .rfl
  · cases hf : ((cfgA m hok).win (5 : Fin 6)).flush t
    · have hb : (dats m hok ρ 0 c).before (5 : Fin 6) t (fun _ => default) = (dats m hok ρ 0 c).after (5 : Fin 6) t := by
        have h := hi
        rw [idle5, Bool.and_eq_true, Bool.not_eq_true', Bool.not_eq_true'] at h
        rw [before0_5, h.2, if_neg Bool.false_ne_true, after0_5, traj_eq, step0_idle m hok ρ c t hi]
      dsimp only
      rw [← hb]
      iintro H; iexists (fun _ => default); iexact H
    · exact .rfl

/-- One point's step at the buffers' contents `x0 … x4`, `y5`, `a0`. -/
theorem body_at (c : Dev nD) (t : Fin (cfgA m hok).N) (x0 : S1024x2048.Idx → Elt Ideal .f32) (x1 : S1x2048.Idx → Elt Ideal .f32)
    (x2 x3 : S1x2048x256.Idx → Elt Ideal .f32) (x4 : S1x256x2048.Idx → Elt Ideal .f32) (p q : Half) (y5 : S1024x2048.Idx → Elt Ideal .f32)
    (a0 : Buf (Elt Ideal) ((c : Thread nD τ).loc cc0_scratch0))
    (hy : decide (t.val % 28 = 0) = false → y5 = stitch p q)
    (ha : decide (t.val % 28 = 0) = false → Good c (Words.lo (wv m hok t)) (Words.hi (wv m hok t)) (XN (View.ld x0 RA) x1) (XN (View.ld x0 RB) x1) a0)
    (K : PUnit → sProp 𝕄) :
    iprop(ins c (ms0_0 m hok t) (ms0_1 m hok t) (ms0_2 m hok t) (ms0_3 m hok t) (ms0_4 m hok t) (T0 m) (T1 m) x0 x1 x2 x3 x4
        ∗ owns (c : Thread nD τ) (ms0_5 m hok t) fullShare y5 ∗ (sc0.view.loc (c : Thread nD τ) ↦{fullShare} a0)
      ∗ (iprop(ins c (ms0_0 m hok t) (ms0_1 m hok t) (ms0_2 m hok t) (ms0_3 m hok t) (ms0_4 m hok t) (T0 m) (T1 m) x0 x1 x2 x3 x4
            ∗ owns (c : Thread nD τ) (ms0_5 m hok t) fullShare
                (stitch (nxt (Words.lo (wv m hok t)) (decide (t.val % 28 = 0)) x2 x3 x4 (XN (View.ld x0 RA) x1) p)
                  (nxt (Words.hi (wv m hok t)) (decide (t.val % 28 = 0)) x2 x3 x4 (XN (View.ld x0 RB) x1) q))
            ∗ (∃ a, ⌜Good c (Words.lo (wv m hok t)) (Words.hi (wv m hok t)) (XN (View.ld x0 RA) x1) (XN (View.ld x0 RB) x1) a⌝
              ∗ (sc0.view.loc (c : Thread nD τ) ↦{fullShare} a))) -∗ K ⟨⟩))
      ⊢ wp frame (wpE (defs₀ (F := Ideal)) Variants.none c none) Set.univ (bodyAt0 m hok t) K :=
  body_step c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (T0 m) (T1 m)
    x0 x1 x2 x3 x4 p q y5 a0 (decide (t.val % 28 = 0)) (jcond m hok t) (wv m hok t) rfl hy ha K

end Cert.Kernel2Ideal.Sw

end
-- ==== Proof.Sw.FrameI.lean ====
module

public import proofs.«01_k».proof.Proof.Sw.DataI

@[expose] public section

set_option maxRecDepth 16384
set_option Elab.async false

noncomputable section

/-! The body's obligation at every point of the grid, the launch, and the frame claim. -/
namespace Cert.Kernel2Ideal.Sw

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (hok : ok0 (F := Ideal) (pf m)) (ρ : Dev nD → PrngReg)

attribute [local irreducible] stitch traj step0

set_option maxHeartbeats 800000 in
theorem sound_body (c : Dev nD) (t : Fin (cfgA m hok).N) :
    iprop((dats m hok ρ 0 c).Φ t.castSucc ∗ (dats m hok ρ 0 c).owesAt () t.castSucc
        ∗ (∃ d, owns (c : Thread nD τ) (ms0_0 m hok t) fullShare ((dats m hok ρ 0 c).before (0 : Fin 6) t d))
        ∗ (∃ d, owns (c : Thread nD τ) (ms0_1 m hok t) fullShare ((dats m hok ρ 0 c).before (1 : Fin 6) t d))
        ∗ (∃ d, owns (c : Thread nD τ) (ms0_2 m hok t) fullShare ((dats m hok ρ 0 c).before (2 : Fin 6) t d))
        ∗ (∃ d, owns (c : Thread nD τ) (ms0_3 m hok t) fullShare ((dats m hok ρ 0 c).before (3 : Fin 6) t d))
        ∗ (∃ d, owns (c : Thread nD τ) (ms0_4 m hok t) fullShare ((dats m hok ρ 0 c).before (4 : Fin 6) t d))
        ∗ (∃ d, owns (c : Thread nD τ) (ms0_5 m hok t) fullShare ((dats m hok ρ 0 c).before (5 : Fin 6) t d)))
      ⊢ wp frame (wpE (defs₀ (F := Ideal)) Variants.none c none) Set.univ (bodyAt0 m hok t) fun _ =>
          iprop((dats m hok ρ 0 c).Φ t.succ ∗ (dats m hok ρ 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok ρ 0 c).before w t d))
                  | true => owns (c : Thread nD τ) (((cfgA m hok).win w).stage ((cfgA m hok).slots t w)) fullShare ((dats m hok ρ 0 c).after w t)
                | false => owns (c : Thread nD τ) (((cfgA m hok).win w).stage ((cfgA m hok).slots t w)) fullShare ((dats m hok ρ 0 c).after w t)) := by
  rw [bigSep_W0]
  simp only [before0_0, before0_1, before0_2, before0_3, before0_4]
  rewrite [show (dats m hok ρ 0 c).Φ t.succ = Phi m hok ρ c t.succ from rfl, show (dats m hok ρ 0 c).Φ t.castSucc = Phi m hok ρ c t.castSucc from rfl,
    show (dats m hok ρ 0 c).owesAt () t.succ = (dats m hok ρ 0 c).owesAt () t.castSucc from rfl]
  unfold Phi
  iintro ⟨⟨⟨%a0, %ha0, HS0⟩, HT0, HT1⟩, Ho, ⟨%d0, H0⟩, ⟨%d1, H1⟩, ⟨%d2, H2⟩, ⟨%d3, H3⟩, ⟨%d4, H4⟩, ⟨%d5, H5⟩⟩
  iapply (body_at m hok c t (iblk m hok ρ c (0 : Fin 6) t) (iblk m hok ρ c (1 : Fin 6) t) (iblk m hok ρ c (2 : Fin 6) t) (iblk m hok ρ c (3 : Fin 6) t) (iblk m hok ρ c (4 : Fin 6) t)
    (prev0 m hok ρ c t).1 (prev0 m hok ρ c t).2 ((dats m hok ρ 0 c).before (5 : Fin 6) t d5) a0 (before5_of m hok ρ c t d5) (good_of m hok ρ c t a0 ha0) _)
  isplitl [H0 H1 H2 H3 H4 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    iexact HT1
  isplitl [H5]; · iexact H5
  isplitl [HS0]; · iexact HS0
  iintro ⟨⟨H0, H1, H2, H3, H4, HT0, HT1⟩, H5, ⟨%a, %hg, HS0⟩⟩
  isplitl [HS0 HT0 HT1]
  · isplitl [HS0]
    · iexists a; isplitr; swap
      · iexact HS0
      · ipureintro; exact phiGood_succ m hok ρ c t a hg
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply (post5 m hok ρ c t)
  rw [after0_5, traj_eq]
  unfold step0
  iexact H5

/-- The library's body obligation, at every point. -/
theorem body_obligation (c : Dev nD) : BodyObligation (dats m hok ρ 0 c) (defs₀ (F := Ideal)) Variants.none () Set.univ := fun t => by
  rw [bigSep_W0]
  exact sound_body m hok ρ c t

/-! ## The launch -/

/-- The rounds library's launch element. -/
def u₀ : UR sig nD τ :=
  initOf (Pipeline.cells (pcs m hok) ((launch0 (F := Ideal)).cellOf_inj fun _ => adm m hok))
    (Pipeline.launchToks (pcs m hok) ((launch0 (F := Ideal)).cellOf_inj fun _ => adm m hok))

theorem share_eq (c : Dev nD) (w : Fin (cfgA m hok).W) : (dats m hok ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg5) ↦{q 0} v 0) ∗ (((c : Thread nD τ).loc main_arg6) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm m hok).1 ∗ Pipeline.scopedRest spec0 c) ⊢ (dats m hok ρ 0 c).Φ 0 := by
  rw [prefHeld_eq, scopedRest0_eq, show (dats m hok ρ 0 c).Φ 0 = Phi m hok ρ c 0 from rfl]
  unfold Phi
  iintro ⟨-, ⟨HT0, HT1⟩, ⟨%a0, HS0⟩⟩
  isplitl [HS0]
  · iexists a0; isplitr; swap
    · iexact HS0
    · ipureintro; exact phiGood_zero m hok ρ c _
  isplitl [HT0]
  · iexact HT0
  iexact HT1

/-- at the last point it gives the scratch buffers back (`hout`), the tables let go. -/
theorem phiN_exit (c : Dev nD) : (dats m hok ρ 0 c).Φ (Fin.last (cfgA m hok).N) ⊢ iprop(BI.emp ∗ Pipeline.scopedRest spec0 c) := by
  rw [scopedRest0_eq, show (dats m hok ρ 0 c).Φ (Fin.last (cfgA m hok).N) = Phi m hok ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA m hok).W, r.2.mem (((cfgA m hok).win w).arr.view.loc (c : Thread nD τ)) = (dats m hok ρ 0 c).arrAt w (cfgA m hok).N)
    ∧ ∀ j, r.2.mem ((c : Thread nD τ).loc (pre0.ref j)) = (adm m hok).1 j

theorem V_pre (c : Dev nD) (j : Fin 2) : m ((c : Thread nD τ).loc (pre0.ref j)) = (adm m hok).1 j := by
  obtain rfl : c = d0 := Subsingleton.elim _ _
  fin_cases j
  · rfl
  · rfl

set_option backward.isDefEq.respectTransparency.types false in
set_option maxHeartbeats 4000000 in
/-- At the compiled mesh, from any memory with zero counters: every weakly
    fair execution of @main on the TensorCores terminates, and every final state has each array at the computed contents,
    and every semaphore counter of the machine at zero. -/
theorem run_main_quiescent : θ_run (defs (F := Ideal)) (onTc (τ := τ) (main (F := Ideal))) (s₀ m ρ) (fun r => QC m hok ρ r ∧ r.2.sem = fun _ => 0) :=
  Pipeline.θ_run_region_noSem_pf_quiescent pcfgs (fun _ => adm m hok) (dats m hok ρ) () ((launch0 (F := Ideal)).cellOf_inj fun _ => adm m hok) (0 : Fin 1)
    (launch0 (F := Ideal)).win.to₀ (launch0 (F := Ideal)).pre EP defs₀ Variants.none m ρ main
    (hbody := fun c => (body_obligation m hok ρ c).loose) (hne := (launch0 (F := Ideal)).block_pos)
    (harr := (launch0 (F := Ideal)).arr_whole) (hstage := (launch0 (F := Ideal)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m hok ρ) 0 (launch0 (F := Ideal)).win.arr_inj c (launch0 (F := Ideal)).arr_whole
      (share_eq m hok ρ c) _ _ fun _ => rfl)
    (hpf := V_pre m hok)
    (X := fun _ => iprop(emp)) (Y := fun _ => iprop(emp)) (Z := fun _ => iprop(emp))
    (hX := fun c => by rw [unscopedRestP0_eq]; iintro -; isplitr <;> iempintro)
    (hin := phi0_intro m hok ρ)
    (hout := phiN_exit m hok ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := Ideal)) (onTc (τ := τ) (main (F := Ideal))) (s₀ m ρ) (QC m hok ρ) :=
  (θ_run defs _ _).mono (fun _ h => h.1) (run_main_quiescent m hok ρ)

include hok in
/-- `frame` without the counters: the argument arrays end unchanged. -/
theorem unchanged :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 6)).trans ((dats m hok ρ 0 c).arrAt_in (0 : Fin 6) rfl _), ((h c).1 (1 : Fin 6)).trans ((dats m hok ρ 0 c).arrAt_in (1 : Fin 6) rfl _), ((h c).1 (2 : Fin 6)).trans ((dats m hok ρ 0 c).arrAt_in (2 : Fin 6) rfl _), ((h c).1 (3 : Fin 6)).trans ((dats m hok ρ 0 c).arrAt_in (3 : Fin 6) rfl _), ((h c).1 (4 : Fin 6)).trans ((dats m hok ρ 0 c).arrAt_in (4 : Fin 6) rfl _), ((h c).2 0).trans (V_pre m hok c 0).symm, ((h c).2 1).trans (V_pre m hok c 1).symm⟩) (run_main m hok ρ)

include hok in
/-- The frame: every weakly fair execution ends, nothing faults, the arguments end unchanged, every counter at zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m hok ρ) ((θ_run defs _ _).mono (fun _ h => h.2) (run_main_quiescent m hok ρ))

end Cert.Kernel2Ideal.Sw

end
-- ==== Proof.Sw.Spec.lean ====
module

public import proofs.«01_k».proof.Proof.Sw.Words
public import Idealize.ShloMosaic.Lib.Pointwise

@[expose] public section

noncomputable section

/-! What the routed experts compute, element by element: a row is normalised by its root mean square, passed through the
gated product of its tile's expert, and is zero where its half of the tile is not in use. -/
namespace Cert.Spec

open Idealize.ShloMosaic

abbrev A2 (a b : ℕ) : Type := (⟨2, ![a, b]⟩ : Shape).Idx → EReal
abbrev A3 (a b c : ℕ) : Type := (⟨3, ![a, b, c]⟩ : Shape).Idx → EReal
abbrev Tab : Type := (⟨1, ![40]⟩ : Shape).Idx → BitVec 32

/-- A normalised row's element. The two constants are the row's length and the small term under the root. -/
def hn {n : ℕ} (X : A2 n 2048) (G : A2 1 2048) (r : Fin n) (k : Fin 2048) : EReal :=
  X (ix2 r k) * Ideal.rsqrt (Ideal.div (∑ x : Fin 2048, X (ix2 r x) * X (ix2 r x)) (Ideal.ofBits FTy.f32 1157627904#32) + Ideal.ofBits FTy.f32 925353388#32)
    * G (ix2 0 k)

/-- One column of an expert's product with a row. -/
def dotw {E H : ℕ} (h : Fin 2048 → EReal) (W : A3 E 2048 H) (e : Fin E) (f : Fin H) : EReal := ∑ k : Fin 2048, h k * W (ix3 e k f)

/-- The gate. -/
def act (g u : EReal) : EReal := g * Ideal.div 1 (1 + Ideal.exp (-g)) * u

/-- An expert's term at its hidden column `f`. -/
def term {E H : ℕ} (h : Fin 2048 → EReal) (WG WU : A3 E 2048 H) (WD : A3 E H 2048) (e : Fin E) (d : Fin 2048) (f : Fin H) : EReal :=
  act (dotw h WG e f) (dotw h WU e f) * WD (ix3 e f d)

/-- The tile a row lies in. -/
def tl (r : Fin 40960) : Fin 40 := ⟨r.val / 1024, by omega⟩

/-- The row's half is in use: its first row's number is below the tile's count. -/
def live (tv : Tab) (r : Fin 40960) : Bool := (BitVec.ofNat 32 (r.val % 1024 / 512 * 512)).slt (tv (ix1 (tl r)))

/-- The result at a row and a column. -/
def res (X : A2 40960 2048) (G : A2 1 2048) (WG WU : A3 8 2048 7168) (WD : A3 8 7168 2048) (te tv : Tab)
    (hte : ∀ i, (te i).toNat < 8) (r : Fin 40960) (d : Fin 2048) : EReal :=
  if live tv r then ∑ f : Fin 7168, term (hn X G r) WG WU WD ⟨(te (ix1 (tl r))).toNat, hte _⟩ d f else 0

/-- A sum of the experts' terms weighed by the mask of one of them. -/
theorem one_hot (w : BitVec 32) (hw : w.toNat < 8) (b : EReal) (s : Fin 8 → EReal) :
    (if w = BitVec.ofNat 32 (0 : Fin 8).val then 1 else 0) * b * s 0 + (if w = BitVec.ofNat 32 (1 : Fin 8).val then 1 else 0) * b * s 1
      + (if w = BitVec.ofNat 32 (2 : Fin 8).val then 1 else 0) * b * s 2 + (if w = BitVec.ofNat 32 (3 : Fin 8).val then 1 else 0) * b * s 3
      + (if w = BitVec.ofNat 32 (4 : Fin 8).val then 1 else 0) * b * s 4 + (if w = BitVec.ofNat 32 (5 : Fin 8).val then 1 else 0) * b * s 5
      + (if w = BitVec.ofNat 32 (6 : Fin 8).val then 1 else 0) * b * s 6 + (if w = BitVec.ofNat 32 (7 : Fin 8).val then 1 else 0) * b * s 7
      = b * s ⟨w.toNat, hw⟩ := by
  obtain ⟨n, hn, rfl⟩ : ∃ n, n < 8 ∧ w = BitVec.ofNat 32 n := ⟨w.toNat, hw, by simp⟩
  interval_cases n <;> simp

end Cert.Spec

end
-- ==== Proof.Sw.KerBlk.lean ====
module

public import proofs.«01_k».proof.Proof.Sw.DataI
public import proofs.«01_k».proof.Proof.Sw.Spec
public import Idealize.ShloMosaic.Lib.Pipeline.Value

@[expose] public section

set_option maxRecDepth 16384

noncomputable section

/-! The routed experts' blocks at a point of the grid, read at an element of the arrays: the rows of the point's tile, and the
slice of its expert. -/
namespace Cert.Kernel2Ideal.Sw

open Cert.Kernel2Ideal Cert.Kernel2Ideal.Gen
open Idealize.ShloMosaic
open Idealize.ShloMosaic.TcCoe Idealize.SL.Sem
open Idealize.ShloMosaic.Pipeline (Dat Cfg Window)
open Cert.Spec

variable (m : (ℓ : Loc nD τ sig) → Buf (Elt Ideal) ℓ) (hok : ok0 (F := Ideal) (pf m)) (ρ : Dev nD → PrngReg) (c : Dev nD)

abbrev aX : A2 40960 2048 := m ((c : Thread nD τ).loc main_arg0)
abbrev aG : A2 1 2048 := m ((c : Thread nD τ).loc main_arg1)
abbrev aWG : A3 8 2048 7168 := m ((c : Thread nD τ).loc main_arg2)
abbrev aWU : A3 8 2048 7168 := m ((c : Thread nD τ).loc main_arg3)
abbrev aWD : A3 8 7168 2048 := m ((c : Thread nD τ).loc main_arg4)

theorem tix_eq (t : Fin (cfgA m hok).N) (R : Fin 40960) (hR : R.val / 1024 = t.val / 28) : tix (crd m hok t) = ix1 (tl R) := by
  funext a
  apply Fin.ext
  fin_cases a
  exact (crd0 m hok t).trans hR.symm

theorem x_at (t : Fin (cfgA m hok).N) (r : Fin 1024) (k : Fin 2048) (R : Fin 40960) (hR : R.val = 1024 * (t.val / 28) + r.val) :
    (iblk m hok ρ c (0 : Fin 6) t : S1024x2048.Idx → EReal) (ix2 r k) = aX m c (ix2 R k) := by
  have h0 : ((cfgA m hok).win (0 : Fin 6)).index t 0 = t.val / 28 := congrFun (index0 m hok t) 0
  have h1 : ((cfgA m hok).win (0 : Fin 6)).index t 1 = 0 := congrFun (index0 m hok t) 1
  unfold iblk
  rw [View.read_apply]
  refine congrArg (m ((c : Thread nD τ).loc main_arg0)) ?_
  funext a
  apply Fin.ext
  refine (Window.rect_emb_val ((cfgA m hok).win (0 : Fin 6)) t (ix2 r k) a).trans ?_
  fin_cases a
  · show ((cfgA m hok).win (0 : Fin 6)).index t 0 * 1024 + r.val = R.val
    rw [h0]; omega
  · show ((cfgA m hok).win (0 : Fin 6)).index t 1 * 2048 + k.val = k.val
    rw [h1]; omega

theorem g_at (t : Fin (cfgA m hok).N) (k : Fin 2048) :
    (iblk m hok ρ c (1 : Fin 6) t : S1x2048.Idx → EReal) (ix2 0 k) = aG m c (ix2 0 k) := by
  unfold iblk
  rw [View.read_apply]
  refine congrArg (m ((c : Thread nD τ).loc main_arg1)) ?_
  funext a
  apply Fin.ext
  refine (Window.rect_emb_val ((cfgA m hok).win (1 : Fin 6)) t (ix2 0 k) a).trans ?_
  fin_cases a
  · rfl
  · show 0 * 2048 + k.val = k.val
    omega

theorem sel_live (b : BitVec 1) (hb : b = 1#1) (n : ℕ) (h : n < 28) : (Scalar.select b (BitVec.ofNat 32 n) 27#32).toNat = n := by
  subst hb
  show (BitVec.ofNat 32 n).toNat = n
  rw [BitVec.toNat_ofNat]; exact Nat.mod_eq_of_lt (by omega)

/-- In a tile in use, the slice fetched is the point's own. -/
theorem slice_at (t : Fin (cfgA m hok).N) (hl : Words.lo (wv m hok t) = true) :
    (Scalar.select (Scalar.cmpi .sgt (wv m hok t) 0#32) (BitVec.ofNat 32 (crd m hok t 1).val) 27#32).toNat = t.val % 28 := by
  rw [sel_live _ (by rw [Words.sgt0, hl]; rfl) _ (crd m hok t 1).isLt, crd1]

theorem index2 (t : Fin (cfgA m hok).N) (hl : Words.lo (wv m hok t) = true) :
    ((cfgA m hok).win (2 : Fin 6)).index t = ![(T0 m (tix (crd m hok t))).toNat, 0, t.val % 28] := by
  rw [← slice_at m hok t hl, ← at0]; rfl
theorem index3 (t : Fin (cfgA m hok).N) (hl : Words.lo (wv m hok t) = true) :
    ((cfgA m hok).win (3 : Fin 6)).index t = ![(T0 m (tix (crd m hok t))).toNat, 0, t.val % 28] := by
  rw [← slice_at m hok t hl, ← at0]; rfl
theorem index4 (t : Fin (cfgA m hok).N) (hl : Words.lo (wv m hok t) = true) :
    ((cfgA m hok).win (4 : Fin 6)).index t = ![(T0 m (tix (crd m hok t))).toNat, t.val % 28, 0] := by
  rw [← slice_at m hok t hl, ← at0]; rfl

theorem w2_at (t : Fin (cfgA m hok).N) (hl : Words.lo (wv m hok t) = true) (k : Fin 2048) (x : Fin 256) (e : Fin 8) (f : Fin 7168)
    (he : e.val = (T0 m (tix (crd m hok t))).toNat) (hf : f.val = 256 * (t.val % 28) + x.val) :
    (iblk m hok ρ c (2 : Fin 6) t : S1x2048x256.Idx → EReal) (ix3 0 k x) = aWG m c (ix3 e k f) := by
  have h0 : ((cfgA m hok).win (2 : Fin 6)).index t 0 = _ := congrFun (index2 m hok t hl) 0
  have h1 : ((cfgA m hok).win (2 : Fin 6)).index t 1 = 0 := congrFun (index2 m hok t hl) 1
  have h2 : ((cfgA m hok).win (2 : Fin 6)).index t 2 = t.val % 28 := congrFun (index2 m hok t hl) 2
  unfold iblk
  rw [View.read_apply]
  refine congrArg (m ((c : Thread nD τ).loc main_arg2)) ?_
  funext a
  apply Fin.ext
  refine (Window.rect_emb_val ((cfgA m hok).win (2 : Fin 6)) t (ix3 0 k x) a).trans ?_
  fin_cases a
  · show ((cfgA m hok).win (2 : Fin 6)).index t 0 * 1 + 0 = e.val
    rw [h0, he]; exact Nat.mul_one _
  · show ((cfgA m hok).win (2 : Fin 6)).index t 1 * 2048 + k.val = k.val
    rw [h1]; omega
  · show ((cfgA m hok).win (2 : Fin 6)).index t 2 * 256 + x.val = f.val
    rw [h2]; omega

theorem w3_at (t : Fin (cfgA m hok).N) (hl : Words.lo (wv m hok t) = true) (k : Fin 2048) (x : Fin 256) (e : Fin 8) (f : Fin 7168)
    (he : e.val = (T0 m (tix (crd m hok t))).toNat) (hf : f.val = 256 * (t.val % 28) + x.val) :
    (iblk m hok ρ c (3 : Fin 6) t : S1x2048x256.Idx → EReal) (ix3 0 k x) = aWU m c (ix3 e k f) := by
  have h0 : ((cfgA m hok).win (3 : Fin 6)).index t 0 = _ := congrFun (index3 m hok t hl) 0
  have h1 : ((cfgA m hok).win (3 : Fin 6)).index t 1 = 0 := congrFun (index3 m hok t hl) 1
  have h2 : ((cfgA m hok).win (3 : Fin 6)).index t 2 = t.val % 28 := congrFun (index3 m hok t hl) 2
  unfold iblk
  rw [View.read_apply]
  refine congrArg (m ((c : Thread nD τ).loc main_arg3)) ?_
  funext a
  apply Fin.ext
  refine (Window.rect_emb_val ((cfgA m hok).win (3 : Fin 6)) t (ix3 0 k x) a).trans ?_
  fin_cases a
  · show ((cfgA m hok).win (3 : Fin 6)).index t 0 * 1 + 0 = e.val
    rw [h0, he]; exact Nat.mul_one _
  · show ((cfgA m hok).win (3 : Fin 6)).index t 1 * 2048 + k.val = k.val
    rw [h1]; omega
  · show ((cfgA m hok).win (3 : Fin 6)).index t 2 * 256 + x.val = f.val
    rw [h2]; omega

theorem w4_at (t : Fin (cfgA m hok).N) (hl : Words.lo (wv m hok t) = true) (x : Fin 256) (d : Fin 2048) (e : Fin 8) (f : Fin 7168)
    (he : e.val = (T0 m (tix (crd m hok t))).toNat) (hf : f.val = 256 * (t.val % 28) + x.val) :
    (iblk m hok ρ c (4 : Fin 6) t : S1x256x2048.Idx → EReal) (ix3 0 x d) = aWD m c (ix3 e f d) := by
  have h0 : ((cfgA m hok).win (4 : Fin 6)).index t 0 = _ := congrFun (index4 m hok t hl) 0
  have h1 : ((cfgA m hok).win (4 : Fin 6)).index t 1 = t.val % 28 := congrFun (index4 m hok t hl) 1
  have h2 : ((cfgA m hok).win (4 : Fin 6)).index t 2 = 0 := congrFun (index4 m hok t hl) 2
  unfold iblk
  rw [View.read_apply]
  refine congrArg (m ((c : Thread nD τ).loc main_arg4)) ?_
  funext a
  apply Fin.ext
  refine (Window.rect_emb_val ((cfgA m hok).win (4 : Fin 6)) t (ix3 0 x d) a).trans ?_
  fin_cases a
  · show ((cfgA m hok).win (4 : Fin 6)).index t 0 * 1 + 0 = e.val
    rw [h0, he]; exact Nat.mul_one _
  · show ((cfgA m hok).win (4 : Fin 6)).index t 1 * 256 + x.val = f.val
    rw [h1]; omega
  · show ((cfgA m hok).win (4 : Fin 6)).index t 2 * 2048 + d.val = d.val
    rw [h2]; omega

end Cert.Kernel2Ideal.Sw

end
-- ==== Proof.Sw.KerVal.lean ====
module

public import proofs.«01_k».proof.Proof.Sw.KerBlk
public import Idealize.ShloMosaic.Lib.Pipeline.ValueKit.Geometry

@[expose] public section

set_option maxRecDepth 16384

noncomputable section

/-! What the routed experts leave in the result: over a tile's 28 points the slices' products add up to the whole expert's,
and the tile's last point writes the block back. -/
namespace Cert.Kernel2Ideal.Sw

open Cert.Kernel2Ideal Cert.Kernel2Ideal.Gen
open Idealize.ShloMosaic
open Idealize.ShloMosaic.TcCoe Idealize.SL.Sem
open Idealize.ShloMosaic.Pipeline (Dat Cfg Window)
open Cert.Spec

theorem XN_at (x : S512x2048.Idx → EReal) (g : S1x2048.Idx → EReal) (r : Fin 512) (k : Fin 2048) :
    (XN x g : S512x2048.Idx → EReal) (ix2 r k) =
      x (ix2 r k) * Ideal.rsqrt (Ideal.div (∑ y : Fin 2048, x (ix2 r y) * x (ix2 r y)) (Ideal.ofBits FTy.f32 1157627904#32) + Ideal.ofBits FTy.f32 925353388#32)
        * g (ix2 0 k) := by
  unfold XN
  pointwise [k0_pay25]

theorem EX_at (w1 w3 : S1x2048x256.Idx → EReal) (w2 : S1x256x2048.Idx → EReal) (xn : S512x2048.Idx → EReal) (r : Fin 512) (d : Fin 2048) :
    (EX w1 w3 w2 xn : S512x2048.Idx → EReal) (ix2 r d) =
      ∑ x : Fin 256, act (∑ k : Fin 2048, xn (ix2 r k) * w1 (ix3 0 k x)) (∑ k : Fin 2048, xn (ix2 r k) * w3 (ix3 0 k x)) * w2 (ix3 0 x d) := by
  unfold EX
  pointwise [k0_pay26, k0_pay22, k0_pay23, k0_pay24]
  refine Finset.sum_congr rfl fun x _ => ?_
  unfold act
  rw [zero_sub]

theorem zero_at (r : Fin 512) (d : Fin 2048) : (k0_pay4 (F := Ideal) : S512x2048.Idx → EReal) (ix2 r d) = 0 := by
  pointwise [k0_pay4]

theorem nxt_at (live first : Bool) (w1 w3 : S1x2048x256.Idx → EReal) (w2 : S1x256x2048.Idx → EReal) (xn old : S512x2048.Idx → EReal) (r : Fin 512) (d : Fin 2048) :
    (nxt live first w1 w3 w2 xn old : S512x2048.Idx → EReal) (ix2 r d) =
      if live then (if first then 0 else old (ix2 r d)) + (EX w1 w3 w2 xn : S512x2048.Idx → EReal) (ix2 r d) else (if first then 0 else old (ix2 r d)) := by
  unfold nxt
  cases live <;> cases first
  · rfl
  · exact zero_at r d
  · rfl
  · exact (zero_add _).symm

variable (m : (ℓ : Loc nD τ sig) → Buf (Elt Ideal) ℓ) (hok : ok0 (F := Ideal) (pf m)) (ρ : Dev nD → PrngReg) (c : Dev nD)
  (hte : ∀ i : S40.Idx, (T0 m i).toNat < 8)

/-- An expert's term at its hidden column `n`, zero past the last. -/
def trm (R : Fin 40960) (d : Fin 2048) (n : ℕ) : EReal :=
  if h : n < 7168 then term (hn (aX m c) (aG m c) R) (aWG m c) (aWU m c) (aWD m c) ⟨(T0 m (ix1 (tl R))).toNat, hte _⟩ d ⟨n, h⟩ else 0

theorem trm_sum (R : Fin 40960) (d : Fin 2048) :
    ∑ n ∈ Finset.range (256 * (27 + 1)), trm m c hte R d n
      = ∑ f : Fin 7168, term (hn (aX m c) (aG m c) R) (aWG m c) (aWU m c) (aWD m c) ⟨(T0 m (ix1 (tl R))).toNat, hte _⟩ d f := by
  rw [show 256 * (27 + 1) = 7168 from rfl, Finset.sum_range]
  refine Finset.sum_congr rfl fun f _ => ?_
  unfold trm
  rw [dif_pos f.isLt]

/-- A slice's product at a point of a tile in use, over rows that are the array's normalised ones. -/
theorem slice_sum (t : Fin (cfgA m hok).N) (hl : Words.lo (wv m hok t) = true) (xn : S512x2048.Idx → EReal) (r : Fin 512) (d : Fin 2048) (R : Fin 40960)
    (hR : R.val / 1024 = t.val / 28) (hxn : ∀ k : Fin 2048, xn (ix2 r k) = hn (aX m c) (aG m c) R k) :
    (EX (iblk m hok ρ c (2 : Fin 6) t) (iblk m hok ρ c (3 : Fin 6) t) (iblk m hok ρ c (4 : Fin 6) t) xn : S512x2048.Idx → EReal) (ix2 r d)
      = ∑ n ∈ Finset.range 256, trm m c hte R d (256 * (t.val % 28) + n) := by
  refine (EX_at _ _ _ xn r d).trans ?_
  rw [Finset.sum_range]
  refine Finset.sum_congr rfl fun x _ => ?_
  have hf : 256 * (t.val % 28) + x.val < 7168 := by omega
  have he : (T0 m (ix1 (tl R))).toNat = (T0 m (tix (crd m hok t))).toNat := by rw [tix_eq m hok t R hR]
  unfold trm
  rw [dif_pos hf]
  unfold term
  refine congrArg₂ (· * ·) (congrArg₂ act ?_ ?_) (w4_at m hok ρ c t hl x d _ _ he rfl)
  · exact Finset.sum_congr rfl fun k _ => congrArg₂ (· * ·) (hxn k) (w2_at m hok ρ c t hl k x _ _ he rfl)
  · exact Finset.sum_congr rfl fun k _ => congrArg₂ (· * ·) (hxn k) (w3_at m hok ρ c t hl k x _ _ he rfl)

theorem rowA (r : Fin 512) (k : Fin 2048) : RA.emb (ix2 r k : S512x2048.Idx) = (ix2 (⟨r.val, by omega⟩ : Fin 1024) k : S1024x2048.Idx) := by
  funext a
  apply Fin.ext
  fin_cases a
  · show 0 + 1 * r.val = r.val; omega
  · show 0 + 1 * k.val = k.val; omega
theorem rowB (r : Fin 512) (k : Fin 2048) : RB.emb (ix2 r k : S512x2048.Idx) = (ix2 (⟨512 + r.val, by omega⟩ : Fin 1024) k : S1024x2048.Idx) := by
  funext a
  apply Fin.ext
  fin_cases a
  · show 512 + 1 * r.val = 512 + r.val; omega
  · show 0 + 1 * k.val = k.val; omega

theorem norm_of (x : S512x2048.Idx → EReal) (g : S1x2048.Idx → EReal) (r : Fin 512) (k : Fin 2048) (R : Fin 40960)
    (hx : ∀ k : Fin 2048, x (ix2 r k) = aX m c (ix2 R k)) (hg : ∀ k : Fin 2048, g (ix2 0 k) = aG m c (ix2 0 k)) :
    (XN x g : S512x2048.Idx → EReal) (ix2 r k) = hn (aX m c) (aG m c) R k := by
  rw [XN_at]
  unfold hn
  simp only [hx, hg]

theorem xnA_at (t : Fin (cfgA m hok).N) (r : Fin 512) (k : Fin 2048) (R : Fin 40960) (hR : R.val = 1024 * (t.val / 28) + r.val) :
    (xnA m hok ρ c t : S512x2048.Idx → EReal) (ix2 r k) = hn (aX m c) (aG m c) R k :=
  norm_of m c _ _ r k R (fun k => (congrArg (iblk m hok ρ c (0 : Fin 6) t : S1024x2048.Idx → EReal) (rowA r k)).trans (x_at m hok ρ c t _ k R hR))
    (fun k => g_at m hok ρ c t k)
theorem xnB_at (t : Fin (cfgA m hok).N) (r : Fin 512) (k : Fin 2048) (R : Fin 40960) (hR : R.val = 1024 * (t.val / 28) + (512 + r.val)) :
    (xnB m hok ρ c t : S512x2048.Idx → EReal) (ix2 r k) = hn (aX m c) (aG m c) R k :=
  norm_of m c _ _ r k R (fun k => (congrArg (iblk m hok ρ c (0 : Fin 6) t : S1024x2048.Idx → EReal) (rowB r k)).trans (x_at m hok ρ c t _ k R hR))
    (fun k => g_at m hok ρ c t k)

theorem wv_at (t : Fin (cfgA m hok).N) (R : Fin 40960) (hR : R.val / 1024 = t.val / 28) : wv m hok t = T1 m (ix1 (tl R)) := by
  unfold wv
  rw [wd_eq, tix_eq m hok t R hR]

theorem liveA (t : Fin (cfgA m hok).N) (R : Fin 40960) (r : Fin 512) (hR : R.val = 1024 * (t.val / 28) + r.val) :
    Words.lo (wv m hok t) = live (T1 m) R := by
  rw [wv_at m hok t R (by omega)]
  unfold Words.lo live
  rw [show R.val % 1024 / 512 * 512 = 0 by omega]
theorem liveB (t : Fin (cfgA m hok).N) (R : Fin 40960) (r : Fin 512) (hR : R.val = 1024 * (t.val / 28) + (512 + r.val)) :
    Words.hi (wv m hok t) = live (T1 m) R := by
  rw [wv_at m hok t R (by omega)]
  unfold Words.hi live
  rw [show R.val % 1024 / 512 * 512 = 512 by omega]

/-- A point's step at an element of the first half, and of the second. -/
theorem step_A (t : Fin (cfgA m hok).N) (prev : Half × Half) (r : Fin 512) (d : Fin 2048) (R : Fin 40960) (hR : R.val = 1024 * (t.val / 28) + r.val) :
    ((step0 m hok ρ c t prev).1 : S512x2048.Idx → EReal) (ix2 r d) =
      if live (T1 m) R then (if decide (t.val % 28 = 0) then 0 else (prev.1 : S512x2048.Idx → EReal) (ix2 r d)) + ∑ n ∈ Finset.range 256, trm m c hte R d (256 * (t.val % 28) + n)
      else (if decide (t.val % 28 = 0) then 0 else (prev.1 : S512x2048.Idx → EReal) (ix2 r d)) := by
  unfold step0
  refine (nxt_at _ _ _ _ _ _ _ r d).trans ?_
  rw [liveA m hok t R r hR]
  by_cases hl : live (T1 m) R = true
  · rw [if_pos hl, if_pos hl, slice_sum m hok ρ c hte t (by rw [liveA m hok t R r hR]; exact hl) _ r d R (by omega) (fun k => xnA_at m hok ρ c t r k R hR)]
  · rw [if_neg hl, if_neg hl]
theorem step_B (t : Fin (cfgA m hok).N) (prev : Half × Half) (r : Fin 512) (d : Fin 2048) (R : Fin 40960) (hR : R.val = 1024 * (t.val / 28) + (512 + r.val)) :
    ((step0 m hok ρ c t prev).2 : S512x2048.Idx → EReal) (ix2 r d) =
      if live (T1 m) R then (if decide (t.val % 28 = 0) then 0 else (prev.2 : S512x2048.Idx → EReal) (ix2 r d)) + ∑ n ∈ Finset.range 256, trm m c hte R d (256 * (t.val % 28) + n)
      else (if decide (t.val % 28 = 0) then 0 else (prev.2 : S512x2048.Idx → EReal) (ix2 r d)) := by
  unfold step0
  refine (nxt_at _ _ _ _ _ _ _ r d).trans ?_
  rw [liveB m hok t R r hR]
  by_cases hl : live (T1 m) R = true
  · rw [if_pos hl, if_pos hl, slice_sum m hok ρ c hte t (Words.lo_of_hi (by rw [liveB m hok t R r hR]; exact hl)) _ r d R (by omega) (fun k => xnB_at m hok ρ c t r k R hR)]
  · rw [if_neg hl, if_neg hl]

/-- A quantity that starts from zero and takes one slice at each of a tile's points. -/
theorem gather_slices {J : ℕ} (L : Bool) (F : ℕ → EReal) (g : (j : ℕ) → j < J → EReal)
    (h0 : ∀ h, g 0 h = if L then 0 + ∑ n ∈ Finset.range 256, F (256 * 0 + n) else 0)
    (hs : ∀ j (h : j + 1 < J), g (j + 1) h = if L then g j (Nat.lt_of_succ_lt h) + ∑ n ∈ Finset.range 256, F (256 * (j + 1) + n) else g j (Nat.lt_of_succ_lt h)) :
    ∀ j h, g j h = if L then ∑ n ∈ Finset.range (256 * (j + 1)), F n else 0
  | 0, h => by
    rw [h0]
    cases L
    · rfl
    · rw [if_pos rfl, if_pos rfl, zero_add]
      simp only [Nat.mul_zero, Nat.zero_add, Nat.mul_one]
  | j + 1, h => by
    rw [hs, gather_slices L F g h0 hs j (Nat.lt_of_succ_lt h)]
    cases L
    · rfl
    · rw [if_pos rfl, if_pos rfl, if_pos rfl, show 256 * (j + 1 + 1) = 256 * (j + 1) + 256 by omega, Finset.sum_range_add]

theorem prev0_succ (n : ℕ) (h : n + 1 < (cfgA m hok).N) : prev0 m hok ρ c ⟨n + 1, h⟩ = traj m hok ρ c n (Nat.lt_of_succ_lt h) := by
  unfold prev0
  rw [dif_neg (Nat.succ_ne_zero n)]
  rfl

theorem pt_lt (q : ℕ) (hq : q < 40) (j : ℕ) (hj : j < 28) : 28 * q + j < (cfgA m hok).N := lt_of_lt_of_eq (by omega : 28 * q + j < 1120) N_0.symm

theorem traj_A (q : ℕ) (hq : q < 40) (r : Fin 512) (d : Fin 2048) (R : Fin 40960) (hR : R.val = 1024 * q + r.val) (j : ℕ) (hj : j < 28) :
    ((traj m hok ρ c (28 * q + j) (pt_lt m hok q hq j hj)).1 : S512x2048.Idx → EReal) (ix2 r d)
      = if live (T1 m) R then ∑ n ∈ Finset.range (256 * (j + 1)), trm m c hte R d n else 0 := by
  refine gather_slices (live (T1 m) R) (trm m c hte R d)
    (fun j hj => ((traj m hok ρ c (28 * q + j) (pt_lt m hok q hq j hj)).1 : S512x2048.Idx → EReal) (ix2 r d)) ?_ ?_ j hj
  · intro h
    have e := congrArg Prod.fst (traj_eq m hok ρ c ⟨28 * q + 0, pt_lt m hok q hq 0 h⟩)
    refine (congrFun e (ix2 r d)).trans ((step_A m hok ρ c hte _ _ r d R ?_).trans ?_)
    · show R.val = 1024 * ((28 * q + 0) / 28) + r.val
      omega
    · have hm : (28 * q + 0) % 28 = 0 := by omega
      simp only [hm, decide_true, if_true]
  · intro j h
    have e := congrArg Prod.fst (traj_eq m hok ρ c ⟨28 * q + (j + 1), pt_lt m hok q hq (j + 1) h⟩)
    refine (congrFun e (ix2 r d)).trans ((step_A m hok ρ c hte _ _ r d R ?_).trans ?_)
    · show R.val = 1024 * ((28 * q + (j + 1)) / 28) + r.val
      omega
    · have hm : (28 * q + (j + 1)) % 28 = j + 1 := by omega
      have hp := prev0_succ m hok ρ c (28 * q + j) (pt_lt m hok q hq (j + 1) h)
      have hp' : prev0 m hok ρ c ⟨28 * q + (j + 1), pt_lt m hok q hq (j + 1) h⟩ = traj m hok ρ c (28 * q + j) (pt_lt m hok q hq j (Nat.lt_of_succ_lt h)) := hp
      rw [hp']
      simp only [hm, Nat.succ_ne_zero, decide_false, Bool.false_eq_true, if_false]
theorem traj_B (q : ℕ) (hq : q < 40) (r : Fin 512) (d : Fin 2048) (R : Fin 40960) (hR : R.val = 1024 * q + (512 + r.val)) (j : ℕ) (hj : j < 28) :
    ((traj m hok ρ c (28 * q + j) (pt_lt m hok q hq j hj)).2 : S512x2048.Idx → EReal) (ix2 r d)
      = if live (T1 m) R then ∑ n ∈ Finset.range (256 * (j + 1)), trm m c hte R d n else 0 := by
  refine gather_slices (live (T1 m) R) (trm m c hte R d)
    (fun j hj => ((traj m hok ρ c (28 * q + j) (pt_lt m hok q hq j hj)).2 : S512x2048.Idx → EReal) (ix2 r d)) ?_ ?_ j hj
  · intro h
    have e := congrArg Prod.snd (traj_eq m hok ρ c ⟨28 * q + 0, pt_lt m hok q hq 0 h⟩)
    refine (congrFun e (ix2 r d)).trans ((step_B m hok ρ c hte _ _ r d R ?_).trans ?_)
    · show R.val = 1024 * ((28 * q + 0) / 28) + (512 + r.val)
      omega
    · have hm : (28 * q + 0) % 28 = 0 := by omega
      simp only [hm, decide_true, if_true]
  · intro j h
    have e := congrArg Prod.snd (traj_eq m hok ρ c ⟨28 * q + (j + 1), pt_lt m hok q hq (j + 1) h⟩)
    refine (congrFun e (ix2 r d)).trans ((step_B m hok ρ c hte _ _ r d R ?_).trans ?_)
    · show R.val = 1024 * ((28 * q + (j + 1)) / 28) + (512 + r.val)
      omega
    · have hm : (28 * q + (j + 1)) % 28 = j + 1 := by omega
      have hp := prev0_succ m hok ρ c (28 * q + j) (pt_lt m hok q hq (j + 1) h)
      have hp' : prev0 m hok ρ c ⟨28 * q + (j + 1), pt_lt m hok q hq (j + 1) h⟩ = traj m hok ρ c (28 * q + j) (pt_lt m hok q hq j (Nat.lt_of_succ_lt h)) := hp
      rw [hp']
      simp only [hm, Nat.succ_ne_zero, decide_false, Bool.false_eq_true, if_false]

/-- The result at an element, as the specification has it. -/
abbrev sp (R : Fin 40960) (d : Fin 2048) : EReal := res (aX m c) (aG m c) (aWG m c) (aWU m c) (aWD m c) (T0 m) (T1 m) hte R d

theorem last_eq (R : Fin 40960) (d : Fin 2048) :
    (if live (T1 m) R then ∑ n ∈ Finset.range (256 * (27 + 1)), trm m c hte R d n else 0) = sp m c hte R d := by
  rw [trm_sum]; rfl

/-- What a tile's last point leaves in the block. -/
theorem block_at (q : ℕ) (hq : q < 40) (a : Fin 1024) (d : Fin 2048) (R : Fin 40960) (hR : R.val = 1024 * q + a.val) :
    (stitch (traj m hok ρ c (28 * q + 27) (pt_lt m hok q hq 27 (by decide))).1 (traj m hok ρ c (28 * q + 27) (pt_lt m hok q hq 27 (by decide))).2 : S1024x2048.Idx → EReal) (ix2 a d)
      = sp m c hte R d := by
  by_cases h : a.val < 512
  · have e : (ix2 a d : S1024x2048.Idx) = RA.emb (ix2 (⟨a.val, h⟩ : Fin 512) d : S512x2048.Idx) := (rowA ⟨a.val, h⟩ d).symm
    rw [e]
    exact (stitch_RA _ _ _).trans ((traj_A m hok ρ c hte q hq _ d R hR 27 (by decide)).trans (last_eq m c hte R d))
  · have ha : a = (⟨512 + (a.val - 512), by omega⟩ : Fin 1024) := Fin.ext (by show a.val = 512 + (a.val - 512); omega)
    have e : (ix2 a d : S1024x2048.Idx) = RB.emb (ix2 (⟨a.val - 512, by omega⟩ : Fin 512) d : S512x2048.Idx) := by
      rw [rowB]; exact congrArg (fun a => (ix2 a d : S1024x2048.Idx)) ha
    rw [e]
    exact (stitch_RB _ _ _).trans ((traj_B m hok ρ c hte q hq _ d R (by show R.val = 1024 * q + (512 + (a.val - 512)); omega) 27 (by decide)).trans (last_eq m c hte R d))

end Cert.Kernel2Ideal.Sw

end
-- ==== Proof.Sw.KerRun.lean ====
module

public import proofs.«01_k».proof.Proof.Sw.KerVal
public import proofs.«01_k».proof.Proof.Sw.FrameI

@[expose] public section

set_option maxRecDepth 16384

noncomputable section

/-! The routed experts' launch ends with the specification in the result's array. -/
namespace Cert.Kernel2Ideal.Sw

open Cert.Kernel2Ideal Cert.Kernel2Ideal.Gen
open Idealize.ShloMosaic
open Idealize.ShloMosaic.TcCoe Idealize.SL.Sem
open Idealize.ShloMosaic.Pipeline (Dat Cfg Window)
open Cert.Spec

variable (m : (ℓ : Loc nD τ sig) → Buf (Elt Ideal) ℓ) (hok : ok0 (F := Ideal) (pf m)) (ρ : Dev nD → PrngReg) (c : Dev nD)
  (hte : ∀ i : S40.Idx, (T0 m i).toNat < 8)

theorem mem_of {κ : Kind} {sp : Space} {s : Shape} {e : EltTy} (v : View sig κ sp s e) (x : s.Idx) (i : v.ty.Idx) (h : v.emb x = i) : i ∈ v.set :=
  h ▸ v.emb_mem_set x

/-- The result's array. -/
def out : S40960x2048.Idx → EReal := fun i => sp m c hte (i 0) (i 1)

attribute [local irreducible] stitch traj

theorem after_last (n : ℕ) (t : Fin (cfgA m hok).N) (hn : t.val = n) (h : n < (cfgA m hok).N) :
    ((dats m hok ρ 0 c).after (5 : Fin 6) t : S1024x2048.Idx → EReal) = stitch (traj m hok ρ c n h).1 (traj m hok ρ c n h).2 := by
  subst hn
  exact after0_5 m hok ρ c t

theorem emb5 (t : Fin (cfgA m hok).N) (a : Fin 1024) (d : Fin 2048) (R : Fin 40960) (hR : R.val = 1024 * (t.val / 28) + a.val) :
    ((((cfgA m hok).win (5 : Fin 6)).blk t).view.emb (ix2 a d : S1024x2048.Idx) : S40960x2048.Idx) = ix2 R d := by
  have h0 : ((cfgA m hok).win (5 : Fin 6)).index t 0 = t.val / 28 := congrFun (index5 m hok t) 0
  have h1 : ((cfgA m hok).win (5 : Fin 6)).index t 1 = 0 := congrFun (index5 m hok t) 1
  funext b
  apply Fin.ext
  refine (Window.rect_emb_val ((cfgA m hok).win (5 : Fin 6)) t (ix2 a d) b).trans ?_
  fin_cases b
  · show ((cfgA m hok).win (5 : Fin 6)).index t 0 * 1024 + a.val = R.val
    rw [h0]; omega
  · show ((cfgA m hok).win (5 : Fin 6)).index t 1 * 2048 + d.val = d.val
    rw [h1]; omega

theorem final : (dats m hok ρ 0 c).arrAt (5 : Fin 6) (cfgA m hok).N = out m c hte := by
  refine (dats m hok ρ 0 c).arrAt_eq_of_emb (5 : Fin 6) (out m c hte) ?_ ?_
  · intro t hf y
    have hf' : t.val % 28 = 27 := of_decide_eq_true ((flush5 m hok t).symm.trans hf)
    have ht := lt_N m hok t
    obtain ⟨a, d, hy⟩ : ∃ (a : Fin 1024) (d : Fin 2048), (y : S1024x2048.Idx) = ix2 a d := ⟨y 0, y 1, eq_ix2 (y : S1024x2048.Idx)⟩
    have hq : t.val / 28 < 40 := by omega
    have hn : t.val = 28 * (t.val / 28) + 27 := by omega
    have hR : 1024 * (t.val / 28) + a.val < 40960 := by omega
    have e1 := congrFun (after_last m hok ρ c _ t hn (pt_lt m hok _ hq 27 (by decide))) (ix2 a d)
    have e2 := block_at m hok ρ c hte (t.val / 28) hq a d ⟨_, hR⟩ rfl
    have e3 := congrArg (out m c hte) (emb5 m hok t a d ⟨_, hR⟩ rfl)
    subst hy
    exact (e1.trans e2).trans e3.symm
  · intro i
    have hi : ((i : S40960x2048.Idx) 0).val < 40960 := ((i : S40960x2048.Idx) 0).isLt
    have hq : ((i : S40960x2048.Idx) 0).val / 1024 < 40 := by omega
    refine ⟨⟨28 * (((i : S40960x2048.Idx) 0).val / 1024) + 27, pt_lt m hok _ hq 27 (by decide)⟩, ?_, ?_⟩
    · rw [flush5]
      exact decide_eq_true (by show (28 * (((i : S40960x2048.Idx) 0).val / 1024) + 27) % 28 = 27; omega)
    · have e := emb5 m hok ⟨28 * (((i : S40960x2048.Idx) 0).val / 1024) + 27, pt_lt m hok _ hq 27 (by decide)⟩
        ⟨((i : S40960x2048.Idx) 0).val % 1024, by omega⟩ ((i : S40960x2048.Idx) 1) ((i : S40960x2048.Idx) 0)
        (by show ((i : S40960x2048.Idx) 0).val = 1024 * ((28 * (((i : S40960x2048.Idx) 0).val / 1024) + 27) / 28) + ((i : S40960x2048.Idx) 0).val % 1024; omega)
      have e' : (i : S40960x2048.Idx) = _ := (eq_ix2 (i : S40960x2048.Idx)).trans e.symm
      exact mem_of _ _ _ e'.symm

theorem result :
    θ_run (defs (F := Ideal)) (onTc (τ := τ) (main (F := Ideal))) ⟨m, fun _ => 0, ρ⟩ (fun r => ∀ c : Dev nD,
      r.2.mem ((c.tc : Thread nD τ).loc main_v0) = out m c hte) :=
  (θ_run defs _ _).mono (fun _ h c => ((h c).1 (5 : Fin 6)).trans (final m (ok_of m hte) ρ c hte)) (run_main m (ok_of m hte) ρ)

/-- The run: the result is the specification, the arguments end unchanged. -/
theorem value_run :
    θ_run (defs (F := Ideal)) (onTc (τ := τ) (main (F := Ideal))) ⟨m, fun _ => 0, ρ⟩ (fun r => ∀ c : Dev nD,
      r.2.mem ((c.tc : Thread nD τ).loc main_v0) = out m c hte
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h.1 c, h.2 c⟩) (θ_run_and (result m ρ hte) (unchanged m (ok_of m hte) ρ))

end Cert.Kernel2Ideal.Sw

end
-- ==== Proof.Sw.RefWords.lean ====
module

public import proofs.«01_k».proof.Proof.Gen.Reference2Ideal.Run
public import proofs.«01_k».proof.Proof.Sw.Spec
public import Idealize.ShloMosaic.Lib.Pointwise
public import Idealize.ShloMosaic.Lib.Routing.Words
public import Idealize.ShloMosaic.Lib.StableHlo.Predicate

@[expose] public section

set_option maxRecDepth 16384

noncomputable section

/-! The routed experts' reference weighs every row by a mask over the experts. Here that mask is read: the row's tile is
`r / 1024`, its half within the tile is `r % 1024 / 512`, and the mask is one exactly at the tile's expert, when the half is in use. -/
namespace Cert.Reference2Ideal.Sw

open Idealize.ShloMosaic Idealize.ShloMosaic.TcCoe Idealize.SL.Sem Cert.Reference2Ideal Cert.Reference2Ideal.Gen
open Cert.Spec Cert.Reference2Ideal.Value Idealize.ShloMosaic.StableHlo

theorem not_neg {a : ℕ} (ha : a < 2 ^ 31) : (BitVec.ofNat 32 a).msb = false := by
  rw [BitVec.msb_eq_decide]
  simp only [BitVec.toNat_ofNat, decide_eq_false_iff_not]
  omega

theorem not_lt_zero {a : ℕ} (ha : a < 2 ^ 31) : IntOp.cmpi .slt (BitVec.ofNat 32 a) 0#32 = 0#1 := by
  show BitVec.ofBool ((BitVec.ofNat 32 a).slt 0#32) = _
  rw [BitVec.slt_zero_eq_msb, not_neg ha]
  rfl

/-- Rounding a signed quotient down changes nothing for natural numbers. -/
theorem floor_div {a b : ℕ} (ha : a < 2 ^ 31) (h0 : 0 < b) (hb : b < 2 ^ 31) :
    Scalar.select
      (IntOp.andi
        (IntOp.cmpi CmpIPredicate.ne
          (if BitVec.ofNat 32 a = 0 then 0 else if (BitVec.ofNat 32 a).msb = true then -1 else 1)
          (if BitVec.ofNat 32 b = 0 then (0 : BitVec 32) else if (BitVec.ofNat 32 b).msb = true then -1 else 1))
        (IntOp.cmpi CmpIPredicate.ne (IntOp.remsi ArithUnit.host (BitVec.ofNat 32 a) (BitVec.ofNat 32 b)) 0#32))
      (IntOp.subi (IntOp.divsi ArithUnit.host (BitVec.ofNat 32 a) (BitVec.ofNat 32 b)) 1#32)
      (IntOp.divsi ArithUnit.host (BitVec.ofNat 32 a) (BitVec.ofNat 32 b)) = BitVec.ofNat 32 (a / b) := by
  rw [Routing.remsi_word _ ha h0 hb, Routing.divsi_word _ ha h0 hb, not_neg ha, not_neg hb]
  have hb0 : ¬ (BitVec.ofNat 32 b = 0) := by
    intro h
    have := congrArg BitVec.toNat h
    simp only [BitVec.toNat_ofNat, BitVec.ofNat_eq_ofNat] at this
    omega
  rw [if_neg hb0]
  by_cases h : a = 0
  · subst h
    rw [Nat.zero_mod, Nat.zero_div]
    simp [IntOp.cmpi, IntOp.andi, Scalar.select]
  · have ha0 : ¬ (BitVec.ofNat 32 a = 0) := by
      intro h'
      have := congrArg BitVec.toNat h'
      simp only [BitVec.toNat_ofNat, BitVec.ofNat_eq_ofNat] at this
      omega
    rw [if_neg ha0]
    simp [IntOp.cmpi, IntOp.andi, Scalar.select]

theorem floor_mod {a b : ℕ} (ha : a < 2 ^ 31) (h0 : 0 < b) (hb : b < 2 ^ 31) :
    Scalar.select
      (IntOp.andi
        (IntOp.cmpi CmpIPredicate.ne
          (IntOp.cmpi CmpIPredicate.slt (IntOp.remsi ArithUnit.host (BitVec.ofNat 32 a) (BitVec.ofNat 32 b)) 0#32)
          (IntOp.cmpi CmpIPredicate.slt (BitVec.ofNat 32 b) 0#32))
        (IntOp.cmpi CmpIPredicate.ne (IntOp.remsi ArithUnit.host (BitVec.ofNat 32 a) (BitVec.ofNat 32 b)) 0#32))
      (IntOp.addi (IntOp.remsi ArithUnit.host (BitVec.ofNat 32 a) (BitVec.ofNat 32 b)) (BitVec.ofNat 32 b))
      (IntOp.remsi ArithUnit.host (BitVec.ofNat 32 a) (BitVec.ofNat 32 b)) = BitVec.ofNat 32 (a % b) := by
  have hm : a % b < 2 ^ 31 := lt_of_le_of_lt (Nat.mod_le _ _) ha
  rw [Routing.remsi_word _ ha h0 hb, not_lt_zero hm, not_lt_zero hb]
  simp [IntOp.cmpi, IntOp.andi, Scalar.select]

variable (V0 : Valuation τ sig (Elt Ideal)) (r : Fin 40960)

theorem tile_at : (res_main_v13 V0 : S40960.Idx → BitVec 32) (ix1 r) = BitVec.ofNat 32 (r.val / 1024) := by
  pointwise [res_main_v13, res_main_v12, res_main_call0_v2, res_main_call0_v0, id]
  exact floor_div (by omega) (by omega) (by omega)

theorem row_at : (res_main_v14 V0 : S40960.Idx → BitVec 32) (ix1 r) = BitVec.ofNat 32 (r.val % 1024) := by
  pointwise [res_main_v14, res_main_v12, res_main_call1_v4, res_main_call1_v2, res_main_call1_v0, id]
  have h : Scalar.select (IntOp.cmpi CmpIPredicate.eq 1024#32 0#32) 1#32 1024#32 = BitVec.ofNat 32 1024 := by decide
  rw [h]
  exact floor_mod (by omega) (by omega) (by omega)

theorem look_at : (res_main_call3_v5 V0 : S40960x1.Idx → BitVec 32) (ix2 r 0) = BitVec.ofNat 32 (r.val / 1024) := by
  pointwise [res_main_call3_v5]
  rw [tile_at, not_lt_zero (by omega)]
  rfl

theorem look'_at : (res_main_call4_v5 V0 : S40960x1.Idx → BitVec 32) (ix2 r 0) = BitVec.ofNat 32 (r.val / 1024) := by
  pointwise [res_main_call4_v5]
  rw [tile_at, not_lt_zero (by omega)]
  rfl

theorem in_table (n : ℕ) (h : n < 40) :
    IntOp.andi (IntOp.cmpi .sge (BitVec.ofNat 32 n) 0#32) (IntOp.cmpi .sle (BitVec.ofNat 32 n) 39#32) = 1#1 := by
  interval_cases n <;> decide

theorem fold_one {ι : Type} (s : Finset ι) : Finset.fold IntOp.andi 1#1 (fun _ => 1#1) s = 1#1 := by
  classical
  induction s using Finset.induction_on with
  | empty => rfl
  | insert a s ha ih => rw [Finset.fold_insert ha, ih]; rfl

theorem small_toInt (n : ℕ) (h : n < 40) : min (BitVec.ofNat 32 n).toInt.toNat 39 = n := by
  interval_cases n <;> decide

theorem tbl_at (x : S40.Idx → BitVec 32) (idx : S40960x1.Idx → BitVec 32) (h : idx (ix2 r 0) = BitVec.ofNat 32 (r.val / 1024)) :
    (Host.gather gather_S40_S40960x1_S40960_n_0_n_n_0_1_1 x idx : S40960.Idx → BitVec 32) (ix1 r) = x (ix1 (tl r)) := by
  have hi : idx (Predicate.ixP r) = BitVec.ofNat 32 (r.val / 1024) := by
    rw [← h]; congr 1; funext a; fin_cases a <;> rfl
  have hr : (ix1 r : S40960.Idx) = Shape.Idx.ofFin r := by funext a; fin_cases a; rfl
  rw [hr]
  refine (Predicate.gather_take gather_S40_S40960x1_S40960_n_0_n_n_0_1_1 rfl rfl rfl rfl x idx r (by decide)).trans ?_
  congr 1
  funext a
  fin_cases a
  apply Fin.ext
  show min (idx (Predicate.ixP r)).toInt.toNat (40 - 1) = r.val / 1024
  rw [hi]
  exact small_toInt _ (by omega)

theorem bit_f32 (b : Bool) : (FloatOps.uitofp (F := Ideal) FTy.f32 (BitVec.ofBool b) : EReal) = if b then 1 else 0 := by
  cases b <;> simp [FloatOps.uitofp]

theorem half_den : (res_main_call2_v0 V0 : S_.Idx → BitVec 32) ix0 = BitVec.ofNat 32 512 := by
  pointwise [res_main_call2_v0, id]

theorem half_quot : (res_main_call2_v2 V0 : S40960.Idx → BitVec 32) (ix1 r) =
    IntOp.divsi ArithUnit.host ((res_main_v14 V0 : S40960.Idx → BitVec 32) (ix1 r)) (BitVec.ofNat 32 512) := by
  pointwise [res_main_call2_v2, res_main_call2_v0, id]

theorem mask_word (te tv : S40.Idx → BitVec 32) (e : Fin 8) (w : BitVec 32) (hw : w = BitVec.ofNat 32 (r.val % 1024 / 512)) :
    ((FloatOps.uitofp (F := Ideal) FTy.f32 (IntOp.cmpi .eq (te (ix1 (tl r))) (BitVec.ofNat 32 e.val)) : EReal)
        * (FloatOps.uitofp (F := Ideal) FTy.f32 (IntOp.cmpi .slt (IntOp.muli w 512#32) (tv (ix1 (tl r)))) : EReal))
      = (if te (ix1 (tl r)) = BitVec.ofNat 32 e.val then 1 else 0) * (if live tv r then 1 else 0) := by
  subst hw
  have hm : IntOp.muli (BitVec.ofNat 32 (r.val % 1024 / 512)) 512#32 = BitVec.ofNat 32 (r.val % 1024 / 512 * 512) := by
    rw [BitVec.ofNat_mul]; rfl
  rw [hm]
  refine congrArg₂ (· * ·) ((bit_f32 _).trans ?_) (bit_f32 _)
  simp only [beq_iff_eq]

theorem mask_at (e : Fin 8) : (res_main_v25 V0 : S40960x8.Idx → EReal) (ix2 r e) =
    ((if (V0 main_arg5 : S40.Idx → BitVec 32) (ix1 (tl r)) = BitVec.ofNat 32 e.val then 1 else 0) * (if live (V0 main_arg6) r then 1 else 0) : EReal) := by
  pointwise [res_main_v25]
  have h3 : (fun x => IntOp.andi (IntOp.cmpi CmpIPredicate.sge (res_main_call3_v5 V0 x) 0#32) (IntOp.cmpi CmpIPredicate.sle (res_main_call3_v5 V0 x) 39#32)) = fun _ => 1#1 := by
    funext x
    idx_vars x
    obtain rfl : x1 = 0 := Subsingleton.elim _ _
    rw [look_at]
    exact in_table _ (by omega)
  have h4 : (fun x => IntOp.andi (IntOp.cmpi CmpIPredicate.sge (res_main_call4_v5 V0 x) 0#32) (IntOp.cmpi CmpIPredicate.sle (res_main_call4_v5 V0 x) 39#32)) = fun _ => 1#1 := by
    funext x
    idx_vars x
    obtain rfl : x1 = 0 := Subsingleton.elim _ _
    rw [look'_at]
    exact in_table _ (by omega)
  rw [h3, h4, fold_one, fold_one, tbl_at r _ _ (look_at V0 r), tbl_at r _ _ (look'_at V0 r)]
  rw [half_den, half_quot, row_at, floor_div (a := r.val % 1024) (b := 512) (by omega) (by omega) (by omega)]
  exact mask_word r (V0 main_arg5) (V0 main_arg6) e _ rfl

end Cert.Reference2Ideal.Sw

end
-- ==== Proof.Sw.RefVal.lean ====
module

public import proofs.«01_k».proof.Proof.Sw.RefWords

@[expose] public section

set_option maxRecDepth 16384

noncomputable section

/-! The routed experts' reference, read at an element, is the specification. -/
namespace Cert.Reference2Ideal.Sw

open Idealize.ShloMosaic Idealize.ShloMosaic.TcCoe Idealize.SL.Sem Cert.Reference2Ideal Cert.Reference2Ideal.Gen
open Cert.Spec Cert.Reference2Ideal.Value Idealize.ShloMosaic.StableHlo

variable (V0 : Valuation τ sig (Elt Ideal)) (r : Fin 40960)

theorem norm_at (d : Fin 2048) : (res_main_v11 V0 : S40960x2048.Idx → EReal) (ix2 r d) = hn (V0 main_arg0) (V0 main_arg1) r d := by
  pointwise [res_main_v11]
  rfl

set_option maxHeartbeats 2000000 in
theorem value_at (hte : ∀ i : S40.Idx, ((V0 main_arg5 : S40.Idx → BitVec 32) i).toNat < 8) (d : Fin 2048) :
    (val3 V0 (Proc.devRef .tc main_v146) : S40960x2048.Idx → EReal) (ix2 r d) = res (V0 main_arg0) (V0 main_arg1) (V0 main_arg2) (V0 main_arg3) (V0 main_arg4) (V0 main_arg5) (V0 main_arg6) hte r d := by
  rw [val3_main_v146]
  pointwise [res_main_v101, res_main_v29, res_main_v44, res_main_v59, res_main_v74, res_main_v89, res_main_v104, res_main_v119, res_main_v134]
  have h := one_hot ((V0 main_arg5 : S40.Idx → BitVec 32) (ix1 (tl r))) (hte _) (if live (V0 main_arg6) r then 1 else 0)
    (fun e => ∑ f : Fin 7168, term (hn (V0 main_arg0) (V0 main_arg1) r) (V0 main_arg2) (V0 main_arg3) (V0 main_arg4) e d f)
  simp only [norm_at, mask_at]
  refine h.trans ?_
  unfold res
  cases live (V0 main_arg6) r
  · rw [if_neg Bool.false_ne_true, if_neg Bool.false_ne_true, zero_mul]
  · rw [if_pos rfl, if_pos rfl, one_mul]

end Cert.Reference2Ideal.Sw

end
-- ==== Proof.Dn.RunI.lean ====
module

public import proofs.«01_k».proof.Proof.Gen.Kernel5Ideal.Skeleton
public import proofs.«01_k».proof.Proof.Gen.Kernel5Ideal.Launch
public import proofs.«01_k».proof.Defs
public import proofs.«01_k».proof.Proof.Gen.Kernel5Ideal
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

/-! The dense channel mixer's body, run along the two ways its tables leave: every row of every tile is in use, and the
point is the first of its tile (the hidden slice 0) or a later one. Each run says what the body leaves in the output block
and in the normalised rows' buffer. The proofs are for any carrier of the floats. -/
namespace Cert.Kernel5Ideal.Dn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the normalised rows' buffer, whole. -/
abbrev tb0 : Memref sig .tc .smem S16 .i32 := Memref.whole main_v0
abbrev tb1 : Memref sig .tc .smem S16 .i32 := Memref.whole main_v1
abbrev sc0 : Memref sig .tc .vmem S1024x2048 .bf16 := Memref.whole cc0_scratch0

/-- The tile's count of rows in use, as the body reads it. -/
abbrev wd (T1 : S16.Idx → Elt F .i32) (i : grid0.Coords) : BitVec 32 :=
  View.readAt (Elt F) (tb1).view (Rect.unit (s := S16) (k0_off1 i) S1.size (k0_off1_inb i)).toLoadRect T1 (Shape.Idx.first (numel1_S1.symm ▸ Nat.one_pos))

section
variable (c : Dev nD) (i : grid0.Coords) (arg4 : Memref sig .tc .vmem S1024x2048 .f32) (harg4 : arg4.IsWhole) (arg5 : Memref sig .tc .vmem S1x2048 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 T1 : S16.Idx → Elt F .i32)
  (x0 : S1024x2048.Idx → Elt F .f32) (x1 : S1x2048.Idx → Elt F .f32) (x2 : S1x2048x256.Idx → Elt F .f32) (x3 : S1x2048x256.Idx → Elt F .f32) (x4 : S1x256x2048.Idx → Elt F .f32) (y5 : S1024x2048.Idx → Elt F .f32) (xa0 : Buf (Elt F) ((c : Thread nD τ).loc cc0_scratch0))

/-- What the body holds beside the output block and the rows' buffer: the five input blocks and the tables. -/
abbrev ins : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (tb0.view.loc (c : Thread nD τ) ↦{fullShare.right} T0)
    ∗ (tb1.view.loc (c : Thread nD τ) ↦{fullShare.right} T1))

set_option backward.proofsInPublic true in
set_option maxHeartbeats 8000000 in
/-- The body's run: first slice. -/
noncomputable def runA (k0_h1 : k0_cond1 i (wd T1 i) = 1#1) (k0_h2 : ¬(k0_cond2 i (wd T1 i) = 1#1)) (k0_h3 : ¬(k0_cond3 (wd T1 i) = 1#1)) :
    Σ' (out0 : List (View.Piece (Elt F) S1024x2048 .f32)), { out1 : List (View.Piece (Elt F) S1024x2048 .bf16) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt F) f out0) ∗ (∃ f, sc0.view.loc (c : Thread nD τ) ↦{fullShare} sc0.view.writes (Elt F) f out1)) -∗ K ⟨⟩))
          ⊢ wp frame (wpE (defs₀ (F := F)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, _, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = k0_cond1 _ _ = _; exact k0_h1) | (guard_target = ¬(k0_cond2 _ _ = _); exact k0_h2) | (guard_target = ¬(k0_cond3 _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexists _; iexact HS0⟩

set_option backward.proofsInPublic true in
set_option maxHeartbeats 8000000 in
/-- The body's run: a later slice. -/
noncomputable def runB (k0_h1 : ¬(k0_cond1 i (wd T1 i) = 1#1)) (k0_h2 : k0_cond2 i (wd T1 i) = 1#1) (k0_h3 : ¬(k0_cond3 (wd T1 i) = 1#1)) :
    { out0 : List (View.Piece (Elt F) S1024x2048 .f32) //
      ∀ (K : PUnit → sProp 𝕄),
        iprop(ins c arg4 arg5 arg6 arg7 arg8 T0 T1 x0 x1 x2 x3 x4 ∗ owns (c : Thread nD τ) arg9 fullShare y5 ∗ (sc0.view.loc (c : Thread nD τ) ↦{fullShare} xa0)
          ∗ (iprop(ins c arg4 arg5 arg6 arg7 arg8 T0 T1 x0 x1 x2 x3 x4 ∗ (∃ f, arg9.view.loc (c : Thread nD τ) ↦[arg9.view.set]{fullShare} arg9.view.writes (Elt F) f out0) ∗ (sc0.view.loc (c : Thread nD τ) ↦{fullShare} xa0)) -∗ K ⟨⟩))
          ⊢ wp frame (wpE (defs₀ (F := F)) Variants.none c none) Set.univ (cc0_swiglu i tb0 (Memref.isWhole_whole _) tb1 (Memref.isWhole_whole _) arg4 harg4 arg5 harg5 arg6 harg6 arg7 harg7 arg8 harg8 arg9 harg9 sc0 (Memref.isWhole_whole _)) K } :=
  ⟨_, fun K => by
    unfold owns
    rw [cc0_swiglu_eq_skeleton]; unfold cc0_swiglu_skel
    iintro ⟨⟨H0, H1, H2, H3, H4, HT0, HT1⟩, ⟨%f5, %hf5, HO5⟩, HS0, Hk⟩
    obtain rfl := harg9.eq_unread hf5
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = k0_cond2 _ _ = _; exact k0_h2) | (guard_target = ¬(k0_cond3 _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    iexact HS0⟩

end

end Cert.Kernel5Ideal.Dn

end
-- ==== Proof.Dn.BodyI.lean ====
module

public import proofs.«01_k».proof.Proof.Dn.RunI
public import proofs.«01_k».proof.Proof.Sw.Words
public import Idealize.ShloMosaic.Lib.VecWindow
public import Idealize.ShloMosaic.Lib.Pipeline.Value

@[expose] public section

set_option maxRecDepth 16384
set_option Elab.async false

noncomputable section

/-! What a run of the dense channel mixer's body leaves, in the two halves of 512 rows: the slice of the product, added to
what the half held after the tile's first slice. -/
namespace Cert.Kernel5Ideal.Dn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two halves' rectangles. -/
abbrev RA : Rect S1024x2048 := Rect.unit (s := S1024x2048) ![0, 0] S512x2048.size inb_S1024x2048_S512x2048_0_0
abbrev RB : Rect S1024x2048 := Rect.unit (s := S1024x2048) ![512, 0] S512x2048.size inb_S1024x2048_S512x2048_512_0

theorem mem_RA (y : S1024x2048.Idx) : y ∈ RA.set ↔ (y 0).val < 512 := by
  rw [Rect.mem_set_unit]
  constructor
  · intro h; have := (h 0).2; simpa using this
  · intro h a; fin_cases a
    · exact ⟨Nat.zero_le _, by simpa using h⟩
    · exact ⟨Nat.zero_le _, by have := (y 1).isLt; simpa using this⟩
theorem mem_RB (y : S1024x2048.Idx) : y ∈ RB.set ↔ 512 ≤ (y 0).val := by
  rw [Rect.mem_set_unit]
  constructor
  · intro h; exact (h 0).1
  · intro h a; fin_cases a
    · exact ⟨h, by have := (y 0).isLt; simpa using this⟩
    · exact ⟨Nat.zero_le _, by have := (y 1).isLt; simpa using this⟩
theorem not_RB_of_RA {y : S1024x2048.Idx} (h : y ∈ RA.set) : y ∉ RB.set := by
  rw [mem_RA] at h; rw [mem_RB]; omega

theorem emb_RA_not_RB (x : S512x2048.Idx) : RA.emb x ∉ RB.set := not_RB_of_RA (LoadRect.idx_mem RA.toLoadRect x)

/-- A block from its two halves. -/
def stitch {e : EltTy} (p q : S512x2048.Idx → Elt F e) : S1024x2048.Idx → Elt F e :=
  View.canon (Val := Elt F) [⟨RB, q⟩, ⟨RA, p⟩]

theorem stitch_RB {e : EltTy} (p q : S512x2048.Idx → Elt F e) (x : S512x2048.Idx) : stitch p q (RB.emb x) = q x :=
  View.canon_cons_emb RB q _ x
theorem stitch_RA {e : EltTy} (p q : S512x2048.Idx → Elt F e) (x : S512x2048.Idx) : stitch p q (RA.emb x) = p x :=
  (View.canon_cons_of_not_mem (Val := Elt F) ⟨RB, q⟩ [⟨RA, p⟩] (emb_RA_not_RB x)).trans (View.canon_cons_emb RA p [] x)
theorem ld_stitch_RA {e : EltTy} (p q : S512x2048.Idx → Elt F e) : View.ld (stitch p q) RA = p := funext fun x => stitch_RA p q x
theorem ld_stitch_RB {e : EltTy} (p q : S512x2048.Idx → Elt F e) : View.ld (stitch p q) RB = q := funext fun x => stitch_RB p q x

theorem cover2 {e : EltTy} (p q : S512x2048.Idx → Elt F e) (y : S1024x2048.Idx) :
    ∃ pc ∈ ([⟨RB, q⟩, ⟨RA, p⟩] : List (View.Piece (Elt F) S1024x2048 e)), y ∈ pc.1.set := by
  by_cases h : (y 0).val < 512
  · exact ⟨⟨RA, p⟩, by simp, (mem_RA y).2 h⟩
  · exact ⟨⟨RB, q⟩, by simp, (mem_RB y).2 (by omega)⟩

/-- Two stores, one per half, leave the stitched block, whatever was there. -/
theorem read_two {κ : Kind} {sp : Space} {e : EltTy} (v : View sig κ sp S1024x2048 e) (f : v.ty.Contents (Elt F)) (p q : S512x2048.Idx → Elt F e) :
    v.read (Elt F) (v.writes (Elt F) f [⟨RB, q⟩, ⟨RA, p⟩]) = stitch p q :=
  View.read_writes_eq_canon v f _ (cover2 p q)

/-- The rows normalised by their root mean square, rounded to the products' format. -/
abbrev XN (x : S512x2048.Idx → Elt F .f32) (g : S1x2048.Idx → Elt F .f32) : S512x2048.Idx → Elt F .bf16 := k0_pay25 (F := F) x g
/-- One slice of the mixer: the gated product of the normalised rows. -/
abbrev EX (w1 w3 : S1x2048x256.Idx → Elt F .f32) (w2 : S1x256x2048.Idx → Elt F .f32) (xn : S512x2048.Idx → Elt F .bf16) : S512x2048.Idx → Elt F .f32 :=
  k0_pay26 (F := F) w1 w3 w2 xn
/-- A half after a point: `first` says that the point is the tile's first. -/
def nxt (first : Bool) (w1 w3 : S1x2048x256.Idx → Elt F .f32) (w2 : S1x256x2048.Idx → Elt F .f32) (xn : S512x2048.Idx → Elt F .bf16)
    (old : S512x2048.Idx → Elt F .f32) : S512x2048.Idx → Elt F .f32 :=
  if first then EX w1 w3 w2 xn else addf (F := F) (φ := .f32) old (EX w1 w3 w2 xn)

theorem eq0 : ∀ j : Fin 22, Scalar.cmpi .eq (BitVec.ofNat 32 j.val) 0#32 = BitVec.ofBool (decide (j.val = 0)) := by decide
theorem gt0 : ∀ j : Fin 22, Scalar.cmpi .sgt (BitVec.ofNat 32 j.val) 0#32 = BitVec.ofBool (!decide (j.val = 0)) := by decide
theorem hi_all : Words.hi 1024#32 = true := by decide

theorem cond1_eq (i : grid0.Coords) : k0_cond1 i 1024#32 = BitVec.ofBool (decide ((i 1).val = 0)) := by
  unfold k0_cond1; dsimp only; rw [eq0 (i 1)]; simp only [Words.sgt512, hi_all]; exact (Words.and_bits _ _).trans (by rw [Bool.true_and])
theorem cond2_eq (i : grid0.Coords) : k0_cond2 i 1024#32 = BitVec.ofBool (!decide ((i 1).val = 0)) := by
  unfold k0_cond2; dsimp only; rw [gt0 (i 1)]; simp only [Words.sgt512, hi_all]; exact (Words.and_bits _ _).trans (by rw [Bool.true_and])
theorem cond3_eq : k0_cond3 1024#32 = 0#1 := by decide

/-- The idle table's formula at a point: every point stores. -/
theorem idle_eq (i : grid0.Coords) :
    (!(k0_cond1 i 1024#32 == 1#1) && !(k0_cond2 i 1024#32 == 1#1) && !(k0_cond3 1024#32 == 1#1 && k0_cond4 i 1024#32 == 1#1) && !(k0_cond3 1024#32 == 1#1 && k0_cond5 i 1024#32 == 1#1) && !(k0_cond3 1024#32 == 1#1 && k0_cond6 i 1024#32 == 1#1) && !(k0_cond3 1024#32 == 1#1 && k0_cond7 i 1024#32 == 1#1) && !(k0_cond3 1024#32 == 1#1 && k0_cond8 i 1024#32 == 1#1) && !(k0_cond3 1024#32 == 1#1 && k0_cond9 i 1024#32 == 1#1))
      = false := by
  rw [cond1_eq, cond2_eq]
  cases decide ((i 1).val = 0)
  · simp
  · simp

section
variable (c : Dev nD) (i : grid0.Coords) (arg4 : Memref sig .tc .vmem S1024x2048 .f32) (harg4 : arg4.IsWhole) (arg5 : Memref sig .tc .vmem S1x2048 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 T1 : S16.Idx → Elt F .i32)
  (x0 : S1024x2048.Idx → Elt F .f32) (x1 : S1x2048.Idx → Elt F .f32) (x2 : S1x2048x256.Idx → Elt F .f32) (x3 : S1x2048x256.Idx → Elt F .f32) (x4 : S1x256x2048.Idx → Elt F .f32) (p q : S512x2048.Idx → Elt F .f32) (y5 : S1024x2048.Idx → Elt F .f32) (xa0 : Buf (Elt F) ((c : Thread nD τ).loc cc0_scratch0))

/-- What the rows' buffer holds of the tile: the normalised rows of each half. -/
def Good (n0 n1 : S512x2048.Idx → Elt F .bf16) (a : Buf (Elt F) ((c : Thread nD τ).loc cc0_scratch0)) : Prop :=
  View.readAt (Elt F) sc0.view RA.toLoadRect a = n0 ∧ View.readAt (Elt F) sc0.view RB.toLoadRect a = n1

/-- The body's call. -/
abbrev callB : Prog (TpuEff nD τ sig (Elt F) Λ₀ .tc) PUnit :=
  cc0_swiglu i tb0 (Memref.isWhole_whole _) tb1 (Memref.isWhole_whole _) arg4 harg4 arg5 harg5 arg6 harg6 arg7 harg7 arg8 harg8 arg9 harg9 sc0 (Memref.isWhole_whole _)

set_option maxHeartbeats 2000000 in
theorem rawA (h1 : k0_cond1 i (wd T1 i) = 1#1) (h2 : ¬k0_cond2 i (wd T1 i) = 1#1) (h3 : ¬k0_cond3 (wd T1 i) = 1#1) : (runA c i arg4 harg4 arg5 harg5 arg6 harg6 arg7 harg7 arg8 harg8 arg9 harg9 T0 T1 x0 x1 x2 x3 x4 y5 xa0 h1 h2 h3).1 = [⟨RB, EX (View.readAt (Elt F) arg6.view (Rect.unit ![0, 0, 0] S1x2048x256.size inb_S1x2048x256_S1x2048x256_0_0_0).toLoadRect (arg6.view.rep x2)) (View.readAt (Elt F) arg7.view (Rect.unit ![0, 0, 0] S1x2048x256.size inb_S1x2048x256_S1x2048x256_0_0_0).toLoadRect (arg7.view.rep x3)) (View.readAt (Elt F) arg8.view (Rect.unit ![0, 0, 0] S1x256x2048.size inb_S1x256x2048_S1x256x2048_0_0_0).toLoadRect (arg8.view.rep x4)) (sc0.view.readCov [⟨RB, (XN (View.readAt (Elt F) arg4.view RB.toLoadRect (arg4.view.rep x0)) (View.readAt (Elt F) arg5.view (Rect.unit ![0, 0] S1x2048.size inb_S1x2048_S1x2048_0_0).toLoadRect (arg5.view.rep x1)))⟩, ⟨RA, (XN (View.readAt (Elt F) arg4.view RA.toLoadRect (arg4.view.rep x0)) (View.readAt (Elt F) arg5.view (Rect.unit ![0, 0] S1x2048.size inb_S1x2048_S1x2048_0_0).toLoadRect (arg5.view.rep x1)))⟩] RB.toLoadRect)⟩, ⟨RA, EX (View.readAt (Elt F) arg6.view (Rect.unit ![0, 0, 0] S1x2048x256.size inb_S1x2048x256_S1x2048x256_0_0_0).toLoadRect (arg6.view.rep x2)) (View.readAt (Elt F) arg7.view (Rect.unit ![0, 0, 0] S1x2048x256.size inb_S1x2048x256_S1x2048x256_0_0_0).toLoadRect (arg7.view.rep x3)) (View.readAt (Elt F) arg8.view (Rect.unit ![0, 0, 0] S1x256x2048.size inb_S1x256x2048_S1x256x2048_0_0_0).toLoadRect (arg8.view.rep x4)) (sc0.view.readCov [⟨RA, (XN (View.readAt (Elt F) arg4.view RA.toLoadRect (arg4.view.rep x0)) (View.readAt (Elt F) arg5.view (Rect.unit ![0, 0] S1x2048.size inb_S1x2048_S1x2048_0_0).toLoadRect (arg5.view.rep x1)))⟩] RA.toLoadRect)⟩] := by
  rfl

set_option maxHeartbeats 2000000 in
theorem rawB (h1 : ¬k0_cond1 i (wd T1 i) = 1#1) (h2 : k0_cond2 i (wd T1 i) = 1#1) (h3 : ¬k0_cond3 (wd T1 i) = 1#1) : (runB c i arg4 harg4 arg5 harg5 arg6 harg6 arg7 harg7 arg8 harg8 arg9 harg9 T0 T1 x0 x1 x2 x3 x4 y5 xa0 h1 h2 h3).1 = [⟨RB, k0_pay27 (F := F) (View.readAt (Elt F) arg6.view (Rect.unit ![0, 0, 0] S1x2048x256.size inb_S1x2048x256_S1x2048x256_0_0_0).toLoadRect (arg6.view.rep x2)) (View.readAt (Elt F) arg7.view (Rect.unit ![0, 0, 0] S1x2048x256.size inb_S1x2048x256_S1x2048x256_0_0_0).toLoadRect (arg7.view.rep x3)) (View.readAt (Elt F) arg8.view (Rect.unit ![0, 0, 0] S1x256x2048.size inb_S1x256x2048_S1x256x2048_0_0_0).toLoadRect (arg8.view.rep x4)) (View.readAt (Elt F) arg9.view RB.toLoadRect (harg9.unread y5)) (View.readAt (Elt F) sc0.view RB.toLoadRect xa0)⟩, ⟨RA, k0_pay27 (F := F) (View.readAt (Elt F) arg6.view (Rect.unit ![0, 0, 0] S1x2048x256.size inb_S1x2048x256_S1x2048x256_0_0_0).toLoadRect (arg6.view.rep x2)) (View.readAt (Elt F) arg7.view (Rect.unit ![0, 0, 0] S1x2048x256.size inb_S1x2048x256_S1x2048x256_0_0_0).toLoadRect (arg7.view.rep x3)) (View.readAt (Elt F) arg8.view (Rect.unit ![0, 0, 0] S1x256x2048.size inb_S1x256x2048_S1x256x2048_0_0_0).toLoadRect (arg8.view.rep x4)) (View.readAt (Elt F) arg9.view RA.toLoadRect (harg9.unread y5)) (View.readAt (Elt F) sc0.view RA.toLoadRect xa0)⟩] := by
  rfl

set_option maxHeartbeats 400000 in
theorem rawSA (h1 : k0_cond1 i (wd T1 i) = 1#1) (h2 : ¬k0_cond2 i (wd T1 i) = 1#1) (h3 : ¬k0_cond3 (wd T1 i) = 1#1) : (runA c i arg4 harg4 arg5 harg5 arg6 harg6 arg7 harg7 arg8 harg8 arg9 harg9 T0 T1 x0 x1 x2 x3 x4 y5 xa0 h1 h2 h3).2.1 = [⟨RB, (XN (View.readAt (Elt F) arg4.view RB.toLoadRect (arg4.view.rep x0)) (View.readAt (Elt F) arg5.view (Rect.unit ![0, 0] S1x2048.size inb_S1x2048_S1x2048_0_0).toLoadRect (arg5.view.rep x1)))⟩, ⟨RA, (XN (View.readAt (Elt F) arg4.view RA.toLoadRect (arg4.view.rep x0)) (View.readAt (Elt F) arg5.view (Rect.unit ![0, 0] S1x2048.size inb_S1x2048_S1x2048_0_0).toLoadRect (arg5.view.rep x1)))⟩] := rfl

theorem good_two (f : Buf (Elt F) ((c : Thread nD τ).loc cc0_scratch0)) (n0 n1 : S512x2048.Idx → Elt F .bf16) :
    Good c n0 n1 (sc0.view.writes (Elt F) f [⟨RB, n1⟩, ⟨RA, n0⟩]) := by
  have h := read_two sc0.view f n0 n1
  exact ⟨(congrArg (fun X => View.ld X RA) h).trans (ld_stitch_RA n0 n1), (congrArg (fun X => View.ld X RB) h).trans (ld_stitch_RB n0 n1)⟩
theorem pay27_eq (w1 w3 : S1x2048x256.Idx → Elt F .f32) (w2 : S1x256x2048.Idx → Elt F .f32) (o : S512x2048.Idx → Elt F .f32) (xn : S512x2048.Idx → Elt F .bf16) :
    k0_pay27 (F := F) w1 w3 w2 o xn = addf (F := F) (φ := .f32) o (EX w1 w3 w2 xn) := by
  have h : k0_pay27 (F := F) w1 w3 w2 o xn = addf (F := F) (φ := .f32) (shapeCast S512x2048 o shapeCasts_S512x2048_S512x2048) (EX w1 w3 w2 xn) := rfl
  rw [h, shapeCast_self]

set_option maxHeartbeats 400000 in
/-- The body, a later slice. -/
theorem stepB (h1 : ¬(k0_cond1 i (wd T1 i) = 1#1)) (h2 : k0_cond2 i (wd T1 i) = 1#1) (h3 : ¬(k0_cond3 (wd T1 i) = 1#1))
    (hg : Good c (XN (View.ld x0 RA) x1) (XN (View.ld x0 RB) x1) xa0) (K : PUnit → sProp 𝕄) :
    iprop(ins c arg4 arg5 arg6 arg7 arg8 T0 T1 x0 x1 x2 x3 x4 ∗ owns (c : Thread nD τ) arg9 fullShare (stitch p q) ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt false x2 x3 x4 (XN (View.ld x0 RA) x1) p) (nxt false x2 x3 x4 (XN (View.ld x0 RB) x1) q))
          ∗ (∃ a, ⌜Good c (XN (View.ld x0 RA) x1) (XN (View.ld x0 RB) x1) a⌝ ∗ (sc0.view.loc (c : Thread nD τ) ↦{fullShare} a))) -∗ K ⟨⟩))
      ⊢ wp frame (wpE (defs₀ (F := F)) Variants.none c none) Set.univ (callB i arg4 harg4 arg5 harg5 arg6 harg6 arg7 harg7 arg8 harg8 arg9 harg9) K := by
  have eq2 : View.readAt (Elt F) arg6.view (Rect.unit ![0, 0, 0] S1x2048x256.size inb_S1x2048x256_S1x2048x256_0_0_0).toLoadRect (arg6.view.rep x2) = x2 := View.readAt_rep_full _ _ _
  have eq3 : View.readAt (Elt F) arg7.view (Rect.unit ![0, 0, 0] S1x2048x256.size inb_S1x2048x256_S1x2048x256_0_0_0).toLoadRect (arg7.view.rep x3) = x3 := View.readAt_rep_full _ _ _
  have eq4 : View.readAt (Elt F) arg8.view (Rect.unit ![0, 0, 0] S1x256x2048.size inb_S1x256x2048_S1x256x2048_0_0_0).toLoadRect (arg8.view.rep x4) = x4 := View.readAt_rep_full _ _ _
  have hraw : _ = ([⟨RB, nxt false x2 x3 x4 (XN (View.ld x0 RB) x1) q⟩, ⟨RA, nxt false x2 x3 x4 (XN (View.ld x0 RA) x1) p⟩] : List (View.Piece (Elt F) S1024x2048 .f32)) := (rawB c i arg4 harg4 arg5 harg5 arg6 harg6 arg7 harg7 arg8 harg8 arg9 harg9 T0 T1 x0 x1 x2 x3 x4 (stitch p q) xa0 h1 h2 h3).trans (by rw [eq2, eq3, eq4, pay27_eq, pay27_eq, View.readAt_eq_ld _ (harg9.unread _) RA, View.readAt_eq_ld _ (harg9.unread _) RB, harg9.read_unread, ld_stitch_RA, ld_stitch_RB, hg.1, hg.2]; rfl)
  iintro ⟨HI, HO, HS, Hk⟩
  iapply ((runB c i arg4 harg4 arg5 harg5 arg6 harg6 arg7 harg7 arg8 harg8 arg9 harg9 T0 T1 x0 x1 x2 x3 x4 (stitch p q) xa0 h1 h2 h3).2 K)
  isplitl [HI]; · iexact HI
  isplitl [HO]; · iexact HO
  isplitl [HS]; · iexact HS
  iintro ⟨HI, ⟨%f, HO⟩, HS⟩
  iapply Hk
  isplitl [HI]; · iexact HI
  isplitl [HO]
  · unfold owns; iexists _; isplitr; swap
    · iexact HO
    · ipureintro
      exact (congrArg (fun L => arg9.view.read (Elt F) (arg9.view.writes (Elt F) f L)) hraw).trans (read_two _ _ _ _)
  iexists _; isplitr; swap
  · iexact HS
  · ipureintro
    exact hg

set_option maxHeartbeats 400000 in
/-- The body, the first slice. -/
theorem stepA (h1 : k0_cond1 i (wd T1 i) = 1#1) (h2 : ¬(k0_cond2 i (wd T1 i) = 1#1)) (h3 : ¬(k0_cond3 (wd T1 i) = 1#1)) (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt true x2 x3 x4 (XN (View.ld x0 RA) x1) p) (nxt true x2 x3 x4 (XN (View.ld x0 RB) x1) q))
          ∗ (∃ a, ⌜Good c (XN (View.ld x0 RA) x1) (XN (View.ld x0 RB) x1) a⌝ ∗ (sc0.view.loc (c : Thread nD τ) ↦{fullShare} a))) -∗ K ⟨⟩))
      ⊢ wp frame (wpE (defs₀ (F := F)) Variants.none c none) Set.univ (callB i arg4 harg4 arg5 harg5 arg6 harg6 arg7 harg7 arg8 harg8 arg9 harg9) K := by
  have eq2 : View.readAt (Elt F) arg6.view (Rect.unit ![0, 0, 0] S1x2048x256.size inb_S1x2048x256_S1x2048x256_0_0_0).toLoadRect (arg6.view.rep x2) = x2 := View.readAt_rep_full _ _ _
  have eq3 : View.readAt (Elt F) arg7.view (Rect.unit ![0, 0, 0] S1x2048x256.size inb_S1x2048x256_S1x2048x256_0_0_0).toLoadRect (arg7.view.rep x3) = x3 := View.readAt_rep_full _ _ _
  have eq4 : View.readAt (Elt F) arg8.view (Rect.unit ![0, 0, 0] S1x256x2048.size inb_S1x256x2048_S1x256x2048_0_0_0).toLoadRect (arg8.view.rep x4) = x4 := View.readAt_rep_full _ _ _
  have eq1 : View.readAt (Elt F) arg5.view (Rect.unit ![0, 0] S1x2048.size inb_S1x2048_S1x2048_0_0).toLoadRect (arg5.view.rep x1) = x1 := View.readAt_rep_full _ _ _
  have eq0A : View.readAt (Elt F) arg4.view RA.toLoadRect (arg4.view.rep x0) = View.ld x0 RA := by rw [View.readAt_rep]
  have eq0B : View.readAt (Elt F) arg4.view RB.toLoadRect (arg4.view.rep x0) = View.ld x0 RB := by rw [View.readAt_rep]
  have hS : _ = ([⟨RB, (XN (View.ld x0 RB) x1)⟩, ⟨RA, (XN (View.ld x0 RA) x1)⟩] : List (View.Piece (Elt F) S1024x2048 .bf16)) := (rawSA c i arg4 harg4 arg5 harg5 arg6 harg6 arg7 harg7 arg8 harg8 arg9 harg9 T0 T1 x0 x1 x2 x3 x4 y5 xa0 h1 h2 h3).trans (by rw [eq0A, eq0B, eq1])
  have hraw : _ = ([⟨RB, nxt true x2 x3 x4 (XN (View.ld x0 RB) x1) q⟩, ⟨RA, nxt true x2 x3 x4 (XN (View.ld x0 RA) x1) p⟩] : List (View.Piece (Elt F) S1024x2048 .f32)) := (rawA c i arg4 harg4 arg5 harg5 arg6 harg6 arg7 harg7 arg8 harg8 arg9 harg9 T0 T1 x0 x1 x2 x3 x4 y5 xa0 h1 h2 h3).trans (by rw [eq2, eq3, eq4, View.readCov_cons_toLoadRect, View.readCov_cons_toLoadRect, eq0A, eq0B, eq1]; rfl)
  iintro ⟨HI, HO, HS, Hk⟩
  iapply ((runA c i arg4 harg4 arg5 harg5 arg6 harg6 arg7 harg7 arg8 harg8 arg9 harg9 T0 T1 x0 x1 x2 x3 x4 y5 xa0 h1 h2 h3).2.2 K)
  isplitl [HI]; · iexact HI
  isplitl [HO]; · iexact HO
  isplitl [HS]; · iexact HS
  iintro ⟨HI, ⟨%f, HO⟩, ⟨%fs, HS⟩⟩
  iapply Hk
  isplitl [HI]; · iexact HI
  isplitl [HO]
  · unfold owns; iexists _; isplitr; swap
    · iexact HO
    · ipureintro
      exact (congrArg (fun L => arg9.view.read (Elt F) (arg9.view.writes (Elt F) f L)) hraw).trans (read_two _ _ _ _)
  iexists _; isplitr; swap
  · iexact HS
  · ipureintro
    exact (congrArg (fun L => Good c (XN (View.ld x0 RA) x1) (XN (View.ld x0 RB) x1) (sc0.view.writes (Elt F) fs L)) hS).mpr (good_two c _ _ _)

/-- The body at any point. -/
theorem body_step (j : Bool) (hj : j = decide ((i 1).val = 0)) (hv : wd T1 i = 1024#32)
    (hy : j = false → y5 = stitch p q)
    (ha : j = false → Good c (XN (View.ld x0 RA) x1) (XN (View.ld x0 RB) x1) xa0)
    (K : PUnit → sProp 𝕄) :
    iprop(ins c arg4 arg5 arg6 arg7 arg8 T0 T1 x0 x1 x2 x3 x4 ∗ owns (c : Thread nD τ) arg9 fullShare y5 ∗ (sc0.view.loc (c : Thread nD τ) ↦{fullShare} xa0)
      ∗ (iprop(ins c arg4 arg5 arg6 arg7 arg8 T0 T1 x0 x1 x2 x3 x4
          ∗ owns (c : Thread nD τ) arg9 fullShare (stitch (nxt j x2 x3 x4 (XN (View.ld x0 RA) x1) p) (nxt j x2 x3 x4 (XN (View.ld x0 RB) x1) q))
          ∗ (∃ a, ⌜Good c (XN (View.ld x0 RA) x1) (XN (View.ld x0 RB) x1) a⌝ ∗ (sc0.view.loc (c : Thread nD τ) ↦{fullShare} a))) -∗ K ⟨⟩))
      ⊢ wp frame (wpE (defs₀ (F := F)) Variants.none c none) Set.univ (callB i arg4 harg4 arg5 harg5 arg6 harg6 arg7 harg7 arg8 harg8 arg9 harg9) K := by
  have h3 : ¬(k0_cond3 (wd T1 i) = 1#1) := by rw [hv, cond3_eq]; decide
  cases j
  · obtain rfl := hy rfl
    exact stepB c i arg4 harg4 arg5 harg5 arg6 harg6 arg7 harg7 arg8 harg8 arg9 harg9 T0 T1 x0 x1 x2 x3 x4 p q xa0 (by rw [hv, cond1_eq, Words.ofBool_one, ← hj]; exact Bool.false_ne_true) (by rw [hv, cond2_eq, Words.ofBool_one, ← hj]; rfl) h3 (ha rfl) K
  · exact stepA c i arg4 harg4 arg5 harg5 arg6 harg6 arg7 harg7 arg8 harg8 arg9 harg9 T0 T1 x0 x1 x2 x3 x4 p q y5 xa0 (by rw [hv, cond1_eq, Words.ofBool_one, ← hj]) (by rw [hv, cond2_eq, Words.ofBool_one, ← hj]; exact Bool.false_ne_true) h3 K

end

end Cert.Kernel5Ideal.Dn

end
-- ==== Proof.Dn.DataI.lean ====
module

public import proofs.«01_k».proof.Proof.Dn.BodyI
public import Idealize.ShloMosaic.Lib.Pipeline.Frame
public import Idealize.ShloMosaic.Lib.Pipeline.Quiescent
public import Idealize.ShloMosaic.Lib.Claim

@[expose] public section

set_option maxRecDepth 16384
set_option Elab.async false

noncomputable section

/-! The dense channel mixer's launch: its two tables hold the constants 0 (the expert of every tile) and 1024 (the rows in
use of every tile), which the host writes before the call. What the pipeline's buffers hold point by point (`traj`), and
what the body's obligation needs of them. -/
namespace Cert.Kernel5Ideal.Dn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

/-! ## The tables -/

abbrev T0 : S16.Idx → BitVec 32 := fun _ => 0#32
abbrev T1 : S16.Idx → BitVec 32 := fun _ => 1024#32

section
variable (F)

set_option backward.proofsInPublic true in
def pf : pre0.Contents (Elt F) := fun | ⟨0, _⟩ => T0 | ⟨1, _⟩ => T1 | ⟨_ + 2, h⟩ => absurd h (by simp)

theorem ofNat16 (n : ℕ) (h : n < 16) : (BitVec.ofNat 32 n).toNat = n := by
  rw [BitVec.toNat_ofNat]; exact Nat.mod_eq_of_lt (by omega)

theorem off1_val (i : grid0.Coords) (a : Fin 1) : k0_off1 i a = (i 0).val := by
  have h : (i 0).val < 16 := (i 0).isLt
  fin_cases a
  exact ofNat16 _ h

theorem atD_eq (i : grid0.Coords) : (pf F).atD 1 (k0_off1 i) = 1024#32 := by
  have h : ∀ a, k0_off1 i a + 1 ≤ S16.size a := fun a => by fin_cases a; exact k0_off1_inb i 0
  exact dif_pos h

theorem sel_le : ∀ (b : BitVec 1) (j : Fin 22), (Scalar.select b (BitVec.ofNat 32 j.val) 21#32).toNat ≤ 21 := by decide

/-- The tables' side condition: every block they pick lies inside its array. -/
theorem ok : ok0 (F := F) (pf F) := by
  have e (i : grid0.Coords) : ((Scalar.select (Scalar.cmpi .sgt ((pf F).at 1 (Rect.unit (s := S16) (k0_off1 i) S1.size (k0_off1_inb i)) numel1_S1) 0#32) (BitVec.ofNat 32 (i 1).val) 21#32).toNat + 1) * 256 ≤ 5632 := by
    have := sel_le (Scalar.cmpi .sgt ((pf F).at 1 (Rect.unit (s := S16) (k0_off1 i) S1.size (k0_off1_inb i)) numel1_S1) 0#32) (i 1); omega
  have e1 : (0 + 1) * 1 ≤ 1 := by omega
  have e2 : (0 + 1) * 2048 ≤ 2048 := by omega
  refine ⟨fun i => ⟨?_, .inl rfl⟩, fun i => ⟨?_, .inl rfl⟩, fun i => ⟨?_, .inl rfl⟩⟩
  · intro a
    fin_cases a
    · exact e1
    · exact e2
    · exact e i
  · intro a
    fin_cases a
    · exact e1
    · exact e2
    · exact e i
  · intro a
    fin_cases a
    · exact e1
    · exact e i
    · exact e2

/-- The pipeline at the tables. -/
def adm : (pcfg0 (F := F)).Adm := ⟨pf F, ok F⟩
abbrev cfgA : Pipeline.Cfg sig Λ₀ := cfg0 (F := F) (adm F)
abbrev pcs : Fin 1 → Pipeline.Cfg sig Λ₀ := Pipeline.pin (pcfgs (F := F)) fun _ => adm F

abbrev crd (t : Fin (cfgA F).N) : (cfgA F).grid.Coords := (cfgA F).grid.coords t

theorem lt_N (t : Fin (cfgA F).N) : t.val < 352 := lt_of_lt_of_eq t.isLt N_0
theorem crd1 (t : Fin (cfgA F).N) : (crd F t 1).val = t.val % 22 := by
  show t.val / grid0.stride 1 % 22 = _
  rw [show grid0.stride 1 = 1 from by decide, Nat.div_one]
theorem crd0 (t : Fin (cfgA F).N) : (crd F t 0).val = t.val / 22 := by
  have h := lt_N F t
  show t.val / grid0.stride 0 % 16 = _
  rw [show grid0.stride 0 = 22 from by decide]
  exact Nat.mod_eq_of_lt (by omega)

abbrev ms0_0 (t : Fin (cfgA F).N) : Memref sig .tc .vmem S1024x2048 .f32 := spec0_0.stage ((cfgA F).slots t (0 : Fin 6))
abbrev hs0_0 (t : Fin (cfgA F).N) : (ms0_0 F t).IsWhole := hstage0_0 (((cfgA F).slots t (0 : Fin 6)).cast nbuf0_0)
abbrev ms0_1 (t : Fin (cfgA F).N) : Memref sig .tc .vmem S1x2048 .f32 := spec0_1.stage ((cfgA F).slots t (1 : Fin 6))
abbrev hs0_1 (t : Fin (cfgA F).N) : (ms0_1 F t).IsWhole := hstage0_1 (((cfgA F).slots t (1 : Fin 6)).cast nbuf0_1)
abbrev ms0_2 (t : Fin (cfgA F).N) : Memref sig .tc .vmem S1x2048x256 .f32 := spec0_2.stage ((cfgA F).slots t (2 : Fin 6))
abbrev hs0_2 (t : Fin (cfgA F).N) : (ms0_2 F t).IsWhole := hstage0_2 (((cfgA F).slots t (2 : Fin 6)).cast nbuf0_2)
abbrev ms0_3 (t : Fin (cfgA F).N) : Memref sig .tc .vmem S1x2048x256 .f32 := spec0_3.stage ((cfgA F).slots t (3 : Fin 6))
abbrev hs0_3 (t : Fin (cfgA F).N) : (ms0_3 F t).IsWhole := hstage0_3 (((cfgA F).slots t (3 : Fin 6)).cast nbuf0_3)
abbrev ms0_4 (t : Fin (cfgA F).N) : Memref sig .tc .vmem S1x256x2048 .f32 := spec0_4.stage ((cfgA F).slots t (4 : Fin 6))
abbrev hs0_4 (t : Fin (cfgA F).N) : (ms0_4 F t).IsWhole := hstage0_4 (((cfgA F).slots t (4 : Fin 6)).cast nbuf0_4)
abbrev ms0_5 (t : Fin (cfgA F).N) : Memref sig .tc .vmem S1024x2048 .f32 := spec0_5.stage ((cfgA F).slots t (5 : Fin 6))
abbrev hs0_5 (t : Fin (cfgA F).N) : (ms0_5 F t).IsWhole := hstage0_5 (((cfgA F).slots t (5 : Fin 6)).cast nbuf0_5)

end

/-! ## The arrays -/

variable (m : (ℓ : Loc nD τ sig) → Buf (Elt F) ℓ)

/-- Core `c`'s buffers when the call is entered: after the host operations that write the tables. -/
abbrev V (c : Dev nD) (b : Ref sig .tc) : Buf (Elt F) ((c : Thread nD τ).loc b) := StableHlo.after hostOps0 (fun b => m (c, b)) b

/-- Window `w`'s block at point `t`, read off its array as the call finds it. -/
def iblk (c : Dev nD) (w : Fin (cfgA F).W) (t : Fin (cfgA F).N) : (((cfgA F).win w).xblock (crd F t)).Idx → Elt F ((cfgA F).win w).elt :=
  (((cfgA F).win w).blk t).view.read (Elt F) (V m c (Pipeline.arrRef spec0 w))

/-- The tile's halves' normalised rows. -/
abbrev xnA (c : Dev nD) (t : Fin (cfgA F).N) : S512x2048.Idx → Elt F .bf16 := XN (View.ld (iblk m c (0 : Fin 6) t : S1024x2048.Idx → Elt F .f32) RA) (iblk m c (1 : Fin 6) t)
abbrev xnB (c : Dev nD) (t : Fin (cfgA F).N) : S512x2048.Idx → Elt F .bf16 := XN (View.ld (iblk m c (0 : Fin 6) t : S1024x2048.Idx → Elt F .f32) RB) (iblk m c (1 : Fin 6) t)
abbrev goodAt (c : Dev nD) (t : Fin (cfgA F).N) (a : Buf (Elt F) ((c : Thread nD τ).loc cc0_scratch0)) : Prop :=
  Good c (xnA m c t) (xnB m c t) a

variable (F) in
abbrev Half : Type := S512x2048.Idx → Elt F .f32

/-- One point: what the two halves hold after it, from what they held. -/
def step0 (c : Dev nD) (t : Fin (cfgA F).N) (prev : Half F × Half F) : Half F × Half F :=
  (nxt (decide (t.val % 22 = 0)) (iblk m c (2 : Fin 6) t) (iblk m c (3 : Fin 6) t) (iblk m c (4 : Fin 6) t) (xnA m c t) prev.1,
   nxt (decide (t.val % 22 = 0)) (iblk m c (2 : Fin 6) t) (iblk m c (3 : Fin 6) t) (iblk m c (4 : Fin 6) t) (xnB m c t) prev.2)

def traj (c : Dev nD) : (n : ℕ) → n < (cfgA F).N → Half F × Half F
  | 0, h => step0 m c ⟨0, h⟩ (k0_pay4, k0_pay4)
  | n + 1, h => step0 m c ⟨n + 1, h⟩ (traj c n (Nat.lt_of_succ_lt h))

def prev0 (c : Dev nD) (t : Fin (cfgA F).N) : Half F × Half F :=
  if h : t.val = 0 then (k0_pay4, k0_pay4) else traj m c (t.val - 1) (by omega)

theorem traj_eq (c : Dev nD) (t : Fin (cfgA F).N) : traj m c t.val t.isLt = step0 m c t (prev0 m c t) := by
  obtain ⟨n, hn⟩ := t
  cases n with
  | zero => rfl
  | succ n => unfold prev0; simp only [Nat.add_one_ne_zero, dif_neg, not_false_eq_true]; rfl

attribute [local irreducible] stitch traj step0

/-- Past a tile's first point, the rows' buffer is good for the tile. -/
def PhiGood (c : Dev nD) (n : ℕ) (a : Buf (Elt F) ((c : Thread nD τ).loc cc0_scratch0)) : Prop :=
  ∀ h : n - 1 < (cfgA F).N, n % 22 ≠ 0 → goodAt m c ⟨n - 1, h⟩ a

/-- Between points: past a tile's first point the rows' buffer holds the normalised rows. -/
def Phi (c : Dev nD) (t : Fin ((cfgA F).N + 1)) : sProp 𝕄 :=
  iprop((∃ a, ⌜PhiGood m c t.val a⌝ ∗ (sc0.view.loc (c : Thread nD τ) ↦{fullShare} a))
    ∗ (tb0.view.loc (c : Thread nD τ) ↦{fullShare.right} T0) ∗ (tb1.view.loc (c : Thread nD τ) ↦{fullShare.right} T1))

/-- The proof data of the one pipeline on core `c`. -/
def dats (_ : Fin 1) (c : Dev nD) : Dat τ (Elt F) Unit ℕ (UR sig nD τ) ℕ (cfgA F) c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => stitch (traj m c t.val t.isLt).1 (traj m c t.val t.isLt).2
  Φ t := Phi m c t
  q _ := fullShare
  owed _ := 0

theorem after0_0 (c : Dev nD) (t : Fin (cfgA F).N) : (dats m 0 c).after (0 : Fin 6) t = iblk m c (0 : Fin 6) t := rfl
theorem after0_1 (c : Dev nD) (t : Fin (cfgA F).N) : (dats m 0 c).after (1 : Fin 6) t = iblk m c (1 : Fin 6) t := rfl
theorem after0_2 (c : Dev nD) (t : Fin (cfgA F).N) : (dats m 0 c).after (2 : Fin 6) t = iblk m c (2 : Fin 6) t := rfl
theorem after0_3 (c : Dev nD) (t : Fin (cfgA F).N) : (dats m 0 c).after (3 : Fin 6) t = iblk m c (3 : Fin 6) t := rfl
theorem after0_4 (c : Dev nD) (t : Fin (cfgA F).N) : (dats m 0 c).after (4 : Fin 6) t = iblk m c (4 : Fin 6) t := rfl
theorem after0_5 (c : Dev nD) (t : Fin (cfgA F).N) : (dats m 0 c).after (5 : Fin 6) t = stitch (traj m c t.val t.isLt).1 (traj m c t.val t.isLt).2 := rfl

theorem before0_0 (c : Dev nD) (t : Fin (cfgA F).N) (d) : (dats m 0 c).before (0 : Fin 6) t d = iblk m c (0 : Fin 6) t :=
  ((dats m 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA F).N) (d) : (dats m 0 c).before (1 : Fin 6) t d = iblk m c (1 : Fin 6) t :=
  ((dats m 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA F).N) (d) : (dats m 0 c).before (2 : Fin 6) t d = iblk m c (2 : Fin 6) t :=
  ((dats m 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA F).N) (d) : (dats m 0 c).before (3 : Fin 6) t d = iblk m c (3 : Fin 6) t :=
  ((dats m 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA F).N) (d) : (dats m 0 c).before (4 : Fin 6) t d = iblk m c (4 : Fin 6) t :=
  ((dats m 0 c).before_in_eq_fetched (4 : Fin 6) rfl (fun _ => rfl) (fun _ _ _ => rfl) (fun t => by rw [after0_4]; unfold Dat.blockOf iblk; rfl) t d).trans
    (by unfold Dat.fetched Dat.blockOf iblk; rfl)

/-! ## The schedule: the output's block is written back at a tile's last point -/

theorem index5 (t : Fin (cfgA F).N) : ((cfgA F).win (5 : Fin 6)).index t = ![t.val / 22, 0] := by
  have h := lt_N F t
  show cc0_transform_5 (crd F t) = _
  unfold cc0_transform_5
  dsimp only
  rw [crd0, ofNat16 _ (by omega)]
  rfl

theorem index0 (t : Fin (cfgA F).N) : ((cfgA F).win (0 : Fin 6)).index t = ![t.val / 22, 0] := by
  have h := lt_N F t
  show cc0_transform_0 (crd F t) = _
  unfold cc0_transform_0
  dsimp only
  rw [crd0, ofNat16 _ (by omega)]
  rfl

theorem flush5 (t : Fin (cfgA F).N) : ((cfgA F).win (5 : Fin 6)).flush t = decide (t.val % 22 = 21) := by
  have h := lt_N F t
  unfold Window.flush
  rw [show ((cfgA F).win (5 : Fin 6)).isOut = true from rfl, Bool.true_and, Bool.eq_iff_iff, Bool.or_eq_true, decide_eq_true_eq, decide_eq_true_eq, decide_eq_true_eq]
  constructor
  · rintro (h1 | ⟨h1, h2⟩)
    · have : t.val + 1 = 352 := h1.trans N_0
      omega
    · by_contra h3
      apply h2
      rw [index5, index5]
      have : (t.val + 1) / 22 = t.val / 22 := by omega
      show ![(t.val + 1) / 22, 0] = _
      rw [this]
  · intro h1
    by_cases h2 : t.val + 1 = 352
    · exact .inl (h2.trans N_0.symm)
    · refine .inr ⟨lt_of_lt_of_eq (by omega : t.val + 1 < 352) N_0.symm, ?_⟩
      rw [index5, index5]
      intro h3
      have h4 : (t.val + 1) / 22 = t.val / 22 := congrFun h3 0
      omega

theorem idle5 (t : Fin (cfgA F).N) : (cfgA F).idle (5 : Fin 6) ((cfgA F).grid.coords t) = false := by
  have h := idle_eq (crd F t)
  rw [← atD_eq F (crd F t)] at h
  exact h

theorem fresh5 (t : Fin (cfgA F).N) : (cfgA F).fresh (5 : Fin 6) t.val = decide (t.val % 22 = 0) :=
  Pipeline.Cfg.fresh_tab (cfgA F) (5 : Fin 6) (fun n => decide (n % 22 = 0)) rfl (fun t => by
    rw [flush5, idle5, Bool.false_and, Bool.or_false]
    exact decide_eq_decide.2 (by omega)) t.val (Nat.le_of_lt t.isLt)

theorem hcarry5 (c : Dev nD) : ∀ (t : Fin (cfgA F).N) (ht : t.val ≠ 0), (cfgA F).idle (5 : Fin 6) ((cfgA F).grid.coords t) = true → (cfgA F).fresh (5 : Fin 6) t.val = false →
    (dats m 0 c).after (5 : Fin 6) t = (dats m 0 c).after (5 : Fin 6) ⟨t.val - 1, by omega⟩ := by
  intro t ht hi hf
  rw [idle5] at hi
  exact absurd hi Bool.false_ne_true

theorem before0_5 (c : Dev nD) (t : Fin (cfgA F).N) (d) :
    (dats m 0 c).before (5 : Fin 6) t d = if decide (t.val % 22 = 0) = true then d else stitch (prev0 m c t).1 (prev0 m c t).2 := by
  rw [(dats m 0 c).before_out_traj (5 : Fin 6) rfl (fun _ _ => rfl) (hcarry5 m c) t.val t rfl d, fresh5]
  by_cases h : t.val % 22 = 0
  · rw [decide_eq_true h, if_pos rfl, if_pos rfl]
  · have h0 : t.val ≠ 0 := fun h0 => h (by rw [h0])
    rw [decide_eq_false h, if_neg Bool.false_ne_true, if_neg Bool.false_ne_true, after0_5]; unfold prev0; rw [dif_neg h0]

/-! ## A tile's points read the same rows -/

theorem iblk0_fetched (c : Dev nD) (t : Fin (cfgA F).N) : (dats m 0 c).fetched (0 : Fin 6) t (fun _ => default) = iblk m c (0 : Fin 6) t := by
  unfold Dat.fetched Dat.blockOf iblk; rfl
theorem iblk1_fetched (c : Dev nD) (t : Fin (cfgA F).N) : (dats m 0 c).fetched (1 : Fin 6) t (fun _ => default) = iblk m c (1 : Fin 6) t := by
  unfold Dat.fetched Dat.blockOf iblk; rfl
theorem iblk0_congr (c : Dev nD) (t t' : Fin (cfgA F).N) (h : t.val / 22 = t'.val / 22) : (iblk m c (0 : Fin 6) t : S1024x2048.Idx → Elt F .f32) = iblk m c (0 : Fin 6) t' := by
  have hx : ((cfgA F).win (0 : Fin 6)).index t = ((cfgA F).win (0 : Fin 6)).index t' := by rw [index0 t, index0 t', h]
  exact (iblk0_fetched m c t).symm.trans (((dats m 0 c).fetched_congr (0 : Fin 6) hx rfl _).trans (iblk0_fetched m c t'))
theorem iblk1_congr (c : Dev nD) (t t' : Fin (cfgA F).N) : (iblk m c (1 : Fin 6) t : S1x2048.Idx → Elt F .f32) = iblk m c (1 : Fin 6) t' :=
  (iblk1_fetched m c t).symm.trans (((dats m 0 c).fetched_congr (1 : Fin 6) rfl rfl _).trans (iblk1_fetched m c t'))
theorem goodAt_congr (c : Dev nD) (t t' : Fin (cfgA F).N) (h : t.val / 22 = t'.val / 22) (a) : goodAt m c t a → goodAt m c t' a := by
  unfold goodAt xnA xnB
  rw [iblk0_congr m c t t' h, iblk1_congr m c t t']
  exact id

theorem pred_div (n : ℕ) (h : ¬ n % 22 = 0) : (n - 1) / 22 = n / 22 := by omega
theorem goodAt_prev (c : Dev nD) (t : Fin (cfgA F).N) (h : ¬ t.val % 22 = 0) (a) :
    goodAt m c ⟨t.val - 1, lt_of_le_of_lt (Nat.sub_le _ _) t.isLt⟩ a → goodAt m c t a :=
  goodAt_congr m c _ t (pred_div t.val h) a

theorem jcond (t : Fin (cfgA F).N) : decide (t.val % 22 = 0) = decide ((crd F t 1).val = 0) := by rw [crd1]
theorem before5_of (c : Dev nD) (t : Fin (cfgA F).N) (d) (h : decide (t.val % 22 = 0) = false) :
    (dats m 0 c).before (5 : Fin 6) t d = stitch (prev0 m c t).1 (prev0 m c t).2 :=
  (before0_5 m c t d).trans (if_neg (by rw [h]; exact Bool.false_ne_true))
theorem good_of' (c : Dev nD) (t : Fin (cfgA F).N) (a) (n : ℕ) (hn : n = t.val) (ha : PhiGood m c n a)
    (h : decide (t.val % 22 = 0) = false) : goodAt m c t a := by
  subst hn
  exact goodAt_prev m c t (of_decide_eq_false h) a (ha (lt_of_le_of_lt (Nat.sub_le _ _) t.isLt) (of_decide_eq_false h))
theorem good_of (c : Dev nD) (t : Fin (cfgA F).N) (a) (ha : PhiGood m c t.castSucc.val a)
    (h : decide (t.val % 22 = 0) = false) : goodAt m c t a := good_of' m c t a _ (Fin.val_castSucc t) ha h
theorem phiGood_succ' (c : Dev nD) (t : Fin (cfgA F).N) (a) (n : ℕ) (hn : n = t.val + 1) (hg : goodAt m c t a) : PhiGood m c n a := by
  subst hn
  unfold PhiGood
  intro h1 _
  have e : (⟨t.val + 1 - 1, h1⟩ : Fin (cfgA F).N) = t := Fin.ext (Nat.add_sub_cancel _ _)
  rw [e]
  exact hg
theorem phiGood_succ (c : Dev nD) (t : Fin (cfgA F).N) (a) (hg : goodAt m c t a) : PhiGood m c t.succ.val a :=
  phiGood_succ' m c t a _ (Fin.val_succ t) hg
theorem phiGood_zero (c : Dev nD) (a) : PhiGood m c 0 a := fun _ h => absurd rfl h

/-! ## The body's obligation -/

abbrev bodyAt0 (t : Fin (cfgA F).N) : Prog (TpuEff nD τ sig (Elt F) Λ₀ .tc) PUnit :=
  cc0_swiglu (crd F t) (Memref.whole main_v0) (Memref.isWhole_whole _) (Memref.whole main_v1) (Memref.isWhole_whole _) (ms0_0 F t) (hs0_0 F t) (ms0_1 F t) (hs0_1 F t) (ms0_2 F t) (hs0_2 F t) (ms0_3 F t) (hs0_3 F t) (ms0_4 F t) (hs0_4 F t) (ms0_5 F t) (hs0_5 F t) (Memref.whole cc0_scratch0) (Memref.isWhole_whole _)

/-- The output's buffer at what the point leaves, as the obligation asks for it. -/
theorem post5 (c : Dev nD) (t : Fin (cfgA F).N) :
    owns (c : Thread nD τ) (ms0_5 F t) fullShare ((dats m 0 c).after (5 : Fin 6) t) ⊢
      (match (cfgA F).idle (5 : Fin 6) ((cfgA F).grid.coords t) with
        | true =>
          match ((cfgA F).win (5 : Fin 6)).flush t with
          | false => iprop(∃ d, owns (c : Thread nD τ) (((cfgA F).win (5 : Fin 6)).stage ((cfgA F).slots t (5 : Fin 6))) fullShare ((dats m 0 c).before (5 : Fin 6) t d))
          | true => owns (c : Thread nD τ) (((cfgA F).win (5 : Fin 6)).stage ((cfgA F).slots t (5 : Fin 6))) fullShare ((dats m 0 c).after (5 : Fin 6) t)
        | false => owns (c : Thread nD τ) (((cfgA F).win (5 : Fin 6)).stage ((cfgA F).slots t (5 : Fin 6))) fullShare ((dats m 0 c).after (5 : Fin 6) t) : sProp 𝕄) := by
  rw [idle5 t]

/-- One point's step at the buffers' contents `x0 … x4`, `y5`, `a0`. -/
theorem body_at (c : Dev nD) (t : Fin (cfgA F).N) (x0 : S1024x2048.Idx → Elt F .f32) (x1 : S1x2048.Idx → Elt F .f32)
    (x2 x3 : S1x2048x256.Idx → Elt F .f32) (x4 : S1x256x2048.Idx → Elt F .f32) (p q : Half F) (y5 : S1024x2048.Idx → Elt F .f32)
    (a0 : Buf (Elt F) ((c : Thread nD τ).loc cc0_scratch0))
    (hy : decide (t.val % 22 = 0) = false → y5 = stitch p q)
    (ha : decide (t.val % 22 = 0) = false → Good c (XN (View.ld x0 RA) x1) (XN (View.ld x0 RB) x1) a0)
    (K : PUnit → sProp 𝕄) :
    iprop(ins c (ms0_0 F t) (ms0_1 F t) (ms0_2 F t) (ms0_3 F t) (ms0_4 F t) (T0) (T1) x0 x1 x2 x3 x4
        ∗ owns (c : Thread nD τ) (ms0_5 F t) fullShare y5 ∗ (sc0.view.loc (c : Thread nD τ) ↦{fullShare} a0)
      ∗ (iprop(ins c (ms0_0 F t) (ms0_1 F t) (ms0_2 F t) (ms0_3 F t) (ms0_4 F t) (T0) (T1) x0 x1 x2 x3 x4
            ∗ owns (c : Thread nD τ) (ms0_5 F t) fullShare
                (stitch (nxt (decide (t.val % 22 = 0)) x2 x3 x4 (XN (View.ld x0 RA) x1) p)
                  (nxt (decide (t.val % 22 = 0)) x2 x3 x4 (XN (View.ld x0 RB) x1) q))
            ∗ (∃ a, ⌜Good c (XN (View.ld x0 RA) x1) (XN (View.ld x0 RB) x1) a⌝
              ∗ (sc0.view.loc (c : Thread nD τ) ↦{fullShare} a))) -∗ K ⟨⟩))
      ⊢ wp frame (wpE (defs₀ (F := F)) Variants.none c none) Set.univ (bodyAt0 t) K :=
  body_step c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (T0) (T1)
    x0 x1 x2 x3 x4 p q y5 a0 (decide (t.val % 22 = 0)) (jcond t) rfl hy ha K

end Cert.Kernel5Ideal.Dn

end
-- ==== Proof.Dn.FrameI.lean ====
module

public import proofs.«01_k».proof.Proof.Dn.DataI

@[expose] public section

set_option maxRecDepth 16384
set_option Elab.async false

noncomputable section

/-! The body's obligation at every point of the grid, the launch, and the frame claim. -/
namespace Cert.Kernel5Ideal.Dn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] stitch traj step0

set_option maxHeartbeats 800000 in
theorem sound_body (c : Dev nD) (t : Fin (cfgA F).N) :
    iprop((dats m 0 c).Φ t.castSucc ∗ (dats m 0 c).owesAt () t.castSucc
        ∗ (∃ d, owns (c : Thread nD τ) (ms0_0 F t) fullShare ((dats m 0 c).before (0 : Fin 6) t d))
        ∗ (∃ d, owns (c : Thread nD τ) (ms0_1 F t) fullShare ((dats m 0 c).before (1 : Fin 6) t d))
        ∗ (∃ d, owns (c : Thread nD τ) (ms0_2 F t) fullShare ((dats m 0 c).before (2 : Fin 6) t d))
        ∗ (∃ d, owns (c : Thread nD τ) (ms0_3 F t) fullShare ((dats m 0 c).before (3 : Fin 6) t d))
        ∗ (∃ d, owns (c : Thread nD τ) (ms0_4 F t) fullShare ((dats m 0 c).before (4 : Fin 6) t d))
        ∗ (∃ d, owns (c : Thread nD τ) (ms0_5 F t) fullShare ((dats m 0 c).before (5 : Fin 6) t d)))
      ⊢ wp frame (wpE (defs₀ (F := F)) Variants.none c none) Set.univ (bodyAt0 t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  simp only [before0_0, before0_1, before0_2, before0_3, before0_4]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  iintro ⟨⟨⟨%a0, %ha0, HS0⟩, HT0, HT1⟩, Ho, ⟨%d0, H0⟩, ⟨%d1, H1⟩, ⟨%d2, H2⟩, ⟨%d3, H3⟩, ⟨%d4, H4⟩, ⟨%d5, H5⟩⟩
  iapply (body_at c t (iblk m c (0 : Fin 6) t) (iblk m c (1 : Fin 6) t) (iblk m c (2 : Fin 6) t) (iblk m c (3 : Fin 6) t) (iblk m c (4 : Fin 6) t)
    (prev0 m c t).1 (prev0 m c t).2 ((dats m 0 c).before (5 : Fin 6) t d5) a0 (before5_of m c t d5) (good_of m c t a0 ha0) _)
  isplitl [H0 H1 H2 H3 H4 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    iexact HT1
  isplitl [H5]; · iexact H5
  isplitl [HS0]; · iexact HS0
  iintro ⟨⟨H0, H1, H2, H3, H4, HT0, HT1⟩, H5, ⟨%a, %hg, HS0⟩⟩
  isplitl [HS0 HT0 HT1]
  · isplitl [HS0]
    · iexists a; isplitr; swap
      · iexact HS0
      · ipureintro; exact phiGood_succ m c t a hg
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply (post5 m c t)
  rw [after0_5, traj_eq]
  unfold step0
  iexact H5

/-- The library's body obligation, at every point. -/
theorem body_obligation (c : Dev nD) : BodyObligation (dats m 0 c) (defs₀ (F := F)) Variants.none () Set.univ := fun t => by
  rw [bigSep_W0]
  exact sound_body m c t

/-! ## The launch -/

/-- The rounds library's launch element. -/
def u₀ : UR sig nD τ :=
  initOf (Pipeline.cells (pcs F) ((launch0 (F := F)).cellOf_inj fun _ => adm F))
    (Pipeline.launchToks (pcs F) ((launch0 (F := F)).cellOf_inj fun _ => adm F))

theorem share_eq (c : Dev nD) (w : Fin (cfgA F).W) : (dats m 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v0) ↦{q 0} v 0) ∗ (((c : Thread nD τ).loc main_v1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm F).1 ∗ Pipeline.scopedRest spec0 c) ⊢ (dats m 0 c).Φ 0 := by
  rw [prefHeld_eq, scopedRest0_eq, show (dats m 0 c).Φ 0 = Phi m c 0 from rfl]
  unfold Phi
  iintro ⟨-, ⟨HT0, HT1⟩, ⟨%a0, HS0⟩⟩
  isplitl [HS0]
  · iexists a0; isplitr; swap
    · iexact HS0
    · ipureintro; exact phiGood_zero m c _
  isplitl [HT0]
  · iexact HT0
  iexact HT1

/-- at the last point it gives the scratch buffers back (`hout`), the tables let go. -/
theorem phiN_exit (c : Dev nD) : (dats m 0 c).Φ (Fin.last (cfgA F).N) ⊢ iprop(BI.emp ∗ Pipeline.scopedRest spec0 c) := by
  rw [scopedRest0_eq, show (dats m 0 c).Φ (Fin.last (cfgA F).N) = Phi m c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt F) → Prop := fun r =>
  ∀ c : Dev nD, (∀ w : Fin (cfgA F).W, r.2.mem (((cfgA F).win w).arr.view.loc (c : Thread nD τ)) = (dats m 0 c).arrAt w (cfgA F).N)
    ∧ ∀ j, r.2.mem ((c : Thread nD τ).loc (pre0.ref j)) = (adm F).1 j

/-- The tables as the call finds them: the host has written their constants. -/
theorem V_pre (c : Dev nD) (j : Fin 2) : V m c (pre0.ref j) = (adm F).1 j := by
  fin_cases j
  · show StableHlo.after hostOps0 (fun b => m (c, b)) main_v0 = _
    after_results
    rfl
  · show StableHlo.after hostOps0 (fun b => m (c, b)) main_v1 = _
    after_results
    rfl

theorem hostOps0_fresh : (hostOps0 : List (HloOp τ sig (Elt F))).Forall fun op => op.fresh = ∅ := by
  simp only [List.Forall]; repeat' constructor

/-- A buffer that no host operation writes is as launched. -/
theorem V_of (c : Dev nD) (b : Ref sig .tc) (h0 : b ≠ main_c) (h1 : b ≠ main_v0) (h2 : b ≠ main_c_0) (h3 : b ≠ main_v1) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, Finset.mem_singleton]
    exact ⟨StableHlo.devRef_ne_of_ne h0, StableHlo.devRef_ne_of_ne h1, StableHlo.devRef_ne_of_ne h2, StableHlo.devRef_ne_of_ne h3⟩))

set_option backward.isDefEq.respectTransparency.types false in
set_option maxHeartbeats 1600000 in
/-- At the compiled mesh, from any memory with zero counters: every weakly
    fair execution of @main on the TensorCores terminates, and every final state has each array at the computed contents,
    and every semaphore counter of the machine at zero. -/
theorem run_main_quiescent : θ_run (defs (F := F)) (onTc (τ := τ) (main (F := F))) (s₀ m ρ) (fun r => QC m r ∧ r.2.sem = fun _ => 0) :=
  Pipeline.θ_run_region_noSem_pf_quiescent pcfgs (fun _ => adm F) (dats m) () ((launch0 (F := F)).cellOf_inj fun _ => adm F) (0 : Fin 1)
    (launch0 (F := F)).win.to₀ (launch0 (F := F)).pre EP defs₀ Variants.none m ρ main
    (hbody := fun c => (body_obligation m c).loose) (hne := (launch0 (F := F)).block_pos)
    (harr := (launch0 (F := F)).arr_whole) (hstage := (launch0 (F := F)).stage_whole) (howed := fun _ _ => rfl)
    (u₀ := u₀ (F := F)) (hu₀ := .rfl)
    (V := V m)
    (hmain := Pipeline.hmainP_prefix pcfgs 0 defs₀ Variants.none m main hostOps0 hostOps0_sub hostOps0_fresh main_chain)
    (hsplit := fun c => Pipeline.arrays_split (pcs F) (dats m) 0 (launch0 (F := F)).win.arr_inj c (launch0 (F := F)).arr_whole
      (share_eq m c) _ _ fun _ => rfl)
    (hpf := V_pre m)
    (X := fun _ => iprop(emp)) (Y := fun _ => iprop(emp)) (Z := fun _ => iprop(emp))
    (hX := fun c => by rw [unscopedRestP0_eq]; iintro -; isplitr <;> iempintro)
    (hin := phi0_intro m)
    (hout := phiN_exit m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := F)) (onTc (τ := τ) (main (F := F))) (s₀ m ρ) (QC m) :=
  (θ_run defs _ _).mono (fun _ h => h.1) (run_main_quiescent m ρ)

/-- `frame` without the counters: the argument arrays end unchanged. -/
theorem unchanged :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 (0 : Fin 6)).trans (((dats m 0 c).arrAt_in (0 : Fin 6) rfl _).trans (V_of m c main_arg0 (by decide) (by decide) (by decide) (by decide))), ((h c).1 (1 : Fin 6)).trans (((dats m 0 c).arrAt_in (1 : Fin 6) rfl _).trans (V_of m c main_arg1 (by decide) (by decide) (by decide) (by decide))), ((h c).1 (2 : Fin 6)).trans (((dats m 0 c).arrAt_in (2 : Fin 6) rfl _).trans (V_of m c main_arg2 (by decide) (by decide) (by decide) (by decide))), ((h c).1 (3 : Fin 6)).trans (((dats m 0 c).arrAt_in (3 : Fin 6) rfl _).trans (V_of m c main_arg3 (by decide) (by decide) (by decide) (by decide))), ((h c).1 (4 : Fin 6)).trans (((dats m 0 c).arrAt_in (4 : Fin 6) rfl _).trans (V_of m c main_arg4 (by decide) (by decide) (by decide) (by decide)))⟩) (run_main m ρ)

/-- The frame: every weakly fair execution ends, nothing faults, the arguments end unchanged, every counter at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel5Ideal.Dn

end
-- ==== Proof.Dn.KerVal.lean ====
module

public import proofs.«01_k».proof.Proof.Dn.FrameI
public import proofs.«01_k».proof.Proof.Sw.KerVal

@[expose] public section

set_option maxRecDepth 16384

noncomputable section

/-! What the dense channel mixer leaves in the result: each point reads a slice of the hidden columns, a tile's 22 slices add up
to the whole product, and the tile's last point writes the block back. -/
namespace Cert.Kernel5Ideal.Dn

open Cert.Kernel5Ideal Cert.Kernel5Ideal.Gen
open Idealize.ShloMosaic
open Idealize.ShloMosaic.TcCoe Idealize.SL.Sem
open Idealize.ShloMosaic.Pipeline (Dat Cfg Window)
open Cert.Spec

theorem XN_eq (x : S512x2048.Idx → EReal) (g : S1x2048.Idx → EReal) : XN (F := Ideal) x g = Cert.Kernel2Ideal.Sw.XN x g := rfl
theorem EX_eq (w1 w3 : S1x2048x256.Idx → EReal) (w2 : S1x256x2048.Idx → EReal) (xn : S512x2048.Idx → EReal) :
    EX (F := Ideal) w1 w3 w2 xn = Cert.Kernel2Ideal.Sw.EX w1 w3 w2 xn := rfl

theorem nxt_at (first : Bool) (w1 w3 : S1x2048x256.Idx → EReal) (w2 : S1x256x2048.Idx → EReal) (xn old : S512x2048.Idx → EReal) (r : Fin 512) (d : Fin 2048) :
    (nxt (F := Ideal) first w1 w3 w2 xn old : S512x2048.Idx → EReal) (ix2 r d) =
      (if first then 0 else old (ix2 r d)) + (EX (F := Ideal) w1 w3 w2 xn : S512x2048.Idx → EReal) (ix2 r d) := by
  unfold nxt
  cases first
  · rfl
  · exact (zero_add _).symm

variable (m : (ℓ : Loc nD τ sig) → Buf (Elt Ideal) ℓ) (ρ : Dev nD → PrngReg) (c : Dev nD)

abbrev aX : A2 16384 2048 := m ((c : Thread nD τ).loc main_arg0)
abbrev aG : A2 1 2048 := m ((c : Thread nD τ).loc main_arg1)
abbrev aWG : A3 1 2048 5632 := m ((c : Thread nD τ).loc main_arg2)
abbrev aWU : A3 1 2048 5632 := m ((c : Thread nD τ).loc main_arg3)
abbrev aWD : A3 1 5632 2048 := m ((c : Thread nD τ).loc main_arg4)

/-! ## The blocks at a point -/

theorem x_at (t : Fin (cfgA Ideal).N) (r : Fin 1024) (k : Fin 2048) (R : Fin 16384) (hR : R.val = 1024 * (t.val / 22) + r.val) :
    (iblk m c (0 : Fin 6) t : S1024x2048.Idx → EReal) (ix2 r k) = aX m c (ix2 R k) := by
  have h0 : ((cfgA Ideal).win (0 : Fin 6)).index t 0 = t.val / 22 := congrFun (index0 t) 0
  have h1 : ((cfgA Ideal).win (0 : Fin 6)).index t 1 = 0 := congrFun (index0 t) 1
  unfold iblk
  rw [View.read_apply]
  refine (congrFun (V_of m c main_arg0 (by decide) (by decide) (by decide) (by decide)) _).trans (congrArg (m ((c : Thread nD τ).loc main_arg0)) ?_)
  funext a
  apply Fin.ext
  refine (Window.rect_emb_val ((cfgA Ideal).win (0 : Fin 6)) t (ix2 r k) a).trans ?_
  fin_cases a
  · show ((cfgA Ideal).win (0 : Fin 6)).index t 0 * 1024 + r.val = R.val
    rw [h0]; omega
  · show ((cfgA Ideal).win (0 : Fin 6)).index t 1 * 2048 + k.val = k.val
    rw [h1]; omega

theorem g_at (t : Fin (cfgA Ideal).N) (k : Fin 2048) :
    (iblk m c (1 : Fin 6) t : S1x2048.Idx → EReal) (ix2 0 k) = aG m c (ix2 0 k) := by
  unfold iblk
  rw [View.read_apply]
  refine (congrFun (V_of m c main_arg1 (by decide) (by decide) (by decide) (by decide)) _).trans (congrArg (m ((c : Thread nD τ).loc main_arg1)) ?_)
  funext a
  apply Fin.ext
  refine (Window.rect_emb_val ((cfgA Ideal).win (1 : Fin 6)) t (ix2 0 k) a).trans ?_
  fin_cases a
  · rfl
  · show 0 * 2048 + k.val = k.val
    omega

/-- The slice fetched is the point's own. -/
theorem slice_at (t : Fin (cfgA Ideal).N) :
    (Scalar.select (Scalar.cmpi .sgt 1024#32 0#32) (BitVec.ofNat 32 (crd Ideal t 1).val) 21#32).toNat = t.val % 22 := by
  show (BitVec.ofNat 32 (crd Ideal t 1).val).toNat = _
  rw [crd1, BitVec.toNat_ofNat]; exact Nat.mod_eq_of_lt (by omega)

theorem index2 (t : Fin (cfgA Ideal).N) : ((cfgA Ideal).win (2 : Fin 6)).index t = ![0, 0, t.val % 22] := by
  rw [← slice_at t]; rfl
theorem index3 (t : Fin (cfgA Ideal).N) : ((cfgA Ideal).win (3 : Fin 6)).index t = ![0, 0, t.val % 22] := by
  rw [← slice_at t]; rfl
theorem index4 (t : Fin (cfgA Ideal).N) : ((cfgA Ideal).win (4 : Fin 6)).index t = ![0, t.val % 22, 0] := by
  rw [← slice_at t]; rfl

theorem w2_at (t : Fin (cfgA Ideal).N) (k : Fin 2048) (x : Fin 256) (f : Fin 5632) (hf : f.val = 256 * (t.val % 22) + x.val) :
    (iblk m c (2 : Fin 6) t : S1x2048x256.Idx → EReal) (ix3 0 k x) = aWG m c (ix3 0 k f) := by
  have h0 : ((cfgA Ideal).win (2 : Fin 6)).index t 0 = 0 := congrFun (index2 t) 0
  have h1 : ((cfgA Ideal).win (2 : Fin 6)).index t 1 = 0 := congrFun (index2 t) 1
  have h2 : ((cfgA Ideal).win (2 : Fin 6)).index t 2 = t.val % 22 := congrFun (index2 t) 2
  unfold iblk
  rw [View.read_apply]
  refine (congrFun (V_of m c main_arg2 (by decide) (by decide) (by decide) (by decide)) _).trans (congrArg (m ((c : Thread nD τ).loc main_arg2)) ?_)
  funext a
  apply Fin.ext
  refine (Window.rect_emb_val ((cfgA Ideal).win (2 : Fin 6)) t (ix3 0 k x) a).trans ?_
  fin_cases a
  · show ((cfgA Ideal).win (2 : Fin 6)).index t 0 * 1 + 0 = 0
    rw [h0]
  · show ((cfgA Ideal).win (2 : Fin 6)).index t 1 * 2048 + k.val = k.val
    rw [h1]; omega
  · show ((cfgA Ideal).win (2 : Fin 6)).index t 2 * 256 + x.val = f.val
    rw [h2]; omega

theorem w3_at (t : Fin (cfgA Ideal).N) (k : Fin 2048) (x : Fin 256) (f : Fin 5632) (hf : f.val = 256 * (t.val % 22) + x.val) :
    (iblk m c (3 : Fin 6) t : S1x2048x256.Idx → EReal) (ix3 0 k x) = aWU m c (ix3 0 k f) := by
  have h0 : ((cfgA Ideal).win (3 : Fin 6)).index t 0 = 0 := congrFun (index3 t) 0
  have h1 : ((cfgA Ideal).win (3 : Fin 6)).index t 1 = 0 := congrFun (index3 t) 1
  have h2 : ((cfgA Ideal).win (3 : Fin 6)).index t 2 = t.val % 22 := congrFun (index3 t) 2
  unfold iblk
  rw [View.read_apply]
  refine (congrFun (V_of m c main_arg3 (by decide) (by decide) (by decide) (by decide)) _).trans (congrArg (m ((c : Thread nD τ).loc main_arg3)) ?_)
  funext a
  apply Fin.ext
  refine (Window.rect_emb_val ((cfgA Ideal).win (3 : Fin 6)) t (ix3 0 k x) a).trans ?_
  fin_cases a
  · show ((cfgA Ideal).win (3 : Fin 6)).index t 0 * 1 + 0 = 0
    rw [h0]
  · show ((cfgA Ideal).win (3 : Fin 6)).index t 1 * 2048 + k.val = k.val
    rw [h1]; omega
  · show ((cfgA Ideal).win (3 : Fin 6)).index t 2 * 256 + x.val = f.val
    rw [h2]; omega

theorem w4_at (t : Fin (cfgA Ideal).N) (x : Fin 256) (d : Fin 2048) (f : Fin 5632) (hf : f.val = 256 * (t.val % 22) + x.val) :
    (iblk m c (4 : Fin 6) t : S1x256x2048.Idx → EReal) (ix3 0 x d) = aWD m c (ix3 0 f d) := by
  have h0 : ((cfgA Ideal).win (4 : Fin 6)).index t 0 = 0 := congrFun (index4 t) 0
  have h1 : ((cfgA Ideal).win (4 : Fin 6)).index t 1 = t.val % 22 := congrFun (index4 t) 1
  have h2 : ((cfgA Ideal).win (4 : Fin 6)).index t 2 = 0 := congrFun (index4 t) 2
  unfold iblk
  rw [View.read_apply]
  refine (congrFun (V_of m c main_arg4 (by decide) (by decide) (by decide) (by decide)) _).trans (congrArg (m ((c : Thread nD τ).loc main_arg4)) ?_)
  funext a
  apply Fin.ext
  refine (Window.rect_emb_val ((cfgA Ideal).win (4 : Fin 6)) t (ix3 0 x d) a).trans ?_
  fin_cases a
  · show ((cfgA Ideal).win (4 : Fin 6)).index t 0 * 1 + 0 = 0
    rw [h0]
  · show ((cfgA Ideal).win (4 : Fin 6)).index t 1 * 256 + x.val = f.val
    rw [h1]; omega
  · show ((cfgA Ideal).win (4 : Fin 6)).index t 2 * 2048 + d.val = d.val
    rw [h2]; omega

/-! ## A tile's slices -/

/-- The product's term at the hidden column `n`, zero past the last. -/
def trm (R : Fin 16384) (d : Fin 2048) (n : ℕ) : EReal :=
  if h : n < 5632 then term (hn (aX m c) (aG m c) R) (aWG m c) (aWU m c) (aWD m c) 0 d ⟨n, h⟩ else 0

/-- The result at an element. -/
def sp (R : Fin 16384) (d : Fin 2048) : EReal := ∑ f : Fin 5632, term (hn (aX m c) (aG m c) R) (aWG m c) (aWU m c) (aWD m c) 0 d f

theorem trm_sum (R : Fin 16384) (d : Fin 2048) : ∑ n ∈ Finset.range (256 * (21 + 1)), trm m c R d n = sp m c R d := by
  unfold sp
  rw [show 256 * (21 + 1) = 5632 from rfl, Finset.sum_range]
  refine Finset.sum_congr rfl fun f _ => ?_
  unfold trm
  rw [dif_pos f.isLt]

/-- A slice's product at a point, over rows that are the array's normalised ones. -/
theorem slice_sum (t : Fin (cfgA Ideal).N) (xn : S512x2048.Idx → EReal) (r : Fin 512) (d : Fin 2048) (R : Fin 16384)
    (hxn : ∀ k : Fin 2048, xn (ix2 r k) = hn (aX m c) (aG m c) R k) :
    (EX (F := Ideal) (iblk m c (2 : Fin 6) t) (iblk m c (3 : Fin 6) t) (iblk m c (4 : Fin 6) t) xn : S512x2048.Idx → EReal) (ix2 r d)
      = ∑ n ∈ Finset.range 256, trm m c R d (256 * (t.val % 22) + n) := by
  refine ((congrFun (EX_eq _ _ _ xn) _).trans (Cert.Kernel2Ideal.Sw.EX_at _ _ _ xn r d)).trans ?_
  rw [Finset.sum_range]
  refine Finset.sum_congr rfl fun x _ => ?_
  have hf : 256 * (t.val % 22) + x.val < 5632 := by omega
  unfold trm
  rw [dif_pos hf]
  unfold term
  refine congrArg₂ (· * ·) (congrArg₂ act ?_ ?_) (w4_at m c t x d _ rfl)
  · exact Finset.sum_congr rfl fun k _ => congrArg₂ (· * ·) (hxn k) (w2_at m c t k x _ rfl)
  · exact Finset.sum_congr rfl fun k _ => congrArg₂ (· * ·) (hxn k) (w3_at m c t k x _ rfl)

theorem rowA (r : Fin 512) (k : Fin 2048) : RA.emb (ix2 r k : S512x2048.Idx) = (ix2 (⟨r.val, by omega⟩ : Fin 1024) k : S1024x2048.Idx) :=
  Cert.Kernel2Ideal.Sw.rowA r k
theorem rowB (r : Fin 512) (k : Fin 2048) : RB.emb (ix2 r k : S512x2048.Idx) = (ix2 (⟨512 + r.val, by omega⟩ : Fin 1024) k : S1024x2048.Idx) :=
  Cert.Kernel2Ideal.Sw.rowB r k

theorem norm_of (x : S512x2048.Idx → EReal) (g : S1x2048.Idx → EReal) (r : Fin 512) (k : Fin 2048) (R : Fin 16384)
    (hx : ∀ k : Fin 2048, x (ix2 r k) = aX m c (ix2 R k)) (hg : ∀ k : Fin 2048, g (ix2 0 k) = aG m c (ix2 0 k)) :
    (XN (F := Ideal) x g : S512x2048.Idx → EReal) (ix2 r k) = hn (aX m c) (aG m c) R k := by
  refine ((congrFun (XN_eq x g) _).trans (Cert.Kernel2Ideal.Sw.XN_at x g r k)).trans ?_
  unfold hn
  simp only [hx, hg]

theorem xnA_at (t : Fin (cfgA Ideal).N) (r : Fin 512) (k : Fin 2048) (R : Fin 16384) (hR : R.val = 1024 * (t.val / 22) + r.val) :
    (xnA m c t : S512x2048.Idx → EReal) (ix2 r k) = hn (aX m c) (aG m c) R k :=
  norm_of m c _ _ r k R (fun k => (congrArg (iblk m c (0 : Fin 6) t : S1024x2048.Idx → EReal) (rowA r k)).trans (x_at m c t _ k R hR))
    (fun k => g_at m c t k)
theorem xnB_at (t : Fin (cfgA Ideal).N) (r : Fin 512) (k : Fin 2048) (R : Fin 16384) (hR : R.val = 1024 * (t.val / 22) + (512 + r.val)) :
    (xnB m c t : S512x2048.Idx → EReal) (ix2 r k) = hn (aX m c) (aG m c) R k :=
  norm_of m c _ _ r k R (fun k => (congrArg (iblk m c (0 : Fin 6) t : S1024x2048.Idx → EReal) (rowB r k)).trans (x_at m c t _ k R hR))
    (fun k => g_at m c t k)

/-- A half of a pair of halves: the first one or the second. -/
abbrev half (b : Bool) (p : Half Ideal × Half Ideal) : S512x2048.Idx → EReal := if b then p.2 else p.1
/-- The row of the block at which a half begins. -/
abbrev base (b : Bool) : ℕ := if b then 512 else 0

/-- A point's step at an element of a half. -/
theorem step_at (b : Bool) (t : Fin (cfgA Ideal).N) (prev : Half Ideal × Half Ideal) (r : Fin 512) (d : Fin 2048) (R : Fin 16384)
    (hR : R.val = 1024 * (t.val / 22) + (base b + r.val)) :
    half b (step0 m c t prev) (ix2 r d) =
      (if decide (t.val % 22 = 0) then 0 else half b prev (ix2 r d)) + ∑ n ∈ Finset.range 256, trm m c R d (256 * (t.val % 22) + n) := by
  unfold step0
  cases b
  · refine (nxt_at _ _ _ _ _ _ r d).trans ?_
    rw [slice_sum m c t _ r d R (fun k => xnA_at m c t r k R (by rw [hR]; exact congrArg (1024 * (t.val / 22) + ·) (Nat.zero_add r.val)))]
    rfl
  · refine (nxt_at _ _ _ _ _ _ r d).trans ?_
    rw [slice_sum m c t _ r d R (fun k => xnB_at m c t r k R hR)]
    rfl

theorem prev0_succ (n : ℕ) (h : n + 1 < (cfgA Ideal).N) : prev0 m c ⟨n + 1, h⟩ = traj m c n (Nat.lt_of_succ_lt h) := by
  unfold prev0
  rw [dif_neg (Nat.succ_ne_zero n)]
  rfl

theorem pt_lt (q : ℕ) (hq : q < 16) (j : ℕ) (hj : j < 22) : 22 * q + j < (cfgA Ideal).N := lt_of_lt_of_eq (by omega : 22 * q + j < 352) N_0.symm

theorem traj_at (b : Bool) (q : ℕ) (hq : q < 16) (r : Fin 512) (d : Fin 2048) (R : Fin 16384) (hR : R.val = 1024 * q + (base b + r.val)) (j : ℕ) (hj : j < 22) :
    half b (traj m c (22 * q + j) (pt_lt q hq j hj)) (ix2 r d) = ∑ n ∈ Finset.range (256 * (j + 1)), trm m c R d n := by
  refine (Cert.Kernel2Ideal.Sw.gather_slices true (trm m c R d)
    (fun j hj => half b (traj m c (22 * q + j) (pt_lt q hq j hj)) (ix2 r d)) ?_ ?_ j hj).trans (if_pos rfl)
  · intro h
    have e := congrArg (half b) (traj_eq m c ⟨22 * q + 0, pt_lt q hq 0 h⟩)
    refine (congrFun e (ix2 r d)).trans ((step_at m c b _ _ r d R ?_).trans ?_)
    · show R.val = 1024 * ((22 * q + 0) / 22) + (base b + r.val)
      rw [hR, show (22 * q + 0) / 22 = q by omega]
    · have hm : (22 * q + 0) % 22 = 0 := by omega
      simp only [hm, decide_true, if_true]
  · intro j h
    have e := congrArg (half b) (traj_eq m c ⟨22 * q + (j + 1), pt_lt q hq (j + 1) h⟩)
    refine (congrFun e (ix2 r d)).trans ((step_at m c b _ _ r d R ?_).trans ?_)
    · show R.val = 1024 * ((22 * q + (j + 1)) / 22) + (base b + r.val)
      rw [hR, show (22 * q + (j + 1)) / 22 = q by omega]
    · have hm : (22 * q + (j + 1)) % 22 = j + 1 := by omega
      have hp : prev0 m c ⟨22 * q + (j + 1), pt_lt q hq (j + 1) h⟩ = traj m c (22 * q + j) (pt_lt q hq j (Nat.lt_of_succ_lt h)) :=
        prev0_succ m c (22 * q + j) (pt_lt q hq (j + 1) h)
      rw [hp]
      simp only [hm, Nat.succ_ne_zero, decide_false, Bool.false_eq_true, if_false, if_true]

/-- What a tile's last point leaves in the block. -/
theorem block_at (q : ℕ) (hq : q < 16) (a : Fin 1024) (d : Fin 2048) (R : Fin 16384) (hR : R.val = 1024 * q + a.val) :
    (stitch (traj m c (22 * q + 21) (pt_lt q hq 21 (by decide))).1 (traj m c (22 * q + 21) (pt_lt q hq 21 (by decide))).2 : S1024x2048.Idx → EReal) (ix2 a d)
      = sp m c R d := by
  by_cases h : a.val < 512
  · have e : (ix2 a d : S1024x2048.Idx) = RA.emb (ix2 (⟨a.val, h⟩ : Fin 512) d : S512x2048.Idx) := (rowA ⟨a.val, h⟩ d).symm
    rw [e]
    exact (stitch_RA _ _ _).trans ((traj_at m c false q hq _ d R (by show R.val = 1024 * q + (0 + a.val); omega) 21 (by decide)).trans (trm_sum m c R d))
  · have ha : a = (⟨512 + (a.val - 512), by omega⟩ : Fin 1024) := Fin.ext (by show a.val = 512 + (a.val - 512); omega)
    have e : (ix2 a d : S1024x2048.Idx) = RB.emb (ix2 (⟨a.val - 512, by omega⟩ : Fin 512) d : S512x2048.Idx) := by
      rw [rowB]; exact congrArg (fun a => (ix2 a d : S1024x2048.Idx)) ha
    rw [e]
    exact (stitch_RB _ _ _).trans ((traj_at m c true q hq _ d R (by show R.val = 1024 * q + (512 + (a.val - 512)); omega) 21 (by decide)).trans (trm_sum m c R d))

end Cert.Kernel5Ideal.Dn

end
-- ==== Proof.Dn.KerRun.lean ====
module

public import proofs.«01_k».proof.Proof.Dn.KerVal
public import proofs.«01_k».proof.Proof.Dn.FrameI

@[expose] public section

set_option maxRecDepth 16384

noncomputable section

/-! The dense channel mixer's launch ends with the specification in the result's array. -/
namespace Cert.Kernel5Ideal.Dn

open Cert.Kernel5Ideal Cert.Kernel5Ideal.Gen
open Idealize.ShloMosaic
open Idealize.ShloMosaic.TcCoe Idealize.SL.Sem
open Idealize.ShloMosaic.Pipeline (Dat Cfg Window)
open Cert.Spec

variable (m : (ℓ : Loc nD τ sig) → Buf (Elt Ideal) ℓ) (ρ : Dev nD → PrngReg) (c : Dev nD)

theorem mem_of {κ : Kind} {sp : Space} {s : Shape} {e : EltTy} (v : View sig κ sp s e) (x : s.Idx) (i : v.ty.Idx) (h : v.emb x = i) : i ∈ v.set :=
  h ▸ v.emb_mem_set x

/-- The result's array. -/
def out : S16384x2048.Idx → EReal := fun i => sp m c (i 0) (i 1)

attribute [local irreducible] stitch traj

theorem after_last (n : ℕ) (t : Fin (cfgA Ideal).N) (hn : t.val = n) (h : n < (cfgA Ideal).N) :
    ((dats m 0 c).after (5 : Fin 6) t : S1024x2048.Idx → EReal) = stitch (traj m c n h).1 (traj m c n h).2 := by
  subst hn
  exact after0_5 m c t

theorem emb5 (t : Fin (cfgA Ideal).N) (a : Fin 1024) (d : Fin 2048) (R : Fin 16384) (hR : R.val = 1024 * (t.val / 22) + a.val) :
    ((((cfgA Ideal).win (5 : Fin 6)).blk t).view.emb (ix2 a d : S1024x2048.Idx) : S16384x2048.Idx) = ix2 R d := by
  have h0 : ((cfgA Ideal).win (5 : Fin 6)).index t 0 = t.val / 22 := congrFun (index5 t) 0
  have h1 : ((cfgA Ideal).win (5 : Fin 6)).index t 1 = 0 := congrFun (index5 t) 1
  funext b
  apply Fin.ext
  refine (Window.rect_emb_val ((cfgA Ideal).win (5 : Fin 6)) t (ix2 a d) b).trans ?_
  fin_cases b
  · show ((cfgA Ideal).win (5 : Fin 6)).index t 0 * 1024 + a.val = R.val
    rw [h0]; omega
  · show ((cfgA Ideal).win (5 : Fin 6)).index t 1 * 2048 + d.val = d.val
    rw [h1]; omega

theorem final : (dats m 0 c).arrAt (5 : Fin 6) (cfgA Ideal).N = out m c := by
  refine (dats m 0 c).arrAt_eq_of_emb (5 : Fin 6) (out m c) ?_ ?_
  · intro t hf y
    have hf' : t.val % 22 = 21 := of_decide_eq_true ((flush5 t).symm.trans hf)
    have ht := lt_N Ideal t
    obtain ⟨a, d, hy⟩ : ∃ (a : Fin 1024) (d : Fin 2048), (y : S1024x2048.Idx) = ix2 a d := ⟨y 0, y 1, eq_ix2 (y : S1024x2048.Idx)⟩
    have hq : t.val / 22 < 16 := by omega
    have hn : t.val = 22 * (t.val / 22) + 21 := by omega
    have hR : 1024 * (t.val / 22) + a.val < 16384 := by omega
    have e1 := congrFun (after_last m c _ t hn (pt_lt _ hq 21 (by decide))) (ix2 a d)
    have e2 := block_at m c (t.val / 22) hq a d ⟨_, hR⟩ rfl
    have e3 := congrArg (out m c) (emb5 t a d ⟨_, hR⟩ rfl)
    subst hy
    exact (e1.trans e2).trans e3.symm
  · intro i
    have hi : ((i : S16384x2048.Idx) 0).val < 16384 := ((i : S16384x2048.Idx) 0).isLt
    have hq : ((i : S16384x2048.Idx) 0).val / 1024 < 16 := by omega
    refine ⟨⟨22 * (((i : S16384x2048.Idx) 0).val / 1024) + 21, pt_lt _ hq 21 (by decide)⟩, ?_, ?_⟩
    · rw [flush5]
      exact decide_eq_true (by show (22 * (((i : S16384x2048.Idx) 0).val / 1024) + 21) % 22 = 21; omega)
    · have e := emb5 ⟨22 * (((i : S16384x2048.Idx) 0).val / 1024) + 21, pt_lt _ hq 21 (by decide)⟩
        ⟨((i : S16384x2048.Idx) 0).val % 1024, by omega⟩ ((i : S16384x2048.Idx) 1) ((i : S16384x2048.Idx) 0)
        (by show ((i : S16384x2048.Idx) 0).val = 1024 * ((22 * (((i : S16384x2048.Idx) 0).val / 1024) + 21) / 22) + ((i : S16384x2048.Idx) 0).val % 1024; omega)
      have e' : (i : S16384x2048.Idx) = _ := (eq_ix2 (i : S16384x2048.Idx)).trans e.symm
      exact mem_of _ _ _ e'.symm

theorem result :
    θ_run (defs (F := Ideal)) (onTc (τ := τ) (main (F := Ideal))) ⟨m, fun _ => 0, ρ⟩ (fun r => ∀ c : Dev nD,
      r.2.mem ((c.tc : Thread nD τ).loc main_v2) = out m c) :=
  (θ_run defs _ _).mono (fun _ h c => ((h c).1 (5 : Fin 6)).trans (final m c)) (run_main m ρ)

/-- The run: the result is the specification, the arguments end unchanged. -/
theorem value_run :
    θ_run (defs (F := Ideal)) (onTc (τ := τ) (main (F := Ideal))) ⟨m, fun _ => 0, ρ⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h.1 c, h.2 c⟩) (θ_run_and (result m ρ) (unchanged m ρ))

end Cert.Kernel5Ideal.Dn

end
-- ==== Proof.Dn.RefVal.lean ====
module

public import proofs.«01_k».proof.Proof.Sw.Spec
public import proofs.«01_k».proof.Proof.Gen.Reference5Ideal.Run
public import Idealize.ShloMosaic.Lib.Pipeline.ValueKit.Geometry

@[expose] public section

set_option maxRecDepth 16384

noncomputable section

/-! The dense channel mixer's reference, read at an element, is the specification. -/
namespace Cert.Reference5Ideal.Dn

open Cert.Reference5Ideal Cert.Reference5Ideal.Gen Cert.Spec
open Idealize.ShloMosaic

/-- The normalised rows. -/
def nrm (X : FVec Ideal S16384x2048 .f32) (G : FVec Ideal S1x2048 .f32) : FVec Ideal S16384x2048 .f32 :=
  mulf (mulf X (broadcastInDim S16384x2048 ![0, 1] bcast_S16384x1_S16384x2048_0_1 (Host.rsqrt (addf (Host.divf
    (broadcastInDim S16384x1 ![0] bcast_S16384_S16384x1_0 (Host.reduceAdd (mulf X X) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x3727C5AC#32))))))
    (broadcastInDim S16384x2048 ![0, 1] bcast_S1x2048_S16384x2048_0_1 G)

/-- One of the two products into the hidden columns. -/
def up (h : FVec Ideal S16384x2048 .f32) (W : FVec Ideal S1x2048x5632 .f32) : FVec Ideal S16384x5632 .f32 :=
  Host.dotGeneral (F := Ideal) (φ₁ := .f32) (φ₂ := .f32) dot_S16384x2048_S2048x5632_S16384x5632_1_0_0_1_n_n none h
    (shapeCast S2048x5632 W shapeCasts_S1x2048x5632_S2048x5632)

/-- The gated product. -/
def gated (p q : FVec Ideal S16384x5632 .f32) : FVec Ideal S16384x5632 .f32 :=
  mulf (mulf p (Host.divf (broadcastInDim S16384x5632 ![] bcast_S_S16384x5632 (constant S_ .f32 0x3F800000#32))
    (addf (broadcastInDim S16384x5632 ![] bcast_S_S16384x5632 (constant S_ .f32 0x3F800000#32)) (Host.exp (Host.negf p))))) q

/-- The product back. -/
def down (a : FVec Ideal S16384x5632 .f32) (W : FVec Ideal S1x5632x2048 .f32) : FVec Ideal S16384x2048 .f32 :=
  Host.dotGeneral (F := Ideal) (φ₁ := .f32) (φ₂ := .f32) dot_S16384x5632_S5632x2048_S16384x2048_1_0_0_1_n_n none a
    (shapeCast S5632x2048 W shapeCasts_S1x5632x2048_S5632x2048)

variable (X : FVec Ideal S16384x2048 .f32) (G : FVec Ideal S1x2048 .f32) (WG WU : FVec Ideal S1x2048x5632 .f32) (WD : FVec Ideal S1x5632x2048 .f32)

theorem nrm_at (r : Fin 16384) (k : Fin 2048) : (nrm X G : S16384x2048.Idx → EReal) (ix2 r k) = hn X G r k := by
  pointwise [nrm]
  rfl

theorem up_at (h : FVec Ideal S16384x2048 .f32) (W : FVec Ideal S1x2048x5632 .f32) (r : Fin 16384) (f : Fin 5632) :
    (up h W : S16384x5632.Idx → EReal) (ix2 r f) = dotw (fun k => h (ix2 r k)) W 0 f := by
  pointwise [up]
  rfl

theorem gated_at (p q : FVec Ideal S16384x5632 .f32) (r : Fin 16384) (f : Fin 5632) :
    (gated p q : S16384x5632.Idx → EReal) (ix2 r f) = act (p (ix2 r f)) (q (ix2 r f)) := by
  pointwise [gated]
  rfl

theorem down_at (a : FVec Ideal S16384x5632 .f32) (r : Fin 16384) (d : Fin 2048) :
    (down a WD : S16384x2048.Idx → EReal) (ix2 r d) = ∑ f : Fin 5632, a (ix2 r f) * WD (ix3 0 f d) := by
  pointwise [down]

theorem value_at (r : Fin 16384) (d : Fin 2048) :
    (down (gated (up (nrm X G) WG) (up (nrm X G) WU)) WD : S16384x2048.Idx → EReal) (ix2 r d) = ∑ f : Fin 5632, term (hn X G r) WG WU WD 0 d f := by
  rw [down_at]
  refine Finset.sum_congr (M := EReal) rfl fun f _ => ?_
  have e : (fun k : Fin 2048 => (nrm X G : S16384x2048.Idx → EReal) (ix2 r k)) = hn X G r := funext fun k => nrm_at X G r k
  rw [gated_at, up_at, up_at, e]
  rfl

end Cert.Reference5Ideal.Dn

end
-- ==== Proof.Mm.Spec.lean ====
module

public import Idealize.ShloMosaic.Lib.Pointwise
public import Idealize.ShloMosaic.Lib.ValueIdx

@[expose] public section

noncomputable section

/-! A matrix product over the extended reals, element by element. -/
namespace Cert.Mm

open Idealize.ShloMosaic

/-- Row `r` of `A` times column `n` of `W`. -/
def dot {a k n : ℕ} (A : (⟨2, ![a, k]⟩ : Shape).Idx → EReal) (W : (⟨2, ![k, n]⟩ : Shape).Idx → EReal) (r : Fin a) (j : Fin n) : EReal :=
  ∑ x : Fin k, A (ix2 r x) * W (ix2 x j)

end Cert.Mm

end
-- ==== Proof.Nm.Side.lean ====
module

public import proofs.«01_k».proof.Proof.Sw.Spec
public import proofs.«01_k».proof.Proof.Mm.Spec
public import proofs.«01_k».proof.Proof.Gen.Kernel6Ideal.Value
public import proofs.«01_k».proof.Proof.Gen.Reference6Ideal.Run
public import Idealize.ShloMosaic.Lib.Pipeline.ValueKit.Geometry

@[expose] public section

set_option maxRecDepth 16384

noncomputable section

/-! The norm before a layer's projections: the launch leaves the sum of its two rows, the sum's normalised rows, and their product
with the side weights. -/
namespace Cert.Spec

open Idealize.ShloMosaic

/-- A gain as a row. -/
def gain (g : (⟨1, ![2048]⟩ : Shape).Idx → EReal) : A2 1 2048 := fun i => g (ix1 (i 1))

/-- The sum of two arrays. -/
def plus {n : ℕ} (X Y : A2 n 2048) : A2 n 2048 := fun i => X i + Y i

/-- The normalised rows, as an array. -/
def rows (X : A2 16384 2048) (G : A2 1 2048) : A2 16384 2048 := fun i => hn X G (i 0) (i 1)

end Cert.Spec

namespace Cert.Kernel6Ideal.Nm

open Cert.Kernel6Ideal Cert.Kernel6Ideal.Gen Cert.Mm Cert.Spec
open Idealize.ShloMosaic
open Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

abbrev aX : S16384x2048.Idx → EReal := m ((c : Thread nD τ).loc main_arg0)
abbrev aY : S16384x2048.Idx → EReal := m ((c : Thread nD τ).loc main_arg1)
abbrev aG : S2048.Idx → EReal := m ((c : Thread nD τ).loc main_arg2)
abbrev aW : S2048x128.Idx → EReal := m ((c : Thread nD τ).loc main_arg3)

/-- The three results' arrays. -/
def sum : S16384x2048.Idx → EReal := plus (aX m c) (aY m c)
def normed : S16384x2048.Idx → EReal := rows (sum m c) (gain (aG m c))
def side : S16384x128.Idx → EReal := fun i => dot (normed m c) (aW m c) (i 0) (i 1)

/-- The gain's row, as the region finds it. -/
theorem v0_at (k : Fin 2048) : (V m c main_v0 : S1x2048.Idx → EReal) (ix2 0 k) = aG m c (ix1 k) := by
  have e : (V m c main_v0 : S1x2048.Idx → EReal) = shapeCast S1x2048 (aG m c) shapeCasts_S2048_S1x2048 := by
    unfold V
    after_results
    rfl
  rw [e]
  pointwise []

/-! ## One block of each result, from the blocks of the operands -/

theorem pay2_at (A B : S512x2048.Idx → EReal) (G : S1x2048.Idx → EReal) (r : Fin 512) (k : Fin 2048) :
    (k0_pay2 (F := Ideal) A B G : S512x2048.Idx → EReal) (ix2 r k) = hn (plus A B) G r k := by
  pointwise [k0_pay2, k0_pay1]
  rfl

theorem out4_at (A B : S512x2048.Idx → EReal) (G : S1x2048.Idx → EReal) (W : S2048x128.Idx → EReal) (r : Fin 512) (k : Fin 2048) :
    (out0_4 (F := Ideal) A B G W : S512x2048.Idx → EReal) (ix2 r k) = A (ix2 r k) + B (ix2 r k) := by
  unfold out0_4
  rw [View.canon_unit_zero (S := S512x2048) (by funext a; fin_cases a <;> rfl)]
  rw [View.ld_unit_zero (S := S512x2048) (by funext a; fin_cases a <;> rfl), View.ld_unit_zero (S := S512x2048) (by funext a; fin_cases a <;> rfl)]
  rfl

theorem out5_at (A B : S512x2048.Idx → EReal) (G : S1x2048.Idx → EReal) (W : S2048x128.Idx → EReal) (r : Fin 512) (k : Fin 2048) :
    (out0_5 (F := Ideal) A B G W : S512x2048.Idx → EReal) (ix2 r k) = hn (plus A B) G r k := by
  unfold out0_5
  rw [View.canon_unit_zero (S := S512x2048) (by funext a; fin_cases a <;> rfl)]
  rw [View.ld_unit_zero (S := S512x2048) (by funext a; fin_cases a <;> rfl), View.ld_unit_zero (S := S512x2048) (by funext a; fin_cases a <;> rfl),
    View.ld_unit_zero (S := S1x2048) (by funext a; fin_cases a <;> rfl)]
  exact pay2_at A B G r k

theorem out6_at (A B : S512x2048.Idx → EReal) (G : S1x2048.Idx → EReal) (W : S2048x128.Idx → EReal) (r : Fin 512) (j : Fin 128) :
    (out0_6 (F := Ideal) A B G W : S512x128.Idx → EReal) (ix2 r j) = ∑ k : Fin 2048, hn (plus A B) G r k * W (ix2 k j) := by
  unfold out0_6
  rw [View.canon_unit_zero (S := S512x128) (by funext a; fin_cases a <;> rfl)]
  rw [View.ld_unit_zero (S := S512x2048) (by funext a; fin_cases a <;> rfl), View.ld_unit_zero (S := S512x2048) (by funext a; fin_cases a <;> rfl),
    View.ld_unit_zero (S := S1x2048) (by funext a; fin_cases a <;> rfl), View.ld_unit_zero (S := S2048x128) (by funext a; fin_cases a <;> rfl)]
  pointwise [k0_pay4]
  exact Finset.sum_congr (M := EReal) rfl fun k _ => congrArg (· * W (ix2 k j)) (pay2_at A B G r k)

/-! ## The blocks at a point -/

theorem index : ∀ t : Fin cfg0.N, (cfg0.win 0).index t = ![t.val, 0] ∧ (cfg0.win 1).index t = ![t.val, 0] ∧ (cfg0.win 2).index t = ![0, 0]
    ∧ (cfg0.win 3).index t = ![0, 0] ∧ (cfg0.win 4).index t = ![t.val, 0] ∧ (cfg0.win 5).index t = ![t.val, 0] ∧ (cfg0.win 6).index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0])

/-- The row of the array that a block's row is. -/
def row (t : Fin cfg0.N) (r : Fin 512) : Fin 16384 := ⟨512 * t.val + r.val, by have h : t.val < 32 := t.isLt; omega⟩

theorem x_at (t : Fin cfg0.N) (r : Fin 512) (k : Fin 2048) : (iblk m c (0 : Fin 7) t : S512x2048.Idx → EReal) (ix2 r k) = aX m c (ix2 (row t r) k) := by
  have h0 : (cfg0.win 0).index t 0 = t.val := congrFun (index t).1 0
  have h1 : (cfg0.win 0).index t 1 = 0 := congrFun (index t).1 1
  unfold iblk
  rw [View.read_apply]
  refine (congrArg (V m c main_arg0 : S16384x2048.Idx → EReal) ?_).trans (congrFun (V_main_arg0 m c) _)
  funext a
  apply Fin.ext
  refine (Window.rect_emb_val (cfg0.win 0) t (ix2 r k) a).trans ?_
  fin_cases a
  · show (cfg0.win 0).index t 0 * 512 + r.val = 512 * t.val + r.val
    rw [h0]; omega
  · show (cfg0.win 0).index t 1 * 2048 + k.val = k.val
    rw [h1]; omega

theorem y_at (t : Fin cfg0.N) (r : Fin 512) (k : Fin 2048) : (iblk m c (1 : Fin 7) t : S512x2048.Idx → EReal) (ix2 r k) = aY m c (ix2 (row t r) k) := by
  have h0 : (cfg0.win 1).index t 0 = t.val := congrFun (index t).2.1 0
  have h1 : (cfg0.win 1).index t 1 = 0 := congrFun (index t).2.1 1
  unfold iblk
  rw [View.read_apply]
  refine (congrArg (V m c main_arg1 : S16384x2048.Idx → EReal) ?_).trans (congrFun (V_main_arg1 m c) _)
  funext a
  apply Fin.ext
  refine (Window.rect_emb_val (cfg0.win 1) t (ix2 r k) a).trans ?_
  fin_cases a
  · show (cfg0.win 1).index t 0 * 512 + r.val = 512 * t.val + r.val
    rw [h0]; omega
  · show (cfg0.win 1).index t 1 * 2048 + k.val = k.val
    rw [h1]; omega

theorem g_at (t : Fin cfg0.N) (k : Fin 2048) : (iblk m c (2 : Fin 7) t : S1x2048.Idx → EReal) (ix2 0 k) = gain (aG m c) (ix2 0 k) := by
  have h0 : (cfg0.win 2).index t 0 = 0 := congrFun (index t).2.2.1 0
  have h1 : (cfg0.win 2).index t 1 = 0 := congrFun (index t).2.2.1 1
  unfold iblk
  rw [View.read_apply]
  refine (congrArg (V m c main_v0 : S1x2048.Idx → EReal) ?_).trans (v0_at m c k)
  funext a
  apply Fin.ext
  refine (Window.rect_emb_val (cfg0.win 2) t (ix2 0 k) a).trans ?_
  fin_cases a
  · show (cfg0.win 2).index t 0 * 1 + 0 = 0
    rw [h0]
  · show (cfg0.win 2).index t 1 * 2048 + k.val = k.val
    rw [h1]; omega

theorem w_at (t : Fin cfg0.N) (k : Fin 2048) (j : Fin 128) : (iblk m c (3 : Fin 7) t : S2048x128.Idx → EReal) (ix2 k j) = aW m c (ix2 k j) := by
  have h0 : (cfg0.win 3).index t 0 = 0 := congrFun (index t).2.2.2.1 0
  have h1 : (cfg0.win 3).index t 1 = 0 := congrFun (index t).2.2.2.1 1
  unfold iblk
  rw [View.read_apply]
  refine (congrArg (V m c main_arg3 : S2048x128.Idx → EReal) ?_).trans (congrFun (V_main_arg3 m c) _)
  funext a
  apply Fin.ext
  refine (Window.rect_emb_val (cfg0.win 3) t (ix2 k j) a).trans ?_
  fin_cases a
  · show (cfg0.win 3).index t 0 * 2048 + k.val = k.val
    rw [h0]; omega
  · show (cfg0.win 3).index t 1 * 128 + j.val = j.val
    rw [h1]; omega

/-- A block's normalised row is the array's. -/
theorem hn_at (t : Fin cfg0.N) (r : Fin 512) (k : Fin 2048) :
    hn (plus (iblk m c (0 : Fin 7) t) (iblk m c (1 : Fin 7) t)) (iblk m c (2 : Fin 7) t) r k
      = normed m c (ix2 (row t r) k) := by
  show _ = hn (sum m c) (gain (aG m c)) (row t r) k
  have e : ∀ x : Fin 2048, plus (iblk m c (0 : Fin 7) t) (iblk m c (1 : Fin 7) t) (ix2 r x) = sum m c (ix2 (row t r) x) :=
    fun x => congrArg₂ (fun a b : EReal => a + b) (x_at m c t r x) (y_at m c t r x)
  unfold hn
  simp only [e, g_at]

theorem emb4 (t : Fin cfg0.N) (r : Fin 512) (k : Fin 2048) : (((cfg0.win 4).blk t).view.emb (ix2 r k : S512x2048.Idx) : S16384x2048.Idx) = ix2 (row t r) k := by
  have h0 : (cfg0.win 4).index t 0 = t.val := congrFun (index t).2.2.2.2.1 0
  have h1 : (cfg0.win 4).index t 1 = 0 := congrFun (index t).2.2.2.2.1 1
  funext a
  apply Fin.ext
  refine (Window.rect_emb_val (cfg0.win 4) t (ix2 r k) a).trans ?_
  fin_cases a
  · show (cfg0.win 4).index t 0 * 512 + r.val = 512 * t.val + r.val
    rw [h0]; omega
  · show (cfg0.win 4).index t 1 * 2048 + k.val = k.val
    rw [h1]; omega

theorem emb5 (t : Fin cfg0.N) (r : Fin 512) (k : Fin 2048) : (((cfg0.win 5).blk t).view.emb (ix2 r k : S512x2048.Idx) : S16384x2048.Idx) = ix2 (row t r) k := by
  have h0 : (cfg0.win 5).index t 0 = t.val := congrFun (index t).2.2.2.2.2.1 0
  have h1 : (cfg0.win 5).index t 1 = 0 := congrFun (index t).2.2.2.2.2.1 1
  funext a
  apply Fin.ext
  refine (Window.rect_emb_val (cfg0.win 5) t (ix2 r k) a).trans ?_
  fin_cases a
  · show (cfg0.win 5).index t 0 * 512 + r.val = 512 * t.val + r.val
    rw [h0]; omega
  · show (cfg0.win 5).index t 1 * 2048 + k.val = k.val
    rw [h1]; omega

theorem emb6 (t : Fin cfg0.N) (r : Fin 512) (j : Fin 128) : (((cfg0.win 6).blk t).view.emb (ix2 r j : S512x128.Idx) : S16384x128.Idx) = ix2 (row t r) j := by
  have h0 : (cfg0.win 6).index t 0 = t.val := congrFun (index t).2.2.2.2.2.2 0
  have h1 : (cfg0.win 6).index t 1 = 0 := congrFun (index t).2.2.2.2.2.2 1
  funext a
  apply Fin.ext
  refine (Window.rect_emb_val (cfg0.win 6) t (ix2 r j) a).trans ?_
  fin_cases a
  · show (cfg0.win 6).index t 0 * 512 + r.val = 512 * t.val + r.val
    rw [h0]; omega
  · show (cfg0.win 6).index t 1 * 128 + j.val = j.val
    rw [h1]; omega

/-! ## The arrays at the end -/

theorem final4 : (dats m 0 c).arrAt (4 : Fin 7) cfg0.N = sum m c := by
  refine (dats m 0 c).arrAt_eq_of_covers (4 : Fin 7) (sum m c) (by decide +kernel) fun t _ y => ?_
  obtain ⟨r, k, hy⟩ : ∃ (r : Fin 512) (k : Fin 2048), (y : S512x2048.Idx) = ix2 r k := ⟨y 0, y 1, eq_ix2 (y : S512x2048.Idx)⟩
  have e0 := congrFun (after0_4 m c t) (ix2 r k)
  have e1 := out4_at (iblk m c 0 t) (iblk m c 1 t) (iblk m c 2 t) (iblk m c 3 t) r k
  have e3 := congrArg (sum m c) (emb4 t r k)
  subst hy
  refine (e0.trans e1).trans (Eq.trans ?_ e3.symm)
  exact congrArg₂ (· + ·) (x_at m c t r k) (y_at m c t r k)

theorem final5 : (dats m 0 c).arrAt (5 : Fin 7) cfg0.N = normed m c := by
  refine (dats m 0 c).arrAt_eq_of_covers (5 : Fin 7) (normed m c) (by decide +kernel) fun t _ y => ?_
  obtain ⟨r, k, hy⟩ : ∃ (r : Fin 512) (k : Fin 2048), (y : S512x2048.Idx) = ix2 r k := ⟨y 0, y 1, eq_ix2 (y : S512x2048.Idx)⟩
  have e0 := congrFun (after0_5 m c t) (ix2 r k)
  have e1 := out5_at (iblk m c 0 t) (iblk m c 1 t) (iblk m c 2 t) (iblk m c 3 t) r k
  have e3 := congrArg (normed m c) (emb5 t r k)
  subst hy
  exact (e0.trans e1).trans ((hn_at m c t r k).trans e3.symm)

theorem final6 : (dats m 0 c).arrAt (6 : Fin 7) cfg0.N = side m c := by
  refine (dats m 0 c).arrAt_eq_of_covers (6 : Fin 7) (side m c) (by decide +kernel) fun t _ y => ?_
  obtain ⟨r, j, hy⟩ : ∃ (r : Fin 512) (j : Fin 128), (y : S512x128.Idx) = ix2 r j := ⟨y 0, y 1, eq_ix2 (y : S512x128.Idx)⟩
  have e0 := congrFun (after0_6 m c t) (ix2 r j)
  have e1 := out6_at (iblk m c 0 t) (iblk m c 1 t) (iblk m c 2 t) (iblk m c 3 t) r j
  have e3 := congrArg (side m c) (emb6 t r j)
  subst hy
  refine (e0.trans e1).trans (Eq.trans ?_ e3.symm)
  exact Finset.sum_congr (M := EReal) rfl fun k _ => congrArg₂ (fun a b : EReal => a * b) (hn_at m c t r k) (w_at m c t k j)

end Cert.Kernel6Ideal.Nm

/-! The reference, read at an element. -/
namespace Cert.Reference6Ideal.Nm

open Cert.Reference6Ideal Cert.Reference6Ideal.Gen Cert.Mm Cert.Spec
open Idealize.ShloMosaic

/-- The normalised rows. -/
def nrm (X : FVec Ideal S16384x2048 .f32) (G : FVec Ideal S2048 .f32) : FVec Ideal S16384x2048 .f32 :=
  mulf (mulf X (broadcastInDim S16384x2048 ![0, 1] bcast_S16384x1_S16384x2048_0_1 (Host.rsqrt (addf (Host.divf
    (broadcastInDim S16384x1 ![0] bcast_S16384_S16384x1_0 (Host.reduceAdd (mulf X X) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 G))

/-- Their product with the side weights. -/
def prod (h : FVec Ideal S16384x2048 .f32) (W : FVec Ideal S2048x128 .f32) : FVec Ideal S16384x128 .f32 :=
  Host.dotGeneral (F := Ideal) (φ₁ := .f32) (φ₂ := .f32) dot_S16384x2048_S2048x128_S16384x128_1_0_0_1_n_n none h W

theorem nrm_eq (X : FVec Ideal S16384x2048 .f32) (G : FVec Ideal S2048 .f32) : (nrm X G : S16384x2048.Idx → EReal) = rows X (gain G) := by
  funext i
  obtain ⟨r, k, hi⟩ : ∃ (r : Fin 16384) (k : Fin 2048), (i : S16384x2048.Idx) = ix2 r k := ⟨i 0, i 1, eq_ix2 (i : S16384x2048.Idx)⟩
  subst hi
  show _ = hn X (gain G) r k
  pointwise [nrm]
  rfl

theorem prod_at (h : FVec Ideal S16384x2048 .f32) (W : FVec Ideal S2048x128 .f32) (r : Fin 16384) (j : Fin 128) :
    (prod h W : S16384x128.Idx → EReal) (ix2 r j) = dot h W r j := by
  pointwise [prod]
  rfl

theorem value_at (X : FVec Ideal S16384x2048 .f32) (G : FVec Ideal S2048 .f32) (W : FVec Ideal S2048x128 .f32) (r : Fin 16384) (j : Fin 128) :
    (prod (nrm X G) W : S16384x128.Idx → EReal) (ix2 r j) = dot (rows X (gain G)) W r j :=
  (prod_at (nrm X G) W r j).trans (congrArg (fun h : S16384x2048.Idx → EReal => dot h W r j) (nrm_eq X G))

end Cert.Reference6Ideal.Nm

end
-- ==== Proof.Nm.Router.lean ====
module

public import proofs.«01_k».proof.Proof.Nm.Side
public import proofs.«01_k».proof.Proof.Gen.Kernel7Ideal.Value
public import proofs.«01_k».proof.Proof.Gen.Reference7Ideal.Run

@[expose] public section

set_option maxRecDepth 16384

noncomputable section

/-! The router's scores: the launch leaves the product of the normalised rows with the router's weights. -/
namespace Cert.Kernel7Ideal.Nm

open Cert.Kernel7Ideal Cert.Kernel7Ideal.Gen Cert.Mm Cert.Spec
open Idealize.ShloMosaic
open Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

abbrev aX : S16384x2048.Idx → EReal := m ((c : Thread nD τ).loc main_arg0)
abbrev aG : S2048.Idx → EReal := m ((c : Thread nD τ).loc main_arg1)
abbrev aW : S2048x128.Idx → EReal := m ((c : Thread nD τ).loc main_arg2)

/-- The result's array. -/
def scores : S16384x128.Idx → EReal := fun i => dot (rows (aX m c) (gain (aG m c))) (aW m c) (i 0) (i 1)

/-- The gain's row, as the region finds it. -/
theorem v0_at (k : Fin 2048) : (V m c main_v0 : S1x2048.Idx → EReal) (ix2 0 k) = aG m c (ix1 k) := by
  have e : (V m c main_v0 : S1x2048.Idx → EReal) = shapeCast S1x2048 (aG m c) shapeCasts_S2048_S1x2048 := by
    unfold V
    after_results
    rfl
  rw [e]
  pointwise []

/-- One block of the result, from the blocks of the operands. -/
theorem out_at (A : S512x2048.Idx → EReal) (G : S1x2048.Idx → EReal) (W : S2048x128.Idx → EReal) (r : Fin 512) (j : Fin 128) :
    (out0_3 (F := Ideal) A G W : S512x128.Idx → EReal) (ix2 r j) = ∑ k : Fin 2048, hn A G r k * W (ix2 k j) := by
  unfold out0_3
  rw [View.canon_unit_zero (S := S512x128) (by funext a; fin_cases a <;> rfl)]
  rw [View.ld_unit_zero (S := S512x2048) (by funext a; fin_cases a <;> rfl), View.ld_unit_zero (S := S1x2048) (by funext a; fin_cases a <;> rfl),
    View.ld_unit_zero (S := S2048x128) (by funext a; fin_cases a <;> rfl)]
  pointwise [k0_pay1]
  rfl

theorem index : ∀ t : Fin cfg0.N, (cfg0.win 0).index t = ![t.val, 0] ∧ (cfg0.win 1).index t = ![0, 0] ∧ (cfg0.win 2).index t = ![0, 0]
    ∧ (cfg0.win 3).index t = ![t.val, 0] :=
  (by decide +kernel : ∀ t : Fin grid0.N, win0_0.index t = ![t.val, 0] ∧ win0_1.index t = ![0, 0] ∧ win0_2.index t = ![0, 0]
    ∧ win0_3.index t = ![t.val, 0])

/-- The row of the array that a block's row is. -/
def row (t : Fin cfg0.N) (r : Fin 512) : Fin 16384 := ⟨512 * t.val + r.val, by have h : t.val < 32 := t.isLt; omega⟩

theorem x_at (t : Fin cfg0.N) (r : Fin 512) (k : Fin 2048) : (iblk m c (0 : Fin 4) t : S512x2048.Idx → EReal) (ix2 r k) = aX m c (ix2 (row t r) k) := by
  have h0 : (cfg0.win 0).index t 0 = t.val := congrFun (index t).1 0
  have h1 : (cfg0.win 0).index t 1 = 0 := congrFun (index t).1 1
  unfold iblk
  rw [View.read_apply]
  refine (congrArg (V m c main_arg0 : S16384x2048.Idx → EReal) ?_).trans (congrFun (V_main_arg0 m c) _)
  funext a
  apply Fin.ext
  refine (Window.rect_emb_val (cfg0.win 0) t (ix2 r k) a).trans ?_
  fin_cases a
  · show (cfg0.win 0).index t 0 * 512 + r.val = 512 * t.val + r.val
    rw [h0]; omega
  · show (cfg0.win 0).index t 1 * 2048 + k.val = k.val
    rw [h1]; omega

theorem g_at (t : Fin cfg0.N) (k : Fin 2048) : (iblk m c (1 : Fin 4) t : S1x2048.Idx → EReal) (ix2 0 k) = gain (aG m c) (ix2 0 k) := by
  have h0 : (cfg0.win 1).index t 0 = 0 := congrFun (index t).2.1 0
  have h1 : (cfg0.win 1).index t 1 = 0 := congrFun (index t).2.1 1
  unfold iblk
  rw [View.read_apply]
  refine (congrArg (V m c main_v0 : S1x2048.Idx → EReal) ?_).trans (v0_at m c k)
  funext a
  apply Fin.ext
  refine (Window.rect_emb_val (cfg0.win 1) t (ix2 0 k) a).trans ?_
  fin_cases a
  · show (cfg0.win 1).index t 0 * 1 + 0 = 0
    rw [h0]
  · show (cfg0.win 1).index t 1 * 2048 + k.val = k.val
    rw [h1]; omega

theorem w_at (t : Fin cfg0.N) (k : Fin 2048) (j : Fin 128) : (iblk m c (2 : Fin 4) t : S2048x128.Idx → EReal) (ix2 k j) = aW m c (ix2 k j) := by
  have h0 : (cfg0.win 2).index t 0 = 0 := congrFun (index t).2.2.1 0
  have h1 : (cfg0.win 2).index t 1 = 0 := congrFun (index t).2.2.1 1
  unfold iblk
  rw [View.read_apply]
  refine (congrArg (V m c main_arg2 : S2048x128.Idx → EReal) ?_).trans (congrFun (V_main_arg2 m c) _)
  funext a
  apply Fin.ext
  refine (Window.rect_emb_val (cfg0.win 2) t (ix2 k j) a).trans ?_
  fin_cases a
  · show (cfg0.win 2).index t 0 * 2048 + k.val = k.val
    rw [h0]; omega
  · show (cfg0.win 2).index t 1 * 128 + j.val = j.val
    rw [h1]; omega

/-- A block's normalised row is the array's. -/
theorem hn_at (t : Fin cfg0.N) (r : Fin 512) (k : Fin 2048) :
    hn (n := 512) (iblk m c (0 : Fin 4) t) (iblk m c (1 : Fin 4) t) r k = rows (aX m c) (gain (aG m c)) (ix2 (row t r) k) := by
  show _ = hn (aX m c) (gain (aG m c)) (row t r) k
  unfold hn
  simp only [x_at, g_at]

theorem emb3 (t : Fin cfg0.N) (r : Fin 512) (j : Fin 128) : (((cfg0.win 3).blk t).view.emb (ix2 r j : S512x128.Idx) : S16384x128.Idx) = ix2 (row t r) j := by
  have h0 : (cfg0.win 3).index t 0 = t.val := congrFun (index t).2.2.2 0
  have h1 : (cfg0.win 3).index t 1 = 0 := congrFun (index t).2.2.2 1
  funext a
  apply Fin.ext
  refine (Window.rect_emb_val (cfg0.win 3) t (ix2 r j) a).trans ?_
  fin_cases a
  · show (cfg0.win 3).index t 0 * 512 + r.val = 512 * t.val + r.val
    rw [h0]; omega
  · show (cfg0.win 3).index t 1 * 128 + j.val = j.val
    rw [h1]; omega

theorem final : (dats m 0 c).arrAt (3 : Fin 4) cfg0.N = scores m c := by
  refine (dats m 0 c).arrAt_eq_of_covers (3 : Fin 4) (scores m c) (by decide +kernel) fun t _ y => ?_
  obtain ⟨r, j, hy⟩ : ∃ (r : Fin 512) (j : Fin 128), (y : S512x128.Idx) = ix2 r j := ⟨y 0, y 1, eq_ix2 (y : S512x128.Idx)⟩
  have e0 := congrFun (after0_3 m c t) (ix2 r j)
  have e1 := out_at (iblk m c 0 t) (iblk m c 1 t) (iblk m c 2 t) r j
  have e3 := congrArg (scores m c) (emb3 t r j)
  subst hy
  refine (e0.trans e1).trans (Eq.trans ?_ e3.symm)
  exact Finset.sum_congr (M := EReal) rfl fun k _ => congrArg₂ (fun a b : EReal => a * b) (hn_at m c t r k) (w_at m c t k j)

end Cert.Kernel7Ideal.Nm

end
-- ==== Proof.Mm.In.lean ====
module

public import proofs.«01_k».proof.Proof.Mm.Spec
public import proofs.«01_k».proof.Proof.Gen.Kernel3Ideal.Value
public import proofs.«01_k».proof.Proof.Gen.Reference3Ideal.Run
public import Idealize.ShloMosaic.Lib.Pipeline.ValueKit.Geometry

@[expose] public section

set_option maxRecDepth 16384

noncomputable section

/-! The input projection: the launch leaves the product with the weights' columns, those of the gates left out, in the
result's array. -/
namespace Cert.Kernel3Ideal.Mm

open Cert.Kernel3Ideal Cert.Kernel3Ideal.Gen Cert.Mm
open Idealize.ShloMosaic
open Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

abbrev aA : S16384x2048.Idx → EReal := m ((c : Thread nD τ).loc main_arg0)
abbrev aW : S2048x4120.Idx → EReal := m ((c : Thread nD τ).loc main_arg1)

/-- The weights' column that the result's column `j` is of: the 24 columns of the gates are passed over. -/
def col (j : Fin 4096) : Fin 4120 := ⟨if j.val < 3584 then j.val else j.val + 24, by split <;> omega⟩

/-- The result's array. -/
def out : S16384x4096.Idx → EReal := fun i => dot (aA m c) (aW m c) (i 0) (col (i 1))

/-- The array of the columns kept, as the region finds it. -/
theorem v2_at (k : Fin 2048) (j : Fin 4096) : (V m c main_v2 : S2048x4096.Idx → EReal) (ix2 k j) = aW m c (ix2 k (col j)) := by
  have e : (V m c main_v2 : S2048x4096.Idx → EReal) = concatenate S2048x4096 1 [⟨S2048x3584, extractStridedSlice S2048x3584 ![0, 0] (aW m c) slices_S2048x4120_S2048x3584_0_0⟩,
      ⟨S2048x512, extractStridedSlice S2048x512 ![0, 3608] (aW m c) slices_S2048x4120_S2048x512_0_3608⟩] concatenates_S2048x3584_S2048x512_S2048x4096_d1 := by
    unfold V
    after_results
  rw [e]
  pointwise []
  split
  · rename_i h
    exact congrArg (fun x => aW m c (ix2 k x)) (Fin.ext (if_pos h).symm)
  · rename_i h
    refine congrArg (fun x => aW m c (ix2 k x)) (Fin.ext ((?_ : 3608 + (j.val - 3584) = j.val + 24).trans (if_neg h).symm))
    omega

/-- One block of the result, from the blocks of the operands. -/
theorem out_at (A : S1024x2048.Idx → EReal) (W : S2048x512.Idx → EReal) (r : Fin 1024) (j : Fin 512) :
    (out0_2 (F := Ideal) A W : S1024x512.Idx → EReal) (ix2 r j) = dot A W r j := by
  unfold out0_2
  rw [View.canon_unit_zero (S := S1024x512) (by funext a; fin_cases a <;> rfl)]
  rw [View.ld_unit_zero (S := S1024x2048) (by funext a; fin_cases a <;> rfl), View.ld_unit_zero (S := S2048x512) (by funext a; fin_cases a <;> rfl)]
  pointwise [k0_pay1]
  rfl

theorem index : ∀ t : Fin cfg0.N, (cfg0.win 0).index t = ![t.val % 16, 0] ∧ (cfg0.win 1).index t = ![0, t.val / 16]
    ∧ (cfg0.win 2).index t = ![t.val % 16, t.val / 16] :=
  (by decide +kernel : ∀ t : Fin grid0.N, win0_0.index t = ![t.val % 16, 0] ∧ win0_1.index t = ![0, t.val / 16]
    ∧ win0_2.index t = ![t.val % 16, t.val / 16])

theorem a_at (t : Fin cfg0.N) (r : Fin 1024) (k : Fin 2048) (R : Fin 16384) (hR : R.val = 1024 * (t.val % 16) + r.val) :
    (iblk m c (0 : Fin 3) t : S1024x2048.Idx → EReal) (ix2 r k) = aA m c (ix2 R k) := by
  have h := (index t).1
  have h0 : (cfg0.win 0).index t 0 = t.val % 16 := congrFun h 0
  have h1 : (cfg0.win 0).index t 1 = 0 := congrFun h 1
  unfold iblk
  rw [View.read_apply]
  refine (congrArg (V m c main_arg0 : S16384x2048.Idx → EReal) ?_).trans (congrFun (V_main_arg0 m c) _)
  funext a
  apply Fin.ext
  refine (Window.rect_emb_val (cfg0.win 0) t (ix2 r k) a).trans ?_
  fin_cases a
  · show (cfg0.win 0).index t 0 * 1024 + r.val = R.val
    rw [h0]; omega
  · show (cfg0.win 0).index t 1 * 2048 + k.val = k.val
    rw [h1]; omega

theorem w_at (t : Fin cfg0.N) (k : Fin 2048) (j : Fin 512) (J : Fin 4096) (hJ : J.val = 512 * (t.val / 16) + j.val) :
    (iblk m c (1 : Fin 3) t : S2048x512.Idx → EReal) (ix2 k j) = aW m c (ix2 k (col J)) := by
  have h := (index t).2.1
  have h0 : (cfg0.win 1).index t 0 = 0 := congrFun h 0
  have h1 : (cfg0.win 1).index t 1 = t.val / 16 := congrFun h 1
  unfold iblk
  rw [View.read_apply]
  refine (congrArg (V m c main_v2 : S2048x4096.Idx → EReal) ?_).trans (v2_at m c k J)
  funext a
  apply Fin.ext
  refine (Window.rect_emb_val (cfg0.win 1) t (ix2 k j) a).trans ?_
  fin_cases a
  · show (cfg0.win 1).index t 0 * 2048 + k.val = k.val
    rw [h0]; omega
  · show (cfg0.win 1).index t 1 * 512 + j.val = J.val
    rw [h1]; omega

theorem emb2 (t : Fin cfg0.N) (r : Fin 1024) (j : Fin 512) (R : Fin 16384) (J : Fin 4096) (hR : R.val = 1024 * (t.val % 16) + r.val)
    (hJ : J.val = 512 * (t.val / 16) + j.val) : (((cfg0.win 2).blk t).view.emb (ix2 r j : S1024x512.Idx) : S16384x4096.Idx) = ix2 R J := by
  have h := (index t).2.2
  have h0 : (cfg0.win 2).index t 0 = t.val % 16 := congrFun h 0
  have h1 : (cfg0.win 2).index t 1 = t.val / 16 := congrFun h 1
  funext a
  apply Fin.ext
  refine (Window.rect_emb_val (cfg0.win 2) t (ix2 r j) a).trans ?_
  fin_cases a
  · show (cfg0.win 2).index t 0 * 1024 + r.val = R.val
    rw [h0]; omega
  · show (cfg0.win 2).index t 1 * 512 + j.val = J.val
    rw [h1]; omega

theorem final : (dats m 0 c).arrAt (2 : Fin 3) cfg0.N = out m c := by
  refine (dats m 0 c).arrAt_eq_of_covers (2 : Fin 3) (out m c) (by decide +kernel) fun t _ y => ?_
  have ht : t.val < 128 := t.isLt
  obtain ⟨r, j, hy⟩ : ∃ (r : Fin 1024) (j : Fin 512), (y : S1024x512.Idx) = ix2 r j := ⟨y 0, y 1, eq_ix2 (y : S1024x512.Idx)⟩
  have e0 := congrFun (after0_2 m c t) (ix2 r j)
  have e1 := out_at (iblk m c 0 t) (iblk m c 1 t) r j
  have e3 := congrArg (out m c) (emb2 t r j ⟨1024 * (t.val % 16) + r.val, by omega⟩ ⟨512 * (t.val / 16) + j.val, by omega⟩ rfl rfl)
  subst hy
  refine (e0.trans e1).trans (Eq.trans ?_ e3.symm)
  exact Finset.sum_congr (M := EReal) rfl fun k _ => congrArg₂ (fun a b : EReal => a * b) (a_at m c t r k _ rfl) (w_at m c t k j _ rfl)

end Cert.Kernel3Ideal.Mm

/-! The reference of the input projection, read at an element. -/
namespace Cert.Reference3Ideal.Mm

open Cert.Reference3Ideal Cert.Reference3Ideal.Gen Cert.Mm
open Idealize.ShloMosaic

theorem value_at (A : FVec Ideal S16384x2048 .bf16) (W : FVec Ideal S2048x4120 .f32) (r : Fin 16384) (j : Fin 4096) :
    (concatenate S16384x4096 1 [⟨S16384x3584, (extractStridedSlice S16384x3584 ![0, 0] (Host.dotGeneral (F := Ideal) (φ₁ := .f32) (φ₂ := .f32) dot_S16384x2048_S2048x4120_S16384x4120_1_0_0_1_n_n none (extf (F := Ideal) .f32 A bitsLt_bf16_f32) W) slices_S16384x4120_S16384x3584_0_0)⟩, ⟨S16384x512, (extractStridedSlice S16384x512 ![0, 3608] (Host.dotGeneral (F := Ideal) (φ₁ := .f32) (φ₂ := .f32) dot_S16384x2048_S2048x4120_S16384x4120_1_0_0_1_n_n none (extf (F := Ideal) .f32 A bitsLt_bf16_f32) W) slices_S16384x4120_S16384x512_0_3608)⟩] concatenates_S16384x3584_S16384x512_S16384x4096_d1 : S16384x4096.Idx → EReal) (ix2 r j)
      = dot A W r (Cert.Kernel3Ideal.Mm.col j) := by
  pointwise []
  split
  · rename_i h
    exact congrArg (fun x => dot A W r x) (Fin.ext (if_pos h).symm)
  · rename_i h
    refine congrArg (fun x => dot A W r x) (Fin.ext ((?_ : 3608 + (j.val - 3584) = j.val + 24).trans (if_neg h).symm))
    omega

end Cert.Reference3Ideal.Mm

end
-- ==== Proof.Mm.Out.lean ====
module

public import proofs.«01_k».proof.Proof.Mm.Spec
public import proofs.«01_k».proof.Proof.Gen.Kernel4Ideal.Value
public import proofs.«01_k».proof.Proof.Gen.Reference4Ideal.Run
public import Idealize.ShloMosaic.Lib.Pipeline.ValueKit.Geometry

@[expose] public section

set_option maxRecDepth 16384

noncomputable section

/-! The output projection: the launch leaves the residual plus the product in the result's array. -/
namespace Cert.Kernel4Ideal.Mm

open Cert.Kernel4Ideal Cert.Kernel4Ideal.Gen Cert.Mm
open Idealize.ShloMosaic
open Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

abbrev aA : S16384x2048.Idx → EReal := m ((c : Thread nD τ).loc main_arg0)
abbrev aW : S2048x2048.Idx → EReal := m ((c : Thread nD τ).loc main_arg1)
abbrev aR : S16384x2048.Idx → EReal := m ((c : Thread nD τ).loc main_arg2)

/-- The result's array. -/
def out : S16384x2048.Idx → EReal := fun i => aR m c i + dot (aA m c) (aW m c) (i 0) (i 1)

/-- One block of the result, from the blocks of the operands. -/
theorem out_at (A : S1024x2048.Idx → EReal) (W : S2048x512.Idx → EReal) (R : S1024x512.Idx → EReal) (r : Fin 1024) (j : Fin 512) :
    (out0_3 (F := Ideal) A W R : S1024x512.Idx → EReal) (ix2 r j) = R (ix2 r j) + dot A W r j := by
  unfold out0_3
  rw [View.canon_unit_zero (S := S1024x512) (by funext a; fin_cases a <;> rfl)]
  rw [View.ld_unit_zero (S := S1024x2048) (by funext a; fin_cases a <;> rfl), View.ld_unit_zero (S := S2048x512) (by funext a; fin_cases a <;> rfl),
    View.ld_unit_zero (S := S1024x512) (by funext a; fin_cases a <;> rfl)]
  pointwise [k0_pay1]
  rfl

theorem index : ∀ t : Fin cfg0.N, (cfg0.win 0).index t = ![t.val % 16, 0] ∧ (cfg0.win 1).index t = ![0, t.val / 16]
    ∧ (cfg0.win 2).index t = ![t.val % 16, t.val / 16] ∧ (cfg0.win 3).index t = ![t.val % 16, t.val / 16] :=
  (by decide +kernel : ∀ t : Fin grid0.N, win0_0.index t = ![t.val % 16, 0] ∧ win0_1.index t = ![0, t.val / 16]
    ∧ win0_2.index t = ![t.val % 16, t.val / 16] ∧ win0_3.index t = ![t.val % 16, t.val / 16])

theorem a_at (t : Fin cfg0.N) (r : Fin 1024) (k : Fin 2048) (R : Fin 16384) (hR : R.val = 1024 * (t.val % 16) + r.val) :
    (iblk m c (0 : Fin 4) t : S1024x2048.Idx → EReal) (ix2 r k) = aA m c (ix2 R k) := by
  have h := (index t).1
  have h0 : (cfg0.win 0).index t 0 = t.val % 16 := congrFun h 0
  have h1 : (cfg0.win 0).index t 1 = 0 := congrFun h 1
  unfold iblk
  rw [View.read_apply]
  refine congrArg (m ((c : Thread nD τ).loc main_arg0)) ?_
  funext a
  apply Fin.ext
  refine (Window.rect_emb_val (cfg0.win 0) t (ix2 r k) a).trans ?_
  fin_cases a
  · show (cfg0.win 0).index t 0 * 1024 + r.val = R.val
    rw [h0]; omega
  · show (cfg0.win 0).index t 1 * 2048 + k.val = k.val
    rw [h1]; omega

theorem w_at (t : Fin cfg0.N) (k : Fin 2048) (j : Fin 512) (J : Fin 2048) (hJ : J.val = 512 * (t.val / 16) + j.val) :
    (iblk m c (1 : Fin 4) t : S2048x512.Idx → EReal) (ix2 k j) = aW m c (ix2 k J) := by
  have h := (index t).2.1
  have h0 : (cfg0.win 1).index t 0 = 0 := congrFun h 0
  have h1 : (cfg0.win 1).index t 1 = t.val / 16 := congrFun h 1
  unfold iblk
  rw [View.read_apply]
  refine congrArg (m ((c : Thread nD τ).loc main_arg1)) ?_
  funext a
  apply Fin.ext
  refine (Window.rect_emb_val (cfg0.win 1) t (ix2 k j) a).trans ?_
  fin_cases a
  · show (cfg0.win 1).index t 0 * 2048 + k.val = k.val
    rw [h0]; omega
  · show (cfg0.win 1).index t 1 * 512 + j.val = J.val
    rw [h1]; omega

theorem r_at (t : Fin cfg0.N) (r : Fin 1024) (j : Fin 512) (R : Fin 16384) (J : Fin 2048) (hR : R.val = 1024 * (t.val % 16) + r.val)
    (hJ : J.val = 512 * (t.val / 16) + j.val) : (iblk m c (2 : Fin 4) t : S1024x512.Idx → EReal) (ix2 r j) = aR m c (ix2 R J) := by
  have h := (index t).2.2.1
  have h0 : (cfg0.win 2).index t 0 = t.val % 16 := congrFun h 0
  have h1 : (cfg0.win 2).index t 1 = t.val / 16 := congrFun h 1
  unfold iblk
  rw [View.read_apply]
  refine congrArg (m ((c : Thread nD τ).loc main_arg2)) ?_
  funext a
  apply Fin.ext
  refine (Window.rect_emb_val (cfg0.win 2) t (ix2 r j) a).trans ?_
  fin_cases a
  · show (cfg0.win 2).index t 0 * 1024 + r.val = R.val
    rw [h0]; omega
  · show (cfg0.win 2).index t 1 * 512 + j.val = J.val
    rw [h1]; omega

theorem emb3 (t : Fin cfg0.N) (r : Fin 1024) (j : Fin 512) (R : Fin 16384) (J : Fin 2048) (hR : R.val = 1024 * (t.val % 16) + r.val)
    (hJ : J.val = 512 * (t.val / 16) + j.val) : (((cfg0.win 3).blk t).view.emb (ix2 r j : S1024x512.Idx) : S16384x2048.Idx) = ix2 R J := by
  have h := (index t).2.2.2
  have h0 : (cfg0.win 3).index t 0 = t.val % 16 := congrFun h 0
  have h1 : (cfg0.win 3).index t 1 = t.val / 16 := congrFun h 1
  funext a
  apply Fin.ext
  refine (Window.rect_emb_val (cfg0.win 3) t (ix2 r j) a).trans ?_
  fin_cases a
  · show (cfg0.win 3).index t 0 * 1024 + r.val = R.val
    rw [h0]; omega
  · show (cfg0.win 3).index t 1 * 512 + j.val = J.val
    rw [h1]; omega

theorem final : (dats m 0 c).arrAt (3 : Fin 4) cfg0.N = out m c := by
  refine (dats m 0 c).arrAt_eq_of_covers (3 : Fin 4) (out m c) (by decide +kernel) fun t _ y => ?_
  have ht : t.val < 64 := t.isLt
  obtain ⟨r, j, hy⟩ : ∃ (r : Fin 1024) (j : Fin 512), (y : S1024x512.Idx) = ix2 r j := ⟨y 0, y 1, eq_ix2 (y : S1024x512.Idx)⟩
  have e0 := congrFun (after0_3 m c t) (ix2 r j)
  have e1 := out_at (iblk m c 0 t) (iblk m c 1 t) (iblk m c 2 t) r j
  have e3 := congrArg (out m c) (emb3 t r j ⟨1024 * (t.val % 16) + r.val, by omega⟩ ⟨512 * (t.val / 16) + j.val, by omega⟩ rfl rfl)
  subst hy
  refine (e0.trans e1).trans (Eq.trans ?_ e3.symm)
  exact congrArg₂ (· + ·) (r_at m c t r j _ _ rfl rfl)
    (Finset.sum_congr rfl fun k _ => congrArg₂ (· * ·) (a_at m c t r k _ rfl) (w_at m c t k j _ rfl))

end Cert.Kernel4Ideal.Mm

/-! The reference of the output projection, read at an element. -/
namespace Cert.Reference4Ideal.Mm

open Cert.Reference4Ideal Cert.Reference4Ideal.Gen Cert.Mm
open Idealize.ShloMosaic

theorem value_at (A : FVec Ideal S16384x2048 .bf16) (W : FVec Ideal S2048x2048 .f32) (R : FVec Ideal S16384x2048 .f32) (r : Fin 16384) (j : Fin 2048) :
    (addf R (Host.dotGeneral (F := Ideal) (φ₁ := .f32) (φ₂ := .f32) dot_S16384x2048_S2048x2048_S16384x2048_1_0_0_1_n_n none
      (extf (F := Ideal) .f32 A bitsLt_bf16_f32) W) : S16384x2048.Idx → EReal) (ix2 r j) = R (ix2 r j) + dot A W r j := by
  pointwise []
  rfl

end Cert.Reference4Ideal.Mm

end
-- ==== Proof.lean ====
/- The certificate: each claim of Defs from the module that proves it. -/
module

public import proofs.«01_k».proof.Defs
public import proofs.«01_k».proof.Proof.Win.FrameK
public import proofs.«01_k».proof.Proof.Win.FrameI
public import proofs.«01_k».proof.Proof.Gen.ReferenceIdeal.Run
public import proofs.«01_k».proof.Proof.Sw.FrameK
public import proofs.«01_k».proof.Proof.Sw.FrameI
public import proofs.«01_k».proof.Proof.Sw.KerRun
public import proofs.«01_k».proof.Proof.Sw.RefVal
public import proofs.«01_k».proof.Proof.Gen.Reference2Ideal.Run
public import proofs.«01_k».proof.Proof.Gen.Pre_in_range
public import proofs.«01_k».proof.Proof.Gen.Kernel3.Frame
public import proofs.«01_k».proof.Proof.Gen.Kernel4.Frame
public import proofs.«01_k».proof.Proof.Gen.Reference5Ideal.Run
public import proofs.«01_k».proof.Proof.Dn.FrameK
public import proofs.«01_k».proof.Proof.Dn.FrameI
public import proofs.«01_k».proof.Proof.Dn.KerRun
public import proofs.«01_k».proof.Proof.Dn.RefVal
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Nm.Router
public import proofs.«01_k».proof.Proof.Mm.In
public import proofs.«01_k».proof.Proof.Mm.Out
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernel2 : Cert.quiescent_Kernel2 := fun m ρ h =>
  Cert.Kernel2.Sw.frame m (Cert.Kernel2.Sw.ok_of m (Cert.Kernel2.Sw.lt8_of_pre m h)) ρ
theorem frame_kernel2Ideal : Cert.quiescent_Kernel2Ideal := fun m ρ h =>
  Cert.Kernel2Ideal.Sw.frame m (Cert.Kernel2Ideal.Sw.ok_of m (Cert.Kernel2Ideal.Sw.lt8_of_pre m h)) ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference2_pre : Cert.quiescent_Reference2Ideal_pre_in_range := fun m ρ _ => frame_reference2 m ρ trivial

/-- The reference's result, from the arguments' contents, is the specification. -/
theorem reference2_out (m : (ℓ : Loc Cert.Kernel2Ideal.nD Cert.Kernel2Ideal.τ Cert.Kernel2Ideal.sig) → Buf (Elt Ideal) ℓ)
    (hte : ∀ i, (Cert.Kernel2Ideal.Sw.T0 m i).toNat < 8) (c : Dev Cert.Kernel2Ideal.nD)
    (V0 : Valuation Cert.Reference2Ideal.τ Cert.Reference2Ideal.sig (Elt Ideal))
    (h0 : V0 Cert.Reference2Ideal.main_arg0 = Cert.Kernel2Ideal.Sw.aX m c) (h1 : V0 Cert.Reference2Ideal.main_arg1 = Cert.Kernel2Ideal.Sw.aG m c)
    (h2 : V0 Cert.Reference2Ideal.main_arg2 = Cert.Kernel2Ideal.Sw.aWG m c) (h3 : V0 Cert.Reference2Ideal.main_arg3 = Cert.Kernel2Ideal.Sw.aWU m c)
    (h4 : V0 Cert.Reference2Ideal.main_arg4 = Cert.Kernel2Ideal.Sw.aWD m c) (h5 : V0 Cert.Reference2Ideal.main_arg5 = Cert.Kernel2Ideal.Sw.T0 m)
    (h6 : V0 Cert.Reference2Ideal.main_arg6 = Cert.Kernel2Ideal.Sw.T1 m) :
    Cert.Reference2Ideal.Value.val3 V0 (Proc.devRef .tc Cert.Reference2Ideal.main_v146) = Cert.Kernel2Ideal.Sw.out m c hte := by
  have hv : ∀ i : Cert.Reference2Ideal.S40.Idx, ((V0 Cert.Reference2Ideal.main_arg5 : Cert.Reference2Ideal.S40.Idx → BitVec 32) i).toNat < 8 := by
    rw [h5]; exact hte
  funext i
  obtain ⟨r, d, hi⟩ : ∃ (r : Fin 40960) (d : Fin 2048), (i : Cert.Reference2Ideal.S40960x2048.Idx) = ix2 r d :=
    ⟨i 0, i 1, eq_ix2 (i : Cert.Reference2Ideal.S40960x2048.Idx)⟩
  subst hi
  refine (Cert.Reference2Ideal.Sw.value_at V0 r hv d).trans ?_
  show _ = Cert.Kernel2Ideal.Sw.sp m c hte r d
  revert hv
  rw [h0, h1, h2, h3, h4, h5, h6]
  intro hv
  rfl

theorem value2 : Cert.algebraic_Kernel2Ideal_Reference2Ideal := by
  intro m ρ m' ρ' hpre hin
  have hte := Cert.Kernel2Ideal.Sw.lt8_of_pre m hpre
  refine ⟨fun c => Cert.Kernel2Ideal.Sw.out m c hte, Cert.Kernel2Ideal.Sw.value_run m ρ hte, ?_⟩
  refine (θ_run Cert.Reference2Ideal.defs _ _).mono (fun _ h c => ⟨(h c).1.trans ?_, (h c).2⟩) (Cert.Reference2Ideal.Value.run (F := Ideal) m' ρ')
  have hc : c = Cert.Kernel2Ideal.Sw.d0 := Subsingleton.elim _ _
  subst hc
  obtain ⟨h0, h1, h2, h3, h4, h5, h6⟩ := hin Cert.Kernel2Ideal.Sw.d0
  exact (Cert.Reference2Ideal.Value.val3_main_v146 (launchContents m' _)).symm.trans (reference2_out m hte _ (launchContents m' _) h0 h1 h2 h3 h4 h5 h6)

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value3 : Cert.algebraic_Kernel3Ideal_Reference3Ideal := by
  intro m ρ m' ρ' _ hin
  refine ⟨fun c => Cert.Kernel3Ideal.Mm.out m c,
    (θ_run Cert.Kernel3Ideal.defs _ _).mono (fun _ h c => ⟨(h c).1.trans (Cert.Kernel3Ideal.Mm.final m c), (h c).2⟩)
      (Cert.Kernel3Ideal.Value.run_blocks (F := Ideal) m ρ), ?_⟩
  refine (θ_run Cert.Reference3Ideal.defs _ _).mono (fun _ h c => ⟨(h c).1.trans ?_, (h c).2⟩) (Cert.Reference3Ideal.Value.run (F := Ideal) m' ρ')
  obtain ⟨h0, h1⟩ := hin c
  rw [h0, h1]
  funext i
  obtain ⟨r, j, hi⟩ : ∃ (r : Fin 16384) (j : Fin 4096), (i : Cert.Reference3Ideal.S16384x4096.Idx) = ix2 r j :=
    ⟨i 0, i 1, eq_ix2 (i : Cert.Reference3Ideal.S16384x4096.Idx)⟩
  subst hi
  exact Cert.Reference3Ideal.Mm.value_at _ _ r j

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem value4 : Cert.algebraic_Kernel4Ideal_Reference4Ideal := by
  intro m ρ m' ρ' _ hin
  refine ⟨fun c => Cert.Kernel4Ideal.Mm.out m c,
    (θ_run Cert.Kernel4Ideal.defs _ _).mono (fun _ h c => ⟨(h c).1.trans (Cert.Kernel4Ideal.Mm.final m c), (h c).2⟩)
      (Cert.Kernel4Ideal.Value.run_blocks (F := Ideal) m ρ), ?_⟩
  refine (θ_run Cert.Reference4Ideal.defs _ _).mono (fun _ h c => ⟨(h c).1.trans ?_, (h c).2⟩) (Cert.Reference4Ideal.Value.run (F := Ideal) m' ρ')
  obtain ⟨h0, h1, h2⟩ := hin c
  rw [h0, h1, h2]
  funext i
  obtain ⟨r, j, hi⟩ : ∃ (r : Fin 16384) (j : Fin 2048), (i : Cert.Reference4Ideal.S16384x2048.Idx) = ix2 r j :=
    ⟨i 0, i 1, eq_ix2 (i : Cert.Reference4Ideal.S16384x2048.Idx)⟩
  subst hi
  exact Cert.Reference4Ideal.Mm.value_at _ _ _ r j

theorem frame_kernel5 : Cert.quiescent_Kernel5 := fun m ρ _ => Cert.Kernel5.Dn.frame m ρ
theorem frame_kernel5Ideal : Cert.quiescent_Kernel5Ideal := fun m ρ _ => Cert.Kernel5Ideal.Dn.frame m ρ
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem value5 : Cert.algebraic_Kernel5Ideal_Reference5Ideal := by
  intro m ρ m' ρ' _ hin
  refine ⟨fun c => Cert.Kernel5Ideal.Dn.out m c, Cert.Kernel5Ideal.Dn.value_run m ρ, ?_⟩
  refine (θ_run Cert.Reference5Ideal.defs _ _).mono (fun _ h c => ⟨(h c).1.trans ?_, (h c).2⟩) (Cert.Reference5Ideal.Value.run (F := Ideal) m' ρ')
  obtain ⟨h0, h1, h2, h3, h4⟩ := hin c
  rw [h0, h1, h2, h3, h4]
  funext i
  obtain ⟨r, d, hi⟩ : ∃ (r : Fin 16384) (d : Fin 2048), (i : Cert.Reference5Ideal.S16384x2048.Idx) = ix2 r d :=
    ⟨i 0, i 1, eq_ix2 (i : Cert.Reference5Ideal.S16384x2048.Idx)⟩
  subst hi
  exact Cert.Reference5Ideal.Dn.value_at _ _ _ _ _ r d

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem value6 : Cert.algebraic_Kernel6Ideal_Reference6Ideal := by
  intro m ρ m' ρ' _ hin
  refine ⟨fun c => Cert.Kernel6Ideal.Nm.sum m c, fun c => Cert.Kernel6Ideal.Nm.normed m c, fun c => Cert.Kernel6Ideal.Nm.side m c,
    (θ_run Cert.Kernel6Ideal.defs _ _).mono (fun _ h c => ⟨(h c).1.trans (Cert.Kernel6Ideal.Nm.final4 m c), (h c).2.1.trans (Cert.Kernel6Ideal.Nm.final5 m c),
      (h c).2.2.1.trans (Cert.Kernel6Ideal.Nm.final6 m c), (h c).2.2.2⟩) (Cert.Kernel6Ideal.Value.run_blocks (F := Ideal) m ρ), ?_⟩
  refine (θ_run Cert.Reference6Ideal.defs _ _).mono (fun _ h c => ⟨(h c).1.trans ?_, (h c).2.1.trans ?_, (h c).2.2.1.trans ?_, (h c).2.2.2⟩)
    (Cert.Reference6Ideal.Value.run (F := Ideal) m' ρ')
  all_goals obtain ⟨h0, h1, h2, h3⟩ := hin c
  · rw [h0, h1]
    rfl
  · rw [h0, h1, h2]
    exact Cert.Reference6Ideal.Nm.nrm_eq (Cert.Kernel6Ideal.Nm.sum m c) (Cert.Kernel6Ideal.Nm.aG m c)
  · rw [h0, h1, h2, h3]
    funext i
    obtain ⟨r, j, hi⟩ : ∃ (r : Fin 16384) (j : Fin 128), (i : Cert.Reference6Ideal.S16384x128.Idx) = ix2 r j :=
      ⟨i 0, i 1, eq_ix2 (i : Cert.Reference6Ideal.S16384x128.Idx)⟩
    subst hi
    exact Cert.Reference6Ideal.Nm.value_at (Cert.Kernel6Ideal.Nm.sum m c) (Cert.Kernel6Ideal.Nm.aG m c) (Cert.Kernel6Ideal.Nm.aW m c) r j

theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem value7 : Cert.algebraic_Kernel7Ideal_Reference7Ideal := by
  intro m ρ m' ρ' _ hin
  refine ⟨fun c => Cert.Kernel7Ideal.Nm.scores m c,
    (θ_run Cert.Kernel7Ideal.defs _ _).mono (fun _ h c => ⟨(h c).1.trans (Cert.Kernel7Ideal.Nm.final m c), (h c).2⟩)
      (Cert.Kernel7Ideal.Value.run_blocks (F := Ideal) m ρ), ?_⟩
  refine (θ_run Cert.Reference7Ideal.defs _ _).mono (fun _ h c => ⟨(h c).1.trans ?_, (h c).2⟩) (Cert.Reference7Ideal.Value.run (F := Ideal) m' ρ')
  obtain ⟨h0, h1, h2⟩ := hin c
  rw [h0, h1, h2]
  funext i
  obtain ⟨r, j, hi⟩ : ∃ (r : Fin 16384) (j : Fin 128), (i : Cert.Reference7Ideal.S16384x128.Idx) = ix2 r j :=
    ⟨i 0, i 1, eq_ix2 (i : Cert.Reference7Ideal.S16384x128.Idx)⟩
  subst hi
  exact Cert.Reference6Ideal.Nm.value_at (Cert.Kernel7Ideal.Nm.aX m c) (Cert.Kernel7Ideal.Nm.aG m c) (Cert.Kernel7Ideal.Nm.aW m c) r j

theorem mask : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_in_range.Gen.facts, frame_kernel, frame_kernelIdeal, frame_reference,
    frame_kernel2, frame_kernel2Ideal, frame_reference2, frame_reference2_pre, frame_kernel3, frame_kernel3Ideal, frame_reference3, frame_kernel4,
    frame_kernel4Ideal, frame_reference4, frame_kernel5, frame_kernel5Ideal, frame_reference5,
    frame_kernel6, frame_kernel6Ideal, frame_reference6, frame_kernel7, frame_kernel7Ideal, frame_reference7, mask, trivial, value2, trivial, value3, trivial, value4,
    trivial, value5, trivial, value6, trivial, value7⟩

end Cert.Proof
